-- ==== Defs.lean ====
def Pre_RowsIn (m : (ℓ : Loc Cert.RowsIn.nD Cert.RowsIn.τ Cert.RowsIn.sig) → Buf (Elt Bits) ℓ) : Prop :=
  True

def Pre_RowsInIdeal (m : (ℓ : Loc Cert.RowsInIdeal.nD Cert.RowsInIdeal.τ Cert.RowsInIdeal.sig) → Buf (Elt Ideal) ℓ) : Prop :=
  True

def Pre_RowsInIdeal_lengths_nonneg [hPre_lengths_nonneg : Cert.Pre_lengths_nonneg.Facts] (m : (ℓ : Loc Cert.RowsInIdeal.nD Cert.RowsInIdeal.τ Cert.RowsInIdeal.sig) → Buf (Elt Ideal) ℓ) : Prop :=
  ∀ c : Dev Cert.RowsInIdeal.nD,
    (Cert.Pre_lengths_nonneg.fn (F := Ideal) (m ((c.tc : Thread Cert.RowsInIdeal.nD Cert.RowsInIdeal.τ).loc Cert.RowsInIdeal.main_arg0)) (m ((c.tc : Thread Cert.RowsInIdeal.nD Cert.RowsInIdeal.τ).loc Cert.RowsInIdeal.main_arg1)) (m ((c.tc : Thread Cert.RowsInIdeal.nD Cert.RowsInIdeal.τ).loc Cert.RowsInIdeal.main_arg2)) (m ((c.tc : Thread Cert.RowsInIdeal.nD Cert.RowsInIdeal.τ).loc Cert.RowsInIdeal.main_arg3)) (m ((c.tc : Thread Cert.RowsInIdeal.nD Cert.RowsInIdeal.τ).loc Cert.RowsInIdeal.main_arg4)) (m ((c.tc : Thread Cert.RowsInIdeal.nD Cert.RowsInIdeal.τ).loc Cert.RowsInIdeal.main_arg5)) (m ((c.tc : Thread Cert.RowsInIdeal.nD Cert.RowsInIdeal.τ).loc Cert.RowsInIdeal.main_arg6)) (m ((c.tc : Thread Cert.RowsInIdeal.nD Cert.RowsInIdeal.τ).loc Cert.RowsInIdeal.main_arg7)) (m ((c.tc : Thread Cert.RowsInIdeal.nD Cert.RowsInIdeal.τ).loc Cert.RowsInIdeal.main_arg8)) (m ((c.tc : Thread Cert.RowsInIdeal.nD Cert.RowsInIdeal.τ).loc Cert.RowsInIdeal.main_arg9)) (m ((c.tc : Thread Cert.RowsInIdeal.nD Cert.RowsInIdeal.τ).loc Cert.RowsInIdeal.main_arg10)) (m ((c.tc : Thread Cert.RowsInIdeal.nD Cert.RowsInIdeal.τ).loc Cert.RowsInIdeal.main_arg11))) = (fun _ => 1#1)

def Pre_RefInIdeal (m : (ℓ : Loc Cert.RefInIdeal.nD Cert.RefInIdeal.τ Cert.RefInIdeal.sig) → Buf (Elt Ideal) ℓ) : Prop :=
  True

def Pre_RefInIdeal_lengths_nonneg [hPre_lengths_nonneg : Cert.Pre_lengths_nonneg.Facts] (m : (ℓ : Loc Cert.RefInIdeal.nD Cert.RefInIdeal.τ Cert.RefInIdeal.sig) → Buf (Elt Ideal) ℓ) : Prop :=
  ∀ c : Dev Cert.RefInIdeal.nD,
    (Cert.Pre_lengths_nonneg.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7)) (m ((c.tc : Thread Cert.RefInIdeal.nD Cert.RefInIdeal.τ).loc Cert.RefInIdeal.main_arg8)) (m ((c.tc : Thread Cert.RefInIdeal.nD Cert.RefInIdeal.τ).loc Cert.RefInIdeal.main_arg9)) (m ((c.tc : Thread Cert.RefInIdeal.nD Cert.RefInIdeal.τ).loc Cert.RefInIdeal.main_arg10)) (m ((c.tc : Thread Cert.RefInIdeal.nD Cert.RefInIdeal.τ).loc Cert.RefInIdeal.main_arg11))) = (fun _ => 1#1)

def Pre_RowsOut (m : (ℓ : Loc Cert.RowsOut.nD Cert.RowsOut.τ Cert.RowsOut.sig) → Buf (Elt Bits) ℓ) : Prop :=
  True

def Pre_RowsOutIdeal (m : (ℓ : Loc Cert.RowsOutIdeal.nD Cert.RowsOutIdeal.τ Cert.RowsOutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def quiescent_RowsIn [hRowsIn : Cert.RowsIn.Facts] : Prop :=
  ∀ (m : (ℓ : Loc Cert.RowsIn.nD Cert.RowsIn.τ Cert.RowsIn.sig) → Buf (Elt Bits) ℓ) (g : Dev Cert.RowsIn.nD → PrngReg), Pre_RowsIn m →
    θ_run (Cert.RowsIn.defs (F := Bits)) (onTc (τ := Cert.RowsIn.τ) (Cert.RowsIn.main (F := Bits))) ⟨m, fun _ => 0, g⟩ (fun r => (∀ c : Dev Cert.RowsIn.nD,
      r.2.mem ((c.tc : Thread Cert.RowsIn.nD Cert.RowsIn.τ).loc Cert.RowsIn.main_arg0) = m ((c.tc : Thread Cert.RowsIn.nD Cert.RowsIn.τ).loc Cert.RowsIn.main_arg0)
      ∧ r.2.mem ((c.tc : Thread Cert.RowsIn.nD Cert.RowsIn.τ).loc Cert.RowsIn.main_arg1) = m ((c.tc : Thread Cert.RowsIn.nD Cert.RowsIn.τ).loc Cert.RowsIn.main_arg1)
      ∧ r.2.mem ((c.tc : Thread Cert.RowsIn.nD Cert.RowsIn.τ).loc Cert.RowsIn.main_arg2) = m ((c.tc : Thread Cert.RowsIn.nD Cert.RowsIn.τ).loc Cert.RowsIn.main_arg2)
      ∧ r.2.mem ((c.tc : Thread Cert.RowsIn.nD Cert.RowsIn.τ).loc Cert.RowsIn.main_arg3) = m ((c.tc : Thread Cert.RowsIn.nD Cert.RowsIn.τ).loc Cert.RowsIn.main_arg3)
      ∧ r.2.mem ((c.tc : Thread Cert.RowsIn.nD Cert.RowsIn.τ).loc Cert.RowsIn.main_arg4) = m ((c.tc : Thread Cert.RowsIn.nD Cert.RowsIn.τ).loc Cert.RowsIn.main_arg4)
      ∧ r.2.mem ((c.tc : Thread Cert.RowsIn.nD Cert.RowsIn.τ).loc Cert.RowsIn.main_arg5) = m ((c.tc : Thread Cert.RowsIn.nD Cert.RowsIn.τ).loc Cert.RowsIn.main_arg5)
      ∧ r.2.mem ((c.tc : Thread Cert.RowsIn.nD Cert.RowsIn.τ).loc Cert.RowsIn.main_arg6) = m ((c.tc : Thread Cert.RowsIn.nD Cert.RowsIn.τ).loc Cert.RowsIn.main_arg6)
      ∧ r.2.mem ((c.tc : Thread Cert.RowsIn.nD Cert.RowsIn.τ).loc Cert.RowsIn.main_arg7) = m ((c.tc : Thread Cert.RowsIn.nD Cert.RowsIn.τ).loc Cert.RowsIn.main_arg7)
      ∧ r.2.mem ((c.tc : Thread Cert.RowsIn.nD Cert.RowsIn.τ).loc Cert.RowsIn.main_arg8) = m ((c.tc : Thread Cert.RowsIn.nD Cert.RowsIn.τ).loc Cert.RowsIn.main_arg8)
      ∧ r.2.mem ((c.tc : Thread Cert.RowsIn.nD Cert.RowsIn.τ).loc Cert.RowsIn.main_arg9) = m ((c.tc : Thread Cert.RowsIn.nD Cert.RowsIn.τ).loc Cert.RowsIn.main_arg9)
      ∧ r.2.mem ((c.tc : Thread Cert.RowsIn.nD Cert.RowsIn.τ).loc Cert.RowsIn.main_arg10) = m ((c.tc : Thread Cert.RowsIn.nD Cert.RowsIn.τ).loc Cert.RowsIn.main_arg10)
      ∧ r.2.mem ((c.tc : Thread Cert.RowsIn.nD Cert.RowsIn.τ).loc Cert.RowsIn.main_arg11) = m ((c.tc : Thread Cert.RowsIn.nD Cert.RowsIn.τ).loc Cert.RowsIn.main_arg11))
      ∧ r.2.sem = fun _ => 0)

def quiescent_RowsInIdeal [hRowsInIdeal : Cert.RowsInIdeal.Facts] : Prop :=
  ∀ (m : (ℓ : Loc Cert.RowsInIdeal.nD Cert.RowsInIdeal.τ Cert.RowsInIdeal.sig) → Buf (Elt Ideal) ℓ) (g : Dev Cert.RowsInIdeal.nD → PrngReg), Pre_RowsInIdeal m →
    θ_run (Cert.RowsInIdeal.defs (F := Ideal)) (onTc (τ := Cert.RowsInIdeal.τ) (Cert.RowsInIdeal.main (F := Ideal))) ⟨m, fun _ => 0, g⟩ (fun r => (∀ c : Dev Cert.RowsInIdeal.nD,
      r.2.mem ((c.tc : Thread Cert.RowsInIdeal.nD Cert.RowsInIdeal.τ).loc Cert.RowsInIdeal.main_arg0) = m ((c.tc : Thread Cert.RowsInIdeal.nD Cert.RowsInIdeal.τ).loc Cert.RowsInIdeal.main_arg0)
      ∧ r.2.mem ((c.tc : Thread Cert.RowsInIdeal.nD Cert.RowsInIdeal.τ).loc Cert.RowsInIdeal.main_arg1) = m ((c.tc : Thread Cert.RowsInIdeal.nD Cert.RowsInIdeal.τ).loc Cert.RowsInIdeal.main_arg1)
      ∧ r.2.mem ((c.tc : Thread Cert.RowsInIdeal.nD Cert.RowsInIdeal.τ).loc Cert.RowsInIdeal.main_arg2) = m ((c.tc : Thread Cert.RowsInIdeal.nD Cert.RowsInIdeal.τ).loc Cert.RowsInIdeal.main_arg2)
      ∧ r.2.mem ((c.tc : Thread Cert.RowsInIdeal.nD Cert.RowsInIdeal.τ).loc Cert.RowsInIdeal.main_arg3) = m ((c.tc : Thread Cert.RowsInIdeal.nD Cert.RowsInIdeal.τ).loc Cert.RowsInIdeal.main_arg3)
      ∧ r.2.mem ((c.tc : Thread Cert.RowsInIdeal.nD Cert.RowsInIdeal.τ).loc Cert.RowsInIdeal.main_arg4) = m ((c.tc : Thread Cert.RowsInIdeal.nD Cert.RowsInIdeal.τ).loc Cert.RowsInIdeal.main_arg4)
      ∧ r.2.mem ((c.tc : Thread Cert.RowsInIdeal.nD Cert.RowsInIdeal.τ).loc Cert.RowsInIdeal.main_arg5) = m ((c.tc : Thread Cert.RowsInIdeal.nD Cert.RowsInIdeal.τ).loc Cert.RowsInIdeal.main_arg5)
      ∧ r.2.mem ((c.tc : Thread Cert.RowsInIdeal.nD Cert.RowsInIdeal.τ).loc Cert.RowsInIdeal.main_arg6) = m ((c.tc : Thread Cert.RowsInIdeal.nD Cert.RowsInIdeal.τ).loc Cert.RowsInIdeal.main_arg6)
      ∧ r.2.mem ((c.tc : Thread Cert.RowsInIdeal.nD Cert.RowsInIdeal.τ).loc Cert.RowsInIdeal.main_arg7) = m ((c.tc : Thread Cert.RowsInIdeal.nD Cert.RowsInIdeal.τ).loc Cert.RowsInIdeal.main_arg7)
      ∧ r.2.mem ((c.tc : Thread Cert.RowsInIdeal.nD Cert.RowsInIdeal.τ).loc Cert.RowsInIdeal.main_arg8) = m ((c.tc : Thread Cert.RowsInIdeal.nD Cert.RowsInIdeal.τ).loc Cert.RowsInIdeal.main_arg8)
      ∧ r.2.mem ((c.tc : Thread Cert.RowsInIdeal.nD Cert.RowsInIdeal.τ).loc Cert.RowsInIdeal.main_arg9) = m ((c.tc : Thread Cert.RowsInIdeal.nD Cert.RowsInIdeal.τ).loc Cert.RowsInIdeal.main_arg9)
      ∧ r.2.mem ((c.tc : Thread Cert.RowsInIdeal.nD Cert.RowsInIdeal.τ).loc Cert.RowsInIdeal.main_arg10) = m ((c.tc : Thread Cert.RowsInIdeal.nD Cert.RowsInIdeal.τ).loc Cert.RowsInIdeal.main_arg10)
      ∧ r.2.mem ((c.tc : Thread Cert.RowsInIdeal.nD Cert.RowsInIdeal.τ).loc Cert.RowsInIdeal.main_arg11) = m ((c.tc : Thread Cert.RowsInIdeal.nD Cert.RowsInIdeal.τ).loc Cert.RowsInIdeal.main_arg11))
      ∧ r.2.sem = fun _ => 0)

def quiescent_RowsInIdeal_pre_lengths_nonneg [hRowsInIdeal : Cert.RowsInIdeal.Facts] [hPre_lengths_nonneg : Cert.Pre_lengths_nonneg.Facts] : Prop :=
  ∀ (m : (ℓ : Loc Cert.RowsInIdeal.nD Cert.RowsInIdeal.τ Cert.RowsInIdeal.sig) → Buf (Elt Ideal) ℓ) (g : Dev Cert.RowsInIdeal.nD → PrngReg), Pre_RowsInIdeal_lengths_nonneg m →
    θ_run (Cert.RowsInIdeal.defs (F := Ideal)) (onTc (τ := Cert.RowsInIdeal.τ) (Cert.RowsInIdeal.main (F := Ideal))) ⟨m, fun _ => 0, g⟩ (fun r => (∀ c : Dev Cert.RowsInIdeal.nD,
      r.2.mem ((c.tc : Thread Cert.RowsInIdeal.nD Cert.RowsInIdeal.τ).loc Cert.RowsInIdeal.main_arg0) = m ((c.tc : Thread Cert.RowsInIdeal.nD Cert.RowsInIdeal.τ).loc Cert.RowsInIdeal.main_arg0)
      ∧ r.2.mem ((c.tc : Thread Cert.RowsInIdeal.nD Cert.RowsInIdeal.τ).loc Cert.RowsInIdeal.main_arg1) = m ((c.tc : Thread Cert.RowsInIdeal.nD Cert.RowsInIdeal.τ).loc Cert.RowsInIdeal.main_arg1)
      ∧ r.2.mem ((c.tc : Thread Cert.RowsInIdeal.nD Cert.RowsInIdeal.τ).loc Cert.RowsInIdeal.main_arg2) = m ((c.tc : Thread Cert.RowsInIdeal.nD Cert.RowsInIdeal.τ).loc Cert.RowsInIdeal.main_arg2)
      ∧ r.2.mem ((c.tc : Thread Cert.RowsInIdeal.nD Cert.RowsInIdeal.τ).loc Cert.RowsInIdeal.main_arg3) = m ((c.tc : Thread Cert.RowsInIdeal.nD Cert.RowsInIdeal.τ).loc Cert.RowsInIdeal.main_arg3)
      ∧ r.2.mem ((c.tc : Thread Cert.RowsInIdeal.nD Cert.RowsInIdeal.τ).loc Cert.RowsInIdeal.main_arg4) = m ((c.tc : Thread Cert.RowsInIdeal.nD Cert.RowsInIdeal.τ).loc Cert.RowsInIdeal.main_arg4)
      ∧ r.2.mem ((c.tc : Thread Cert.RowsInIdeal.nD Cert.RowsInIdeal.τ).loc Cert.RowsInIdeal.main_arg5) = m ((c.tc : Thread Cert.RowsInIdeal.nD Cert.RowsInIdeal.τ).loc Cert.RowsInIdeal.main_arg5)
      ∧ r.2.mem ((c.tc : Thread Cert.RowsInIdeal.nD Cert.RowsInIdeal.τ).loc Cert.RowsInIdeal.main_arg6) = m ((c.tc : Thread Cert.RowsInIdeal.nD Cert.RowsInIdeal.τ).loc Cert.RowsInIdeal.main_arg6)
      ∧ r.2.mem ((c.tc : Thread Cert.RowsInIdeal.nD Cert.RowsInIdeal.τ).loc Cert.RowsInIdeal.main_arg7) = m ((c.tc : Thread Cert.RowsInIdeal.nD Cert.RowsInIdeal.τ).loc Cert.RowsInIdeal.main_arg7)
      ∧ r.2.mem ((c.tc : Thread Cert.RowsInIdeal.nD Cert.RowsInIdeal.τ).loc Cert.RowsInIdeal.main_arg8) = m ((c.tc : Thread Cert.RowsInIdeal.nD Cert.RowsInIdeal.τ).loc Cert.RowsInIdeal.main_arg8)
      ∧ r.2.mem ((c.tc : Thread Cert.RowsInIdeal.nD Cert.RowsInIdeal.τ).loc Cert.RowsInIdeal.main_arg9) = m ((c.tc : Thread Cert.RowsInIdeal.nD Cert.RowsInIdeal.τ).loc Cert.RowsInIdeal.main_arg9)
      ∧ r.2.mem ((c.tc : Thread Cert.RowsInIdeal.nD Cert.RowsInIdeal.τ).loc Cert.RowsInIdeal.main_arg10) = m ((c.tc : Thread Cert.RowsInIdeal.nD Cert.RowsInIdeal.τ).loc Cert.RowsInIdeal.main_arg10)
      ∧ r.2.mem ((c.tc : Thread Cert.RowsInIdeal.nD Cert.RowsInIdeal.τ).loc Cert.RowsInIdeal.main_arg11) = m ((c.tc : Thread Cert.RowsInIdeal.nD Cert.RowsInIdeal.τ).loc Cert.RowsInIdeal.main_arg11))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6)
      ∧ r.2.mem ((c.tc : Thread Cert.RefInIdeal.nD Cert.RefInIdeal.τ).loc Cert.RefInIdeal.main_arg7) = m ((c.tc : Thread Cert.RefInIdeal.nD Cert.RefInIdeal.τ).loc Cert.RefInIdeal.main_arg7)
      ∧ r.2.mem ((c.tc : Thread Cert.RefInIdeal.nD Cert.RefInIdeal.τ).loc Cert.RefInIdeal.main_arg8) = m ((c.tc : Thread Cert.RefInIdeal.nD Cert.RefInIdeal.τ).loc Cert.RefInIdeal.main_arg8)
      ∧ r.2.mem ((c.tc : Thread Cert.RefInIdeal.nD Cert.RefInIdeal.τ).loc Cert.RefInIdeal.main_arg9) = m ((c.tc : Thread Cert.RefInIdeal.nD Cert.RefInIdeal.τ).loc Cert.RefInIdeal.main_arg9)
      ∧ r.2.mem ((c.tc : Thread Cert.RefInIdeal.nD Cert.RefInIdeal.τ).loc Cert.RefInIdeal.main_arg10) = m ((c.tc : Thread Cert.RefInIdeal.nD Cert.RefInIdeal.τ).loc Cert.RefInIdeal.main_arg10)
      ∧ r.2.mem ((c.tc : Thread Cert.RefInIdeal.nD Cert.RefInIdeal.τ).loc Cert.RefInIdeal.main_arg11) = m ((c.tc : Thread Cert.RefInIdeal.nD Cert.RefInIdeal.τ).loc Cert.RefInIdeal.main_arg11))
      ∧ r.2.sem = fun _ => 0)

def quiescent_RefInIdeal_pre_lengths_nonneg [hRefInIdeal : Cert.RefInIdeal.Facts] [hPre_lengths_nonneg : Cert.Pre_lengths_nonneg.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal_lengths_nonneg m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6)
      ∧ r.2.mem ((c.tc : Thread Cert.RefInIdeal.nD Cert.RefInIdeal.τ).loc Cert.RefInIdeal.main_arg7) = m ((c.tc : Thread Cert.RefInIdeal.nD Cert.RefInIdeal.τ).loc Cert.RefInIdeal.main_arg7)
      ∧ r.2.mem ((c.tc : Thread Cert.RefInIdeal.nD Cert.RefInIdeal.τ).loc Cert.RefInIdeal.main_arg8) = m ((c.tc : Thread Cert.RefInIdeal.nD Cert.RefInIdeal.τ).loc Cert.RefInIdeal.main_arg8)
      ∧ r.2.mem ((c.tc : Thread Cert.RefInIdeal.nD Cert.RefInIdeal.τ).loc Cert.RefInIdeal.main_arg9) = m ((c.tc : Thread Cert.RefInIdeal.nD Cert.RefInIdeal.τ).loc Cert.RefInIdeal.main_arg9)
      ∧ r.2.mem ((c.tc : Thread Cert.RefInIdeal.nD Cert.RefInIdeal.τ).loc Cert.RefInIdeal.main_arg10) = m ((c.tc : Thread Cert.RefInIdeal.nD Cert.RefInIdeal.τ).loc Cert.RefInIdeal.main_arg10)
      ∧ r.2.mem ((c.tc : Thread Cert.RefInIdeal.nD Cert.RefInIdeal.τ).loc Cert.RefInIdeal.main_arg11) = m ((c.tc : Thread Cert.RefInIdeal.nD Cert.RefInIdeal.τ).loc Cert.RefInIdeal.main_arg11))
      ∧ r.2.sem = fun _ => 0)

def quiescent_RowsOut [hRowsOut : Cert.RowsOut.Facts] : Prop :=
  ∀ (m : (ℓ : Loc Cert.RowsOut.nD Cert.RowsOut.τ Cert.RowsOut.sig) → Buf (Elt Bits) ℓ) (g : Dev Cert.RowsOut.nD → PrngReg), Pre_RowsOut m →
    θ_run (Cert.RowsOut.defs (F := Bits)) (onTc (τ := Cert.RowsOut.τ) (Cert.RowsOut.main (F := Bits))) ⟨m, fun _ => 0, g⟩ (fun r => (∀ c : Dev Cert.RowsOut.nD,
      r.2.mem ((c.tc : Thread Cert.RowsOut.nD Cert.RowsOut.τ).loc Cert.RowsOut.main_arg0) = m ((c.tc : Thread Cert.RowsOut.nD Cert.RowsOut.τ).loc Cert.RowsOut.main_arg0)
      ∧ r.2.mem ((c.tc : Thread Cert.RowsOut.nD Cert.RowsOut.τ).loc Cert.RowsOut.main_arg1) = m ((c.tc : Thread Cert.RowsOut.nD Cert.RowsOut.τ).loc Cert.RowsOut.main_arg1)
      ∧ r.2.mem ((c.tc : Thread Cert.RowsOut.nD Cert.RowsOut.τ).loc Cert.RowsOut.main_arg2) = m ((c.tc : Thread Cert.RowsOut.nD Cert.RowsOut.τ).loc Cert.RowsOut.main_arg2)
      ∧ r.2.mem ((c.tc : Thread Cert.RowsOut.nD Cert.RowsOut.τ).loc Cert.RowsOut.main_arg3) = m ((c.tc : Thread Cert.RowsOut.nD Cert.RowsOut.τ).loc Cert.RowsOut.main_arg3)
      ∧ r.2.mem ((c.tc : Thread Cert.RowsOut.nD Cert.RowsOut.τ).loc Cert.RowsOut.main_arg4) = m ((c.tc : Thread Cert.RowsOut.nD Cert.RowsOut.τ).loc Cert.RowsOut.main_arg4)
      ∧ r.2.mem ((c.tc : Thread Cert.RowsOut.nD Cert.RowsOut.τ).loc Cert.RowsOut.main_arg5) = m ((c.tc : Thread Cert.RowsOut.nD Cert.RowsOut.τ).loc Cert.RowsOut.main_arg5)
      ∧ r.2.mem ((c.tc : Thread Cert.RowsOut.nD Cert.RowsOut.τ).loc Cert.RowsOut.main_arg6) = m ((c.tc : Thread Cert.RowsOut.nD Cert.RowsOut.τ).loc Cert.RowsOut.main_arg6)
      ∧ r.2.mem ((c.tc : Thread Cert.RowsOut.nD Cert.RowsOut.τ).loc Cert.RowsOut.main_arg7) = m ((c.tc : Thread Cert.RowsOut.nD Cert.RowsOut.τ).loc Cert.RowsOut.main_arg7)
      ∧ r.2.mem ((c.tc : Thread Cert.RowsOut.nD Cert.RowsOut.τ).loc Cert.RowsOut.main_arg8) = m ((c.tc : Thread Cert.RowsOut.nD Cert.RowsOut.τ).loc Cert.RowsOut.main_arg8)
      ∧ r.2.mem ((c.tc : Thread Cert.RowsOut.nD Cert.RowsOut.τ).loc Cert.RowsOut.main_arg9) = m ((c.tc : Thread Cert.RowsOut.nD Cert.RowsOut.τ).loc Cert.RowsOut.main_arg9)
      ∧ r.2.mem ((c.tc : Thread Cert.RowsOut.nD Cert.RowsOut.τ).loc Cert.RowsOut.main_arg10) = m ((c.tc : Thread Cert.RowsOut.nD Cert.RowsOut.τ).loc Cert.RowsOut.main_arg10)
      ∧ r.2.mem ((c.tc : Thread Cert.RowsOut.nD Cert.RowsOut.τ).loc Cert.RowsOut.main_arg11) = m ((c.tc : Thread Cert.RowsOut.nD Cert.RowsOut.τ).loc Cert.RowsOut.main_arg11)
      ∧ r.2.mem ((c.tc : Thread Cert.RowsOut.nD Cert.RowsOut.τ).loc Cert.RowsOut.main_arg12) = m ((c.tc : Thread Cert.RowsOut.nD Cert.RowsOut.τ).loc Cert.RowsOut.main_arg12)
      ∧ r.2.mem ((c.tc : Thread Cert.RowsOut.nD Cert.RowsOut.τ).loc Cert.RowsOut.main_arg13) = m ((c.tc : Thread Cert.RowsOut.nD Cert.RowsOut.τ).loc Cert.RowsOut.main_arg13)
      ∧ r.2.mem ((c.tc : Thread Cert.RowsOut.nD Cert.RowsOut.τ).loc Cert.RowsOut.main_arg14) = m ((c.tc : Thread Cert.RowsOut.nD Cert.RowsOut.τ).loc Cert.RowsOut.main_arg14)
      ∧ r.2.mem ((c.tc : Thread Cert.RowsOut.nD Cert.RowsOut.τ).loc Cert.RowsOut.main_arg15) = m ((c.tc : Thread Cert.RowsOut.nD Cert.RowsOut.τ).loc Cert.RowsOut.main_arg15)
      ∧ r.2.mem ((c.tc : Thread Cert.RowsOut.nD Cert.RowsOut.τ).loc Cert.RowsOut.main_arg16) = m ((c.tc : Thread Cert.RowsOut.nD Cert.RowsOut.τ).loc Cert.RowsOut.main_arg16))
      ∧ r.2.sem = fun _ => 0)

def quiescent_RowsOutIdeal [hRowsOutIdeal : Cert.RowsOutIdeal.Facts] : Prop :=
  ∀ (m : (ℓ : Loc Cert.RowsOutIdeal.nD Cert.RowsOutIdeal.τ Cert.RowsOutIdeal.sig) → Buf (Elt Ideal) ℓ) (g : Dev Cert.RowsOutIdeal.nD → PrngReg), Pre_RowsOutIdeal m →
    θ_run (Cert.RowsOutIdeal.defs (F := Ideal)) (onTc (τ := Cert.RowsOutIdeal.τ) (Cert.RowsOutIdeal.main (F := Ideal))) ⟨m, fun _ => 0, g⟩ (fun r => (∀ c : Dev Cert.RowsOutIdeal.nD,
      r.2.mem ((c.tc : Thread Cert.RowsOutIdeal.nD Cert.RowsOutIdeal.τ).loc Cert.RowsOutIdeal.main_arg0) = m ((c.tc : Thread Cert.RowsOutIdeal.nD Cert.RowsOutIdeal.τ).loc Cert.RowsOutIdeal.main_arg0)
      ∧ r.2.mem ((c.tc : Thread Cert.RowsOutIdeal.nD Cert.RowsOutIdeal.τ).loc Cert.RowsOutIdeal.main_arg1) = m ((c.tc : Thread Cert.RowsOutIdeal.nD Cert.RowsOutIdeal.τ).loc Cert.RowsOutIdeal.main_arg1)
      ∧ r.2.mem ((c.tc : Thread Cert.RowsOutIdeal.nD Cert.RowsOutIdeal.τ).loc Cert.RowsOutIdeal.main_arg2) = m ((c.tc : Thread Cert.RowsOutIdeal.nD Cert.RowsOutIdeal.τ).loc Cert.RowsOutIdeal.main_arg2)
      ∧ r.2.mem ((c.tc : Thread Cert.RowsOutIdeal.nD Cert.RowsOutIdeal.τ).loc Cert.RowsOutIdeal.main_arg3) = m ((c.tc : Thread Cert.RowsOutIdeal.nD Cert.RowsOutIdeal.τ).loc Cert.RowsOutIdeal.main_arg3)
      ∧ r.2.mem ((c.tc : Thread Cert.RowsOutIdeal.nD Cert.RowsOutIdeal.τ).loc Cert.RowsOutIdeal.main_arg4) = m ((c.tc : Thread Cert.RowsOutIdeal.nD Cert.RowsOutIdeal.τ).loc Cert.RowsOutIdeal.main_arg4)
      ∧ r.2.mem ((c.tc : Thread Cert.RowsOutIdeal.nD Cert.RowsOutIdeal.τ).loc Cert.RowsOutIdeal.main_arg5) = m ((c.tc : Thread Cert.RowsOutIdeal.nD Cert.RowsOutIdeal.τ).loc Cert.RowsOutIdeal.main_arg5)
      ∧ r.2.mem ((c.tc : Thread Cert.RowsOutIdeal.nD Cert.RowsOutIdeal.τ).loc Cert.RowsOutIdeal.main_arg6) = m ((c.tc : Thread Cert.RowsOutIdeal.nD Cert.RowsOutIdeal.τ).loc Cert.RowsOutIdeal.main_arg6)
      ∧ r.2.mem ((c.tc : Thread Cert.RowsOutIdeal.nD Cert.RowsOutIdeal.τ).loc Cert.RowsOutIdeal.main_arg7) = m ((c.tc : Thread Cert.RowsOutIdeal.nD Cert.RowsOutIdeal.τ).loc Cert.RowsOutIdeal.main_arg7)
      ∧ r.2.mem ((c.tc : Thread Cert.RowsOutIdeal.nD Cert.RowsOutIdeal.τ).loc Cert.RowsOutIdeal.main_arg8) = m ((c.tc : Thread Cert.RowsOutIdeal.nD Cert.RowsOutIdeal.τ).loc Cert.RowsOutIdeal.main_arg8)
      ∧ r.2.mem ((c.tc : Thread Cert.RowsOutIdeal.nD Cert.RowsOutIdeal.τ).loc Cert.RowsOutIdeal.main_arg9) = m ((c.tc : Thread Cert.RowsOutIdeal.nD Cert.RowsOutIdeal.τ).loc Cert.RowsOutIdeal.main_arg9)
      ∧ r.2.mem ((c.tc : Thread Cert.RowsOutIdeal.nD Cert.RowsOutIdeal.τ).loc Cert.RowsOutIdeal.main_arg10) = m ((c.tc : Thread Cert.RowsOutIdeal.nD Cert.RowsOutIdeal.τ).loc Cert.RowsOutIdeal.main_arg10)
      ∧ r.2.mem ((c.tc : Thread Cert.RowsOutIdeal.nD Cert.RowsOutIdeal.τ).loc Cert.RowsOutIdeal.main_arg11) = m ((c.tc : Thread Cert.RowsOutIdeal.nD Cert.RowsOutIdeal.τ).loc Cert.RowsOutIdeal.main_arg11)
      ∧ r.2.mem ((c.tc : Thread Cert.RowsOutIdeal.nD Cert.RowsOutIdeal.τ).loc Cert.RowsOutIdeal.main_arg12) = m ((c.tc : Thread Cert.RowsOutIdeal.nD Cert.RowsOutIdeal.τ).loc Cert.RowsOutIdeal.main_arg12)
      ∧ r.2.mem ((c.tc : Thread Cert.RowsOutIdeal.nD Cert.RowsOutIdeal.τ).loc Cert.RowsOutIdeal.main_arg13) = m ((c.tc : Thread Cert.RowsOutIdeal.nD Cert.RowsOutIdeal.τ).loc Cert.RowsOutIdeal.main_arg13)
      ∧ r.2.mem ((c.tc : Thread Cert.RowsOutIdeal.nD Cert.RowsOutIdeal.τ).loc Cert.RowsOutIdeal.main_arg14) = m ((c.tc : Thread Cert.RowsOutIdeal.nD Cert.RowsOutIdeal.τ).loc Cert.RowsOutIdeal.main_arg14)
      ∧ r.2.mem ((c.tc : Thread Cert.RowsOutIdeal.nD Cert.RowsOutIdeal.τ).loc Cert.RowsOutIdeal.main_arg15) = m ((c.tc : Thread Cert.RowsOutIdeal.nD Cert.RowsOutIdeal.τ).loc Cert.RowsOutIdeal.main_arg15)
      ∧ r.2.mem ((c.tc : Thread Cert.RowsOutIdeal.nD Cert.RowsOutIdeal.τ).loc Cert.RowsOutIdeal.main_arg16) = m ((c.tc : Thread Cert.RowsOutIdeal.nD Cert.RowsOutIdeal.τ).loc Cert.RowsOutIdeal.main_arg16))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6)
      ∧ r.2.mem ((c.tc : Thread Cert.RefOutIdeal.nD Cert.RefOutIdeal.τ).loc Cert.RefOutIdeal.main_arg7) = m ((c.tc : Thread Cert.RefOutIdeal.nD Cert.RefOutIdeal.τ).loc Cert.RefOutIdeal.main_arg7)
      ∧ r.2.mem ((c.tc : Thread Cert.RefOutIdeal.nD Cert.RefOutIdeal.τ).loc Cert.RefOutIdeal.main_arg8) = m ((c.tc : Thread Cert.RefOutIdeal.nD Cert.RefOutIdeal.τ).loc Cert.RefOutIdeal.main_arg8)
      ∧ r.2.mem ((c.tc : Thread Cert.RefOutIdeal.nD Cert.RefOutIdeal.τ).loc Cert.RefOutIdeal.main_arg9) = m ((c.tc : Thread Cert.RefOutIdeal.nD Cert.RefOutIdeal.τ).loc Cert.RefOutIdeal.main_arg9)
      ∧ r.2.mem ((c.tc : Thread Cert.RefOutIdeal.nD Cert.RefOutIdeal.τ).loc Cert.RefOutIdeal.main_arg10) = m ((c.tc : Thread Cert.RefOutIdeal.nD Cert.RefOutIdeal.τ).loc Cert.RefOutIdeal.main_arg10)
      ∧ r.2.mem ((c.tc : Thread Cert.RefOutIdeal.nD Cert.RefOutIdeal.τ).loc Cert.RefOutIdeal.main_arg11) = m ((c.tc : Thread Cert.RefOutIdeal.nD Cert.RefOutIdeal.τ).loc Cert.RefOutIdeal.main_arg11)
      ∧ r.2.mem ((c.tc : Thread Cert.RefOutIdeal.nD Cert.RefOutIdeal.τ).loc Cert.RefOutIdeal.main_arg12) = m ((c.tc : Thread Cert.RefOutIdeal.nD Cert.RefOutIdeal.τ).loc Cert.RefOutIdeal.main_arg12)
      ∧ r.2.mem ((c.tc : Thread Cert.RefOutIdeal.nD Cert.RefOutIdeal.τ).loc Cert.RefOutIdeal.main_arg13) = m ((c.tc : Thread Cert.RefOutIdeal.nD Cert.RefOutIdeal.τ).loc Cert.RefOutIdeal.main_arg13)
      ∧ r.2.mem ((c.tc : Thread Cert.RefOutIdeal.nD Cert.RefOutIdeal.τ).loc Cert.RefOutIdeal.main_arg14) = m ((c.tc : Thread Cert.RefOutIdeal.nD Cert.RefOutIdeal.τ).loc Cert.RefOutIdeal.main_arg14)
      ∧ r.2.mem ((c.tc : Thread Cert.RefOutIdeal.nD Cert.RefOutIdeal.τ).loc Cert.RefOutIdeal.main_arg15) = m ((c.tc : Thread Cert.RefOutIdeal.nD Cert.RefOutIdeal.τ).loc Cert.RefOutIdeal.main_arg15)
      ∧ r.2.mem ((c.tc : Thread Cert.RefOutIdeal.nD Cert.RefOutIdeal.τ).loc Cert.RefOutIdeal.main_arg16) = m ((c.tc : Thread Cert.RefOutIdeal.nD Cert.RefOutIdeal.τ).loc Cert.RefOutIdeal.main_arg16))
      ∧ r.2.sem = fun _ => 0)

def preserves_RowsIn_RowsInIdeal : Prop :=
  True

def algebraic_RowsInIdeal_RefInIdeal_pre_lengths_nonneg [hRowsInIdeal : Cert.RowsInIdeal.Facts] [hRefInIdeal : Cert.RefInIdeal.Facts] [hPre_lengths_nonneg : Cert.Pre_lengths_nonneg.Facts] : Prop :=
  ∀ (m : (ℓ : Loc Cert.RowsInIdeal.nD Cert.RowsInIdeal.τ Cert.RowsInIdeal.sig) → Buf (Elt Ideal) ℓ) (g : Dev Cert.RowsInIdeal.nD → PrngReg)
    (m' : (ℓ : Loc Cert.RefInIdeal.nD Cert.RefInIdeal.τ Cert.RefInIdeal.sig) → Buf (Elt Ideal) ℓ) (g' : Dev Cert.RefInIdeal.nD → PrngReg), Pre_RowsInIdeal_lengths_nonneg m →
    (∀ c : Dev Cert.RowsInIdeal.nD,
      m' ((c.tc : Thread Cert.RefInIdeal.nD Cert.RefInIdeal.τ).loc Cert.RefInIdeal.main_arg0) = m ((c.tc : Thread Cert.RowsInIdeal.nD Cert.RowsInIdeal.τ).loc Cert.RowsInIdeal.main_arg0)
      ∧ m' ((c.tc : Thread Cert.RefInIdeal.nD Cert.RefInIdeal.τ).loc Cert.RefInIdeal.main_arg1) = m ((c.tc : Thread Cert.RowsInIdeal.nD Cert.RowsInIdeal.τ).loc Cert.RowsInIdeal.main_arg1)
      ∧ m' ((c.tc : Thread Cert.RefInIdeal.nD Cert.RefInIdeal.τ).loc Cert.RefInIdeal.main_arg2) = m ((c.tc : Thread Cert.RowsInIdeal.nD Cert.RowsInIdeal.τ).loc Cert.RowsInIdeal.main_arg2)
      ∧ m' ((c.tc : Thread Cert.RefInIdeal.nD Cert.RefInIdeal.τ).loc Cert.RefInIdeal.main_arg3) = m ((c.tc : Thread Cert.RowsInIdeal.nD Cert.RowsInIdeal.τ).loc Cert.RowsInIdeal.main_arg3)
      ∧ m' ((c.tc : Thread Cert.RefInIdeal.nD Cert.RefInIdeal.τ).loc Cert.RefInIdeal.main_arg4) = m ((c.tc : Thread Cert.RowsInIdeal.nD Cert.RowsInIdeal.τ).loc Cert.RowsInIdeal.main_arg4)
      ∧ m' ((c.tc : Thread Cert.RefInIdeal.nD Cert.RefInIdeal.τ).loc Cert.RefInIdeal.main_arg5) = m ((c.tc : Thread Cert.RowsInIdeal.nD Cert.RowsInIdeal.τ).loc Cert.RowsInIdeal.main_arg5)
      ∧ m' ((c.tc : Thread Cert.RefInIdeal.nD Cert.RefInIdeal.τ).loc Cert.RefInIdeal.main_arg6) = m ((c.tc : Thread Cert.RowsInIdeal.nD Cert.RowsInIdeal.τ).loc Cert.RowsInIdeal.main_arg6)
      ∧ m' ((c.tc : Thread Cert.RefInIdeal.nD Cert.RefInIdeal.τ).loc Cert.RefInIdeal.main_arg7) = m ((c.tc : Thread Cert.RowsInIdeal.nD Cert.RowsInIdeal.τ).loc Cert.RowsInIdeal.main_arg7)
      ∧ m' ((c.tc : Thread Cert.RefInIdeal.nD Cert.RefInIdeal.τ).loc Cert.RefInIdeal.main_arg8) = m ((c.tc : Thread Cert.RowsInIdeal.nD Cert.RowsInIdeal.τ).loc Cert.RowsInIdeal.main_arg8)
      ∧ m' ((c.tc : Thread Cert.RefInIdeal.nD Cert.RefInIdeal.τ).loc Cert.RefInIdeal.main_arg9) = m ((c.tc : Thread Cert.RowsInIdeal.nD Cert.RowsInIdeal.τ).loc Cert.RowsInIdeal.main_arg9)
      ∧ m' ((c.tc : Thread Cert.RefInIdeal.nD Cert.RefInIdeal.τ).loc Cert.RefInIdeal.main_arg10) = m ((c.tc : Thread Cert.RowsInIdeal.nD Cert.RowsInIdeal.τ).loc Cert.RowsInIdeal.main_arg10)
      ∧ m' ((c.tc : Thread Cert.RefInIdeal.nD Cert.RefInIdeal.τ).loc Cert.RefInIdeal.main_arg11) = m ((c.tc : Thread Cert.RowsInIdeal.nD Cert.RowsInIdeal.τ).loc Cert.RowsInIdeal.main_arg11)) →
    ∃ (v0 : (c : Dev Cert.RowsInIdeal.nD) → Buf (Elt Ideal) ((c.tc : Thread Cert.RowsInIdeal.nD Cert.RowsInIdeal.τ).loc Cert.RowsInIdeal.main_v7_0)) (v1 : (c : Dev Cert.RowsInIdeal.nD) → Buf (Elt Ideal) ((c.tc : Thread Cert.RowsInIdeal.nD Cert.RowsInIdeal.τ).loc Cert.RowsInIdeal.main_v7_1)) (v2 : (c : Dev Cert.RowsInIdeal.nD) → Buf (Elt Ideal) ((c.tc : Thread Cert.RowsInIdeal.nD Cert.RowsInIdeal.τ).loc Cert.RowsInIdeal.main_v7_2)) (v3 : (c : Dev Cert.RowsInIdeal.nD) → Buf (Elt Ideal) ((c.tc : Thread Cert.RowsInIdeal.nD Cert.RowsInIdeal.τ).loc Cert.RowsInIdeal.main_v7_3)) (v4 : (c : Dev Cert.RowsInIdeal.nD) → Buf (Elt Ideal) ((c.tc : Thread Cert.RowsInIdeal.nD Cert.RowsInIdeal.τ).loc Cert.RowsInIdeal.main_v7_4)) (v5 : (c : Dev Cert.RowsInIdeal.nD) → Buf (Elt Ideal) ((c.tc : Thread Cert.RowsInIdeal.nD Cert.RowsInIdeal.τ).loc Cert.RowsInIdeal.main_v7_5)) (v6 : (c : Dev Cert.RowsInIdeal.nD) → Buf (Elt Ideal) ((c.tc : Thread Cert.RowsInIdeal.nD Cert.RowsInIdeal.τ).loc Cert.RowsInIdeal.main_v7_6)),
      θ_run (Cert.RowsInIdeal.defs (F := Ideal)) (onTc (τ := Cert.RowsInIdeal.τ) (Cert.RowsInIdeal.main (F := Ideal))) ⟨m, fun _ => 0, g⟩ (fun r => ∀ c : Dev Cert.RowsInIdeal.nD,
          r.2.mem ((c.tc : Thread Cert.RowsInIdeal.nD Cert.RowsInIdeal.τ).loc Cert.RowsInIdeal.main_v7_0) = v0 c
          ∧ r.2.mem ((c.tc : Thread Cert.RowsInIdeal.nD Cert.RowsInIdeal.τ).loc Cert.RowsInIdeal.main_v7_1) = v1 c
          ∧ r.2.mem ((c.tc : Thread Cert.RowsInIdeal.nD Cert.RowsInIdeal.τ).loc Cert.RowsInIdeal.main_v7_2) = v2 c
          ∧ r.2.mem ((c.tc : Thread Cert.RowsInIdeal.nD Cert.RowsInIdeal.τ).loc Cert.RowsInIdeal.main_v7_3) = v3 c
          ∧ r.2.mem ((c.tc : Thread Cert.RowsInIdeal.nD Cert.RowsInIdeal.τ).loc Cert.RowsInIdeal.main_v7_4) = v4 c
          ∧ r.2.mem ((c.tc : Thread Cert.RowsInIdeal.nD Cert.RowsInIdeal.τ).loc Cert.RowsInIdeal.main_v7_5) = v5 c
          ∧ r.2.mem ((c.tc : Thread Cert.RowsInIdeal.nD Cert.RowsInIdeal.τ).loc Cert.RowsInIdeal.main_v7_6) = v6 c
          ∧ r.2.mem ((c.tc : Thread Cert.RowsInIdeal.nD Cert.RowsInIdeal.τ).loc Cert.RowsInIdeal.main_arg0) = m ((c.tc : Thread Cert.RowsInIdeal.nD Cert.RowsInIdeal.τ).loc Cert.RowsInIdeal.main_arg0)
          ∧ r.2.mem ((c.tc : Thread Cert.RowsInIdeal.nD Cert.RowsInIdeal.τ).loc Cert.RowsInIdeal.main_arg1) = m ((c.tc : Thread Cert.RowsInIdeal.nD Cert.RowsInIdeal.τ).loc Cert.RowsInIdeal.main_arg1)
          ∧ r.2.mem ((c.tc : Thread Cert.RowsInIdeal.nD Cert.RowsInIdeal.τ).loc Cert.RowsInIdeal.main_arg2) = m ((c.tc : Thread Cert.RowsInIdeal.nD Cert.RowsInIdeal.τ).loc Cert.RowsInIdeal.main_arg2)
          ∧ r.2.mem ((c.tc : Thread Cert.RowsInIdeal.nD Cert.RowsInIdeal.τ).loc Cert.RowsInIdeal.main_arg3) = m ((c.tc : Thread Cert.RowsInIdeal.nD Cert.RowsInIdeal.τ).loc Cert.RowsInIdeal.main_arg3)
          ∧ r.2.mem ((c.tc : Thread Cert.RowsInIdeal.nD Cert.RowsInIdeal.τ).loc Cert.RowsInIdeal.main_arg4) = m ((c.tc : Thread Cert.RowsInIdeal.nD Cert.RowsInIdeal.τ).loc Cert.RowsInIdeal.main_arg4)
          ∧ r.2.mem ((c.tc : Thread Cert.RowsInIdeal.nD Cert.RowsInIdeal.τ).loc Cert.RowsInIdeal.main_arg5) = m ((c.tc : Thread Cert.RowsInIdeal.nD Cert.RowsInIdeal.τ).loc Cert.RowsInIdeal.main_arg5)
          ∧ r.2.mem ((c.tc : Thread Cert.RowsInIdeal.nD Cert.RowsInIdeal.τ).loc Cert.RowsInIdeal.main_arg6) = m ((c.tc : Thread Cert.RowsInIdeal.nD Cert.RowsInIdeal.τ).loc Cert.RowsInIdeal.main_arg6)
          ∧ r.2.mem ((c.tc : Thread Cert.RowsInIdeal.nD Cert.RowsInIdeal.τ).loc Cert.RowsInIdeal.main_arg7) = m ((c.tc : Thread Cert.RowsInIdeal.nD Cert.RowsInIdeal.τ).loc Cert.RowsInIdeal.main_arg7)
          ∧ r.2.mem ((c.tc : Thread Cert.RowsInIdeal.nD Cert.RowsInIdeal.τ).loc Cert.RowsInIdeal.main_arg8) = m ((c.tc : Thread Cert.RowsInIdeal.nD Cert.RowsInIdeal.τ).loc Cert.RowsInIdeal.main_arg8)
          ∧ r.2.mem ((c.tc : Thread Cert.RowsInIdeal.nD Cert.RowsInIdeal.τ).loc Cert.RowsInIdeal.main_arg9) = m ((c.tc : Thread Cert.RowsInIdeal.nD Cert.RowsInIdeal.τ).loc Cert.RowsInIdeal.main_arg9)
          ∧ r.2.mem ((c.tc : Thread Cert.RowsInIdeal.nD Cert.RowsInIdeal.τ).loc Cert.RowsInIdeal.main_arg10) = m ((c.tc : Thread Cert.RowsInIdeal.nD Cert.RowsInIdeal.τ).loc Cert.RowsInIdeal.main_arg10)
          ∧ r.2.mem ((c.tc : Thread Cert.RowsInIdeal.nD Cert.RowsInIdeal.τ).loc Cert.RowsInIdeal.main_arg11) = m ((c.tc : Thread Cert.RowsInIdeal.nD Cert.RowsInIdeal.τ).loc Cert.RowsInIdeal.main_arg11))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v15_0) = v0 c
          ∧ r.2.mem ((c.tc : Thread Cert.RefInIdeal.nD Cert.RefInIdeal.τ).loc Cert.RefInIdeal.main_v15_1) = v1 c
          ∧ r.2.mem ((c.tc : Thread Cert.RefInIdeal.nD Cert.RefInIdeal.τ).loc Cert.RefInIdeal.main_v15_2) = v2 c
          ∧ r.2.mem ((c.tc : Thread Cert.RefInIdeal.nD Cert.RefInIdeal.τ).loc Cert.RefInIdeal.main_v15_3) = v3 c
          ∧ r.2.mem ((c.tc : Thread Cert.RefInIdeal.nD Cert.RefInIdeal.τ).loc Cert.RefInIdeal.main_v15_4) = v4 c
          ∧ r.2.mem ((c.tc : Thread Cert.RefInIdeal.nD Cert.RefInIdeal.τ).loc Cert.RefInIdeal.main_v15_5) = v5 c
          ∧ r.2.mem ((c.tc : Thread Cert.RefInIdeal.nD Cert.RefInIdeal.τ).loc Cert.RefInIdeal.main_v15_6) = v6 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5)
          ∧ r.2.mem ((c.tc : Thread Cert.RefInIdeal.nD Cert.RefInIdeal.τ).loc Cert.RefInIdeal.main_arg6) = m' ((c.tc : Thread Cert.RefInIdeal.nD Cert.RefInIdeal.τ).loc Cert.RefInIdeal.main_arg6)
          ∧ r.2.mem ((c.tc : Thread Cert.RefInIdeal.nD Cert.RefInIdeal.τ).loc Cert.RefInIdeal.main_arg7) = m' ((c.tc : Thread Cert.RefInIdeal.nD Cert.RefInIdeal.τ).loc Cert.RefInIdeal.main_arg7)
          ∧ r.2.mem ((c.tc : Thread Cert.RefInIdeal.nD Cert.RefInIdeal.τ).loc Cert.RefInIdeal.main_arg8) = m' ((c.tc : Thread Cert.RefInIdeal.nD Cert.RefInIdeal.τ).loc Cert.RefInIdeal.main_arg8)
          ∧ r.2.mem ((c.tc : Thread Cert.RefInIdeal.nD Cert.RefInIdeal.τ).loc Cert.RefInIdeal.main_arg9) = m' ((c.tc : Thread Cert.RefInIdeal.nD Cert.RefInIdeal.τ).loc Cert.RefInIdeal.main_arg9)
          ∧ r.2.mem ((c.tc : Thread Cert.RefInIdeal.nD Cert.RefInIdeal.τ).loc Cert.RefInIdeal.main_arg10) = m' ((c.tc : Thread Cert.RefInIdeal.nD Cert.RefInIdeal.τ).loc Cert.RefInIdeal.main_arg10)
          ∧ r.2.mem ((c.tc : Thread Cert.RefInIdeal.nD Cert.RefInIdeal.τ).loc Cert.RefInIdeal.main_arg11) = m' ((c.tc : Thread Cert.RefInIdeal.nD Cert.RefInIdeal.τ).loc Cert.RefInIdeal.main_arg11))

def preserves_RowsOut_RowsOutIdeal : Prop :=
  True

def algebraic_RowsOutIdeal_RefOutIdeal [hRowsOutIdeal : Cert.RowsOutIdeal.Facts] [hRefOutIdeal : Cert.RefOutIdeal.Facts] : Prop :=
  ∀ (m : (ℓ : Loc Cert.RowsOutIdeal.nD Cert.RowsOutIdeal.τ Cert.RowsOutIdeal.sig) → Buf (Elt Ideal) ℓ) (g : Dev Cert.RowsOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_RowsOutIdeal m →
    (∀ c : Dev Cert.RowsOutIdeal.nD,
      m' ((c.tc : Thread Cert.RefOutIdeal.nD Cert.RefOutIdeal.τ).loc Cert.RefOutIdeal.main_arg0) = m ((c.tc : Thread Cert.RowsOutIdeal.nD Cert.RowsOutIdeal.τ).loc Cert.RowsOutIdeal.main_arg0)
      ∧ m' ((c.tc : Thread Cert.RefOutIdeal.nD Cert.RefOutIdeal.τ).loc Cert.RefOutIdeal.main_arg1) = m ((c.tc : Thread Cert.RowsOutIdeal.nD Cert.RowsOutIdeal.τ).loc Cert.RowsOutIdeal.main_arg1)
      ∧ m' ((c.tc : Thread Cert.RefOutIdeal.nD Cert.RefOutIdeal.τ).loc Cert.RefOutIdeal.main_arg2) = m ((c.tc : Thread Cert.RowsOutIdeal.nD Cert.RowsOutIdeal.τ).loc Cert.RowsOutIdeal.main_arg2)
      ∧ m' ((c.tc : Thread Cert.RefOutIdeal.nD Cert.RefOutIdeal.τ).loc Cert.RefOutIdeal.main_arg3) = m ((c.tc : Thread Cert.RowsOutIdeal.nD Cert.RowsOutIdeal.τ).loc Cert.RowsOutIdeal.main_arg3)
      ∧ m' ((c.tc : Thread Cert.RefOutIdeal.nD Cert.RefOutIdeal.τ).loc Cert.RefOutIdeal.main_arg4) = m ((c.tc : Thread Cert.RowsOutIdeal.nD Cert.RowsOutIdeal.τ).loc Cert.RowsOutIdeal.main_arg4)
      ∧ m' ((c.tc : Thread Cert.RefOutIdeal.nD Cert.RefOutIdeal.τ).loc Cert.RefOutIdeal.main_arg5) = m ((c.tc : Thread Cert.RowsOutIdeal.nD Cert.RowsOutIdeal.τ).loc Cert.RowsOutIdeal.main_arg5)
      ∧ m' ((c.tc : Thread Cert.RefOutIdeal.nD Cert.RefOutIdeal.τ).loc Cert.RefOutIdeal.main_arg6) = m ((c.tc : Thread Cert.RowsOutIdeal.nD Cert.RowsOutIdeal.τ).loc Cert.RowsOutIdeal.main_arg6)
      ∧ m' ((c.tc : Thread Cert.RefOutIdeal.nD Cert.RefOutIdeal.τ).loc Cert.RefOutIdeal.main_arg7) = m ((c.tc : Thread Cert.RowsOutIdeal.nD Cert.RowsOutIdeal.τ).loc Cert.RowsOutIdeal.main_arg7)
      ∧ m' ((c.tc : Thread Cert.RefOutIdeal.nD Cert.RefOutIdeal.τ).loc Cert.RefOutIdeal.main_arg8) = m ((c.tc : Thread Cert.RowsOutIdeal.nD Cert.RowsOutIdeal.τ).loc Cert.RowsOutIdeal.main_arg8)
      ∧ m' ((c.tc : Thread Cert.RefOutIdeal.nD Cert.RefOutIdeal.τ).loc Cert.RefOutIdeal.main_arg9) = m ((c.tc : Thread Cert.RowsOutIdeal.nD Cert.RowsOutIdeal.τ).loc Cert.RowsOutIdeal.main_arg9)
      ∧ m' ((c.tc : Thread Cert.RefOutIdeal.nD Cert.RefOutIdeal.τ).loc Cert.RefOutIdeal.main_arg10) = m ((c.tc : Thread Cert.RowsOutIdeal.nD Cert.RowsOutIdeal.τ).loc Cert.RowsOutIdeal.main_arg10)
      ∧ m' ((c.tc : Thread Cert.RefOutIdeal.nD Cert.RefOutIdeal.τ).loc Cert.RefOutIdeal.main_arg11) = m ((c.tc : Thread Cert.RowsOutIdeal.nD Cert.RowsOutIdeal.τ).loc Cert.RowsOutIdeal.main_arg11)
      ∧ m' ((c.tc : Thread Cert.RefOutIdeal.nD Cert.RefOutIdeal.τ).loc Cert.RefOutIdeal.main_arg12) = m ((c.tc : Thread Cert.RowsOutIdeal.nD Cert.RowsOutIdeal.τ).loc Cert.RowsOutIdeal.main_arg12)
      ∧ m' ((c.tc : Thread Cert.RefOutIdeal.nD Cert.RefOutIdeal.τ).loc Cert.RefOutIdeal.main_arg13) = m ((c.tc : Thread Cert.RowsOutIdeal.nD Cert.RowsOutIdeal.τ).loc Cert.RowsOutIdeal.main_arg13)
      ∧ m' ((c.tc : Thread Cert.RefOutIdeal.nD Cert.RefOutIdeal.τ).loc Cert.RefOutIdeal.main_arg14) = m ((c.tc : Thread Cert.RowsOutIdeal.nD Cert.RowsOutIdeal.τ).loc Cert.RowsOutIdeal.main_arg14)
      ∧ m' ((c.tc : Thread Cert.RefOutIdeal.nD Cert.RefOutIdeal.τ).loc Cert.RefOutIdeal.main_arg15) = m ((c.tc : Thread Cert.RowsOutIdeal.nD Cert.RowsOutIdeal.τ).loc Cert.RowsOutIdeal.main_arg15)
      ∧ m' ((c.tc : Thread Cert.RefOutIdeal.nD Cert.RefOutIdeal.τ).loc Cert.RefOutIdeal.main_arg16) = m ((c.tc : Thread Cert.RowsOutIdeal.nD Cert.RowsOutIdeal.τ).loc Cert.RowsOutIdeal.main_arg16)) →
    ∃ (v0 : (c : Dev Cert.RowsOutIdeal.nD) → Buf (Elt Ideal) ((c.tc : Thread Cert.RowsOutIdeal.nD Cert.RowsOutIdeal.τ).loc Cert.RowsOutIdeal.main_v8_0)) (v1 : (c : Dev Cert.RowsOutIdeal.nD) → Buf (Elt Ideal) ((c.tc : Thread Cert.RowsOutIdeal.nD Cert.RowsOutIdeal.τ).loc Cert.RowsOutIdeal.main_v8_1)) (v2 : (c : Dev Cert.RowsOutIdeal.nD) → Buf (Elt Ideal) ((c.tc : Thread Cert.RowsOutIdeal.nD Cert.RowsOutIdeal.τ).loc Cert.RowsOutIdeal.main_v8_2)) (v3 : (c : Dev Cert.RowsOutIdeal.nD) → Buf (Elt Ideal) ((c.tc : Thread Cert.RowsOutIdeal.nD Cert.RowsOutIdeal.τ).loc Cert.RowsOutIdeal.main_v8_3)) (v4 : (c : Dev Cert.RowsOutIdeal.nD) → Buf (Elt Ideal) ((c.tc : Thread Cert.RowsOutIdeal.nD Cert.RowsOutIdeal.τ).loc Cert.RowsOutIdeal.main_v8_4)) (v5 : (c : Dev Cert.RowsOutIdeal.nD) → Buf (Elt Ideal) ((c.tc : Thread Cert.RowsOutIdeal.nD Cert.RowsOutIdeal.τ).loc Cert.RowsOutIdeal.main_v8_5)) (v6 : (c : Dev Cert.RowsOutIdeal.nD) → Buf (Elt Ideal) ((c.tc : Thread Cert.RowsOutIdeal.nD Cert.RowsOutIdeal.τ).loc Cert.RowsOutIdeal.main_v8_6)) (v7 : (c : Dev Cert.RowsOutIdeal.nD) → Buf (Elt Ideal) ((c.tc : Thread Cert.RowsOutIdeal.nD Cert.RowsOutIdeal.τ).loc Cert.RowsOutIdeal.main_v8_7)) (v8 : (c : Dev Cert.RowsOutIdeal.nD) → Buf (Elt Ideal) ((c.tc : Thread Cert.RowsOutIdeal.nD Cert.RowsOutIdeal.τ).loc Cert.RowsOutIdeal.main_v8_8)),
      θ_run (Cert.RowsOutIdeal.defs (F := Ideal)) (onTc (τ := Cert.RowsOutIdeal.τ) (Cert.RowsOutIdeal.main (F := Ideal))) ⟨m, fun _ => 0, g⟩ (fun r => ∀ c : Dev Cert.RowsOutIdeal.nD,
          r.2.mem ((c.tc : Thread Cert.RowsOutIdeal.nD Cert.RowsOutIdeal.τ).loc Cert.RowsOutIdeal.main_v8_0) = v0 c
          ∧ r.2.mem ((c.tc : Thread Cert.RowsOutIdeal.nD Cert.RowsOutIdeal.τ).loc Cert.RowsOutIdeal.main_v8_1) = v1 c
          ∧ r.2.mem ((c.tc : Thread Cert.RowsOutIdeal.nD Cert.RowsOutIdeal.τ).loc Cert.RowsOutIdeal.main_v8_2) = v2 c
          ∧ r.2.mem ((c.tc : Thread Cert.RowsOutIdeal.nD Cert.RowsOutIdeal.τ).loc Cert.RowsOutIdeal.main_v8_3) = v3 c
          ∧ r.2.mem ((c.tc : Thread Cert.RowsOutIdeal.nD Cert.RowsOutIdeal.τ).loc Cert.RowsOutIdeal.main_v8_4) = v4 c
          ∧ r.2.mem ((c.tc : Thread Cert.RowsOutIdeal.nD Cert.RowsOutIdeal.τ).loc Cert.RowsOutIdeal.main_v8_5) = v5 c
          ∧ r.2.mem ((c.tc : Thread Cert.RowsOutIdeal.nD Cert.RowsOutIdeal.τ).loc Cert.RowsOutIdeal.main_v8_6) = v6 c
          ∧ r.2.mem ((c.tc : Thread Cert.RowsOutIdeal.nD Cert.RowsOutIdeal.τ).loc Cert.RowsOutIdeal.main_v8_7) = v7 c
          ∧ r.2.mem ((c.tc : Thread Cert.RowsOutIdeal.nD Cert.RowsOutIdeal.τ).loc Cert.RowsOutIdeal.main_v8_8) = v8 c
          ∧ r.2.mem ((c.tc : Thread Cert.RowsOutIdeal.nD Cert.RowsOutIdeal.τ).loc Cert.RowsOutIdeal.main_arg0) = m ((c.tc : Thread Cert.RowsOutIdeal.nD Cert.RowsOutIdeal.τ).loc Cert.RowsOutIdeal.main_arg0)
          ∧ r.2.mem ((c.tc : Thread Cert.RowsOutIdeal.nD Cert.RowsOutIdeal.τ).loc Cert.RowsOutIdeal.main_arg1) = m ((c.tc : Thread Cert.RowsOutIdeal.nD Cert.RowsOutIdeal.τ).loc Cert.RowsOutIdeal.main_arg1)
          ∧ r.2.mem ((c.tc : Thread Cert.RowsOutIdeal.nD Cert.RowsOutIdeal.τ).loc Cert.RowsOutIdeal.main_arg2) = m ((c.tc : Thread Cert.RowsOutIdeal.nD Cert.RowsOutIdeal.τ).loc Cert.RowsOutIdeal.main_arg2)
          ∧ r.2.mem ((c.tc : Thread Cert.RowsOutIdeal.nD Cert.RowsOutIdeal.τ).loc Cert.RowsOutIdeal.main_arg3) = m ((c.tc : Thread Cert.RowsOutIdeal.nD Cert.RowsOutIdeal.τ).loc Cert.RowsOutIdeal.main_arg3)
          ∧ r.2.mem ((c.tc : Thread Cert.RowsOutIdeal.nD Cert.RowsOutIdeal.τ).loc Cert.RowsOutIdeal.main_arg4) = m ((c.tc : Thread Cert.RowsOutIdeal.nD Cert.RowsOutIdeal.τ).loc Cert.RowsOutIdeal.main_arg4)
          ∧ r.2.mem ((c.tc : Thread Cert.RowsOutIdeal.nD Cert.RowsOutIdeal.τ).loc Cert.RowsOutIdeal.main_arg5) = m ((c.tc : Thread Cert.RowsOutIdeal.nD Cert.RowsOutIdeal.τ).loc Cert.RowsOutIdeal.main_arg5)
          ∧ r.2.mem ((c.tc : Thread Cert.RowsOutIdeal.nD Cert.RowsOutIdeal.τ).loc Cert.RowsOutIdeal.main_arg6) = m ((c.tc : Thread Cert.RowsOutIdeal.nD Cert.RowsOutIdeal.τ).loc Cert.RowsOutIdeal.main_arg6)
          ∧ r.2.mem ((c.tc : Thread Cert.RowsOutIdeal.nD Cert.RowsOutIdeal.τ).loc Cert.RowsOutIdeal.main_arg7) = m ((c.tc : Thread Cert.RowsOutIdeal.nD Cert.RowsOutIdeal.τ).loc Cert.RowsOutIdeal.main_arg7)
          ∧ r.2.mem ((c.tc : Thread Cert.RowsOutIdeal.nD Cert.RowsOutIdeal.τ).loc Cert.RowsOutIdeal.main_arg8) = m ((c.tc : Thread Cert.RowsOutIdeal.nD Cert.RowsOutIdeal.τ).loc Cert.RowsOutIdeal.main_arg8)
          ∧ r.2.mem ((c.tc : Thread Cert.RowsOutIdeal.nD Cert.RowsOutIdeal.τ).loc Cert.RowsOutIdeal.main_arg9) = m ((c.tc : Thread Cert.RowsOutIdeal.nD Cert.RowsOutIdeal.τ).loc Cert.RowsOutIdeal.main_arg9)
          ∧ r.2.mem ((c.tc : Thread Cert.RowsOutIdeal.nD Cert.RowsOutIdeal.τ).loc Cert.RowsOutIdeal.main_arg10) = m ((c.tc : Thread Cert.RowsOutIdeal.nD Cert.RowsOutIdeal.τ).loc Cert.RowsOutIdeal.main_arg10)
          ∧ r.2.mem ((c.tc : Thread Cert.RowsOutIdeal.nD Cert.RowsOutIdeal.τ).loc Cert.RowsOutIdeal.main_arg11) = m ((c.tc : Thread Cert.RowsOutIdeal.nD Cert.RowsOutIdeal.τ).loc Cert.RowsOutIdeal.main_arg11)
          ∧ r.2.mem ((c.tc : Thread Cert.RowsOutIdeal.nD Cert.RowsOutIdeal.τ).loc Cert.RowsOutIdeal.main_arg12) = m ((c.tc : Thread Cert.RowsOutIdeal.nD Cert.RowsOutIdeal.τ).loc Cert.RowsOutIdeal.main_arg12)
          ∧ r.2.mem ((c.tc : Thread Cert.RowsOutIdeal.nD Cert.RowsOutIdeal.τ).loc Cert.RowsOutIdeal.main_arg13) = m ((c.tc : Thread Cert.RowsOutIdeal.nD Cert.RowsOutIdeal.τ).loc Cert.RowsOutIdeal.main_arg13)
          ∧ r.2.mem ((c.tc : Thread Cert.RowsOutIdeal.nD Cert.RowsOutIdeal.τ).loc Cert.RowsOutIdeal.main_arg14) = m ((c.tc : Thread Cert.RowsOutIdeal.nD Cert.RowsOutIdeal.τ).loc Cert.RowsOutIdeal.main_arg14)
          ∧ r.2.mem ((c.tc : Thread Cert.RowsOutIdeal.nD Cert.RowsOutIdeal.τ).loc Cert.RowsOutIdeal.main_arg15) = m ((c.tc : Thread Cert.RowsOutIdeal.nD Cert.RowsOutIdeal.τ).loc Cert.RowsOutIdeal.main_arg15)
          ∧ r.2.mem ((c.tc : Thread Cert.RowsOutIdeal.nD Cert.RowsOutIdeal.τ).loc Cert.RowsOutIdeal.main_arg16) = m ((c.tc : Thread Cert.RowsOutIdeal.nD Cert.RowsOutIdeal.τ).loc Cert.RowsOutIdeal.main_arg16))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v16_0) = v0 c
          ∧ r.2.mem ((c.tc : Thread Cert.RefOutIdeal.nD Cert.RefOutIdeal.τ).loc Cert.RefOutIdeal.main_v16_1) = v1 c
          ∧ r.2.mem ((c.tc : Thread Cert.RefOutIdeal.nD Cert.RefOutIdeal.τ).loc Cert.RefOutIdeal.main_v16_2) = v2 c
          ∧ r.2.mem ((c.tc : Thread Cert.RefOutIdeal.nD Cert.RefOutIdeal.τ).loc Cert.RefOutIdeal.main_v16_3) = v3 c
          ∧ r.2.mem ((c.tc : Thread Cert.RefOutIdeal.nD Cert.RefOutIdeal.τ).loc Cert.RefOutIdeal.main_v16_4) = v4 c
          ∧ r.2.mem ((c.tc : Thread Cert.RefOutIdeal.nD Cert.RefOutIdeal.τ).loc Cert.RefOutIdeal.main_v16_5) = v5 c
          ∧ r.2.mem ((c.tc : Thread Cert.RefOutIdeal.nD Cert.RefOutIdeal.τ).loc Cert.RefOutIdeal.main_v16_6) = v6 c
          ∧ r.2.mem ((c.tc : Thread Cert.RefOutIdeal.nD Cert.RefOutIdeal.τ).loc Cert.RefOutIdeal.main_v16_7) = v7 c
          ∧ r.2.mem ((c.tc : Thread Cert.RefOutIdeal.nD Cert.RefOutIdeal.τ).loc Cert.RefOutIdeal.main_v16_8) = v8 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5)
          ∧ r.2.mem ((c.tc : Thread Cert.RefOutIdeal.nD Cert.RefOutIdeal.τ).loc Cert.RefOutIdeal.main_arg6) = m' ((c.tc : Thread Cert.RefOutIdeal.nD Cert.RefOutIdeal.τ).loc Cert.RefOutIdeal.main_arg6)
          ∧ r.2.mem ((c.tc : Thread Cert.RefOutIdeal.nD Cert.RefOutIdeal.τ).loc Cert.RefOutIdeal.main_arg7) = m' ((c.tc : Thread Cert.RefOutIdeal.nD Cert.RefOutIdeal.τ).loc Cert.RefOutIdeal.main_arg7)
          ∧ r.2.mem ((c.tc : Thread Cert.RefOutIdeal.nD Cert.RefOutIdeal.τ).loc Cert.RefOutIdeal.main_arg8) = m' ((c.tc : Thread Cert.RefOutIdeal.nD Cert.RefOutIdeal.τ).loc Cert.RefOutIdeal.main_arg8)
          ∧ r.2.mem ((c.tc : Thread Cert.RefOutIdeal.nD Cert.RefOutIdeal.τ).loc Cert.RefOutIdeal.main_arg9) = m' ((c.tc : Thread Cert.RefOutIdeal.nD Cert.RefOutIdeal.τ).loc Cert.RefOutIdeal.main_arg9)
          ∧ r.2.mem ((c.tc : Thread Cert.RefOutIdeal.nD Cert.RefOutIdeal.τ).loc Cert.RefOutIdeal.main_arg10) = m' ((c.tc : Thread Cert.RefOutIdeal.nD Cert.RefOutIdeal.τ).loc Cert.RefOutIdeal.main_arg10)
          ∧ r.2.mem ((c.tc : Thread Cert.RefOutIdeal.nD Cert.RefOutIdeal.τ).loc Cert.RefOutIdeal.main_arg11) = m' ((c.tc : Thread Cert.RefOutIdeal.nD Cert.RefOutIdeal.τ).loc Cert.RefOutIdeal.main_arg11)
          ∧ r.2.mem ((c.tc : Thread Cert.RefOutIdeal.nD Cert.RefOutIdeal.τ).loc Cert.RefOutIdeal.main_arg12) = m' ((c.tc : Thread Cert.RefOutIdeal.nD Cert.RefOutIdeal.τ).loc Cert.RefOutIdeal.main_arg12)
          ∧ r.2.mem ((c.tc : Thread Cert.RefOutIdeal.nD Cert.RefOutIdeal.τ).loc Cert.RefOutIdeal.main_arg13) = m' ((c.tc : Thread Cert.RefOutIdeal.nD Cert.RefOutIdeal.τ).loc Cert.RefOutIdeal.main_arg13)
          ∧ r.2.mem ((c.tc : Thread Cert.RefOutIdeal.nD Cert.RefOutIdeal.τ).loc Cert.RefOutIdeal.main_arg14) = m' ((c.tc : Thread Cert.RefOutIdeal.nD Cert.RefOutIdeal.τ).loc Cert.RefOutIdeal.main_arg14)
          ∧ r.2.mem ((c.tc : Thread Cert.RefOutIdeal.nD Cert.RefOutIdeal.τ).loc Cert.RefOutIdeal.main_arg15) = m' ((c.tc : Thread Cert.RefOutIdeal.nD Cert.RefOutIdeal.τ).loc Cert.RefOutIdeal.main_arg15)
          ∧ r.2.mem ((c.tc : Thread Cert.RefOutIdeal.nD Cert.RefOutIdeal.τ).loc Cert.RefOutIdeal.main_arg16) = m' ((c.tc : Thread Cert.RefOutIdeal.nD Cert.RefOutIdeal.τ).loc Cert.RefOutIdeal.main_arg16))

def Claim : Prop :=
  ∃ (hRowsIn : Cert.RowsIn.Facts) (hRowsInIdeal : Cert.RowsInIdeal.Facts) (hRefInIdeal : Cert.RefInIdeal.Facts) (hRowsOut : Cert.RowsOut.Facts) (hRowsOutIdeal : Cert.RowsOutIdeal.Facts) (hRefOutIdeal : Cert.RefOutIdeal.Facts) (hPre_lengths_nonneg : Cert.Pre_lengths_nonneg.Facts),
    quiescent_RowsIn (hRowsIn := hRowsIn)
    ∧ quiescent_RowsInIdeal (hRowsInIdeal := hRowsInIdeal)
    ∧ quiescent_RowsInIdeal_pre_lengths_nonneg (hRowsInIdeal := hRowsInIdeal) (hPre_lengths_nonneg := hPre_lengths_nonneg)
    ∧ quiescent_RefInIdeal (hRefInIdeal := hRefInIdeal)
    ∧ quiescent_RefInIdeal_pre_lengths_nonneg (hRefInIdeal := hRefInIdeal) (hPre_lengths_nonneg := hPre_lengths_nonneg)
    ∧ quiescent_RowsOut (hRowsOut := hRowsOut)
    ∧ quiescent_RowsOutIdeal (hRowsOutIdeal := hRowsOutIdeal)
    ∧ quiescent_RefOutIdeal (hRefOutIdeal := hRefOutIdeal)
    ∧ preserves_RowsIn_RowsInIdeal
    ∧ algebraic_RowsInIdeal_RefInIdeal_pre_lengths_nonneg (hRowsInIdeal := hRowsInIdeal) (hRefInIdeal := hRefInIdeal) (hPre_lengths_nonneg := hPre_lengths_nonneg)
    ∧ preserves_RowsOut_RowsOutIdeal
    ∧ algebraic_RowsOutIdeal_RefOutIdeal (hRowsOutIdeal := hRowsOutIdeal) (hRefOutIdeal := hRefOutIdeal)
-- ==== Pre_lengths_nonneg.lean ====
abbrev S16x384x1024 : Shape := ⟨3, ![16, 384, 1024]⟩
abbrev S16 : Shape := ⟨1, ![16]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S1024x1024 : Shape := ⟨2, ![1024, 1024]⟩

class Facts : Prop where
  bcast_S_S16 : S_.BroadcastsInDim S16 (![] : Fin 0 → Fin S16.rank)

variable [Facts]

def fn {F : FTy → Type} [FloatOps F] (main_arg0 : FVec F S16x384x1024 .bf16) (main_arg1 : FVec F S16x384x1024 .bf16) (main_arg2 : IVec S16 32) (main_arg3 : FVec F S1024 .f32) (main_arg4 : FVec F S1024 .f32) (main_arg5 : FVec F S1024x2048 .fp8e4m3) (main_arg6 : FVec F S_ .f32) (main_arg7 : FVec F S2048 .f32) (main_arg8 : FVec F S1024x1024 .fp8e4m3) (main_arg9 : FVec F S_ .f32) (main_arg10 : FVec F S_ .f32) (main_arg11 : FVec F S_ .f32) : IVec S16 1 :=
  let main_c : IVec S_ 32 := constantI S_ 32 0#32
  let main_v0 : IVec S16 32 := broadcastInDim S16 ![] bcast_S_S16 main_c
  let main_v1 : IVec S16 1 := cmpi .sge main_arg2 main_v0
  main_v1
-- ==== RowsIn.lean ====
abbrev S16x384x1024 : Shape := ⟨3, ![16, 384, 1024]⟩
abbrev S16 : Shape := ⟨1, ![16]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S1024x1024 : Shape := ⟨2, ![1024, 1024]⟩
abbrev S1x1 : Shape := ⟨2, ![1, 1]⟩
abbrev S1x1024 : Shape := ⟨2, ![1, 1024]⟩
abbrev S1x2048 : Shape := ⟨2, ![1, 2048]⟩
abbrev S16x384x2048 : Shape := ⟨3, ![16, 384, 2048]⟩
abbrev S1x384x1024 : Shape := ⟨3, ![1, 384, 1024]⟩
abbrev S1x384x2048 : Shape := ⟨3, ![1, 384, 2048]⟩
abbrev S8x1024 : Shape := ⟨2, ![8, 1024]⟩
abbrev S1 : Shape := ⟨1, ![1]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S4x8x1024 : Shape := ⟨3, ![4, 8, 1024]⟩
abbrev S384x1024 : Shape := ⟨2, ![384, 1024]⟩
abbrev S1024x256 : Shape := ⟨2, ![1024, 256]⟩
abbrev S384x256 : Shape := ⟨2, ![384, 256]⟩
abbrev S1x256 : Shape := ⟨2, ![1, 256]⟩
abbrev S1x384x256 : Shape := ⟨3, ![1, 384, 256]⟩
abbrev S256x1024 : Shape := ⟨2, ![256, 1024]⟩
abbrev S1x8x1024 : Shape := ⟨3, ![1, 8, 1024]⟩
abbrev S1x1x1 : Shape := ⟨3, ![1, 1, 1]⟩

abbrev nBuf : Space → Nat
  | .hbm => 26
  | .vmem => 21
  | .smem => 7
  | _ => 0

abbrev bufTy : (tb : Table) → Fin (tcTables nBuf tb) → BufTy
  | .hbm, ⟨0, _⟩ => ⟨S16x384x1024, .bf16⟩
  | .hbm, ⟨1, _⟩ => ⟨S16x384x1024, .bf16⟩
  | .hbm, ⟨2, _⟩ => ⟨S16, .i32⟩
  | .hbm, ⟨3, _⟩ => ⟨S1024, .f32⟩
  | .hbm, ⟨4, _⟩ => ⟨S1024, .f32⟩
  | .hbm, ⟨5, _⟩ => ⟨S1024x2048, .fp8e4m3⟩
  | .hbm, ⟨6, _⟩ => ⟨S_, .f32⟩
  | .hbm, ⟨7, _⟩ => ⟨S2048, .f32⟩
  | .hbm, ⟨8, _⟩ => ⟨S1024x1024, .fp8e4m3⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S1x1, .f32⟩
  | .hbm, ⟨16, _⟩ => ⟨S1x1024, .f32⟩
  | .hbm, ⟨17, _⟩ => ⟨S1x1024, .f32⟩
  | .hbm, ⟨18, _⟩ => ⟨S1x2048, .f32⟩
  | .hbm, ⟨19, _⟩ => ⟨S16x384x1024, .fp8e4m3⟩
  | .hbm, ⟨20, _⟩ => ⟨S16x384x2048, .f32⟩
  | .hbm, ⟨21, _⟩ => ⟨S16x384x1024, .fp8e5m2⟩
  | .hbm, ⟨22, _⟩ => ⟨S16x384x1024, .f32⟩
  | .hbm, ⟨23, _⟩ => ⟨S1x1024, .f32⟩
  | .hbm, ⟨24, _⟩ => ⟨S1x1, .f32⟩
  | .hbm, ⟨25, _⟩ => ⟨S1x1, .f32⟩
  | .local _ .vmem, ⟨0, _⟩ => ⟨S1x384x1024, .bf16⟩
  | .local _ .vmem, ⟨1, _⟩ => ⟨S1x384x1024, .bf16⟩
  | .local _ .vmem, ⟨2, _⟩ => ⟨S1x384x1024, .bf16⟩
  | .local _ .vmem, ⟨3, _⟩ => ⟨S1x384x1024, .bf16⟩
  | .local _ .vmem, ⟨4, _⟩ => ⟨S1x1024, .f32⟩
  | .local _ .vmem, ⟨5, _⟩ => ⟨S1x1024, .f32⟩
  | .local _ .vmem, ⟨6, _⟩ => ⟨S1024x2048, .fp8e4m3⟩
  | .local _ .vmem, ⟨7, _⟩ => ⟨S1x2048, .f32⟩
  | .local _ .vmem, ⟨8, _⟩ => ⟨S1024x1024, .fp8e4m3⟩
  | .local _ .vmem, ⟨9, _⟩ => ⟨S1x384x1024, .fp8e4m3⟩
  | .local _ .vmem, ⟨10, _⟩ => ⟨S1x384x1024, .fp8e4m3⟩
  | .local _ .vmem, ⟨11, _⟩ => ⟨S1x384x2048, .f32⟩
  | .local _ .vmem, ⟨12, _⟩ => ⟨S1x384x2048, .f32⟩
  | .local _ .vmem, ⟨13, _⟩ => ⟨S1x384x1024, .fp8e5m2⟩
  | .local _ .vmem, ⟨14, _⟩ => ⟨S1x384x1024, .fp8e5m2⟩
  | .local _ .vmem, ⟨15, _⟩ => ⟨S1x384x1024, .f32⟩
  | .local _ .vmem, ⟨16, _⟩ => ⟨S1x384x1024, .f32⟩
  | .local _ .vmem, ⟨17, _⟩ => ⟨S1x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .smem, ⟨0, _⟩ => ⟨S16, .i32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | _, _ => ⟨S16x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v7_6 : Ref sig .tc := ⟨.hbm, 25, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg12_1 : Ref sig .tc := ⟨.vmem, 10, rfl⟩
abbrev cc0_stg13_0 : Ref sig .tc := ⟨.vmem, 11, rfl⟩
abbrev cc0_stg13_1 : Ref sig .tc := ⟨.vmem, 12, rfl⟩
abbrev cc0_stg14_0 : Ref sig .tc := ⟨.vmem, 13, rfl⟩
abbrev cc0_stg14_1 : Ref sig .tc := ⟨.vmem, 14, rfl⟩
abbrev cc0_stg15_0 : Ref sig .tc := ⟨.vmem, 15, rfl⟩
abbrev cc0_stg15_1 : Ref sig .tc := ⟨.vmem, 16, rfl⟩
abbrev cc0_stg16_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg17_0 : Ref sig .tc := ⟨.smem, 5, rfl⟩
abbrev cc0_stg18_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem17_0 : DmaSem sig := 23
abbrev cc0_sem18_0 : DmaSem sig := 24

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c15_i32 : BitVec 32 := 15#32
  let v1079 : BitVec 1 := Scalar.cmpi .eq arg0 c15_i32
  let v1080 : BitVec 32 := Scalar.extui v1079
  let c0_i32_563 : BitVec 32 := 0#32
  let v1081 : BitVec 1 := Scalar.cmpi .ne v1080 c0_i32_563
  v1081

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x384x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x384x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x384x1024 .fp8e5m2 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x384x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .smem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .smem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== RefInIdeal.lean ====
abbrev S16x384x1024 : Shape := ⟨3, ![16, 384, 1024]⟩
abbrev S16 : Shape := ⟨1, ![16]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S1024x1024 : Shape := ⟨2, ![1024, 1024]⟩
abbrev S384 : Shape := ⟨1, ![384]⟩
abbrev S1x384 : Shape := ⟨2, ![1, 384]⟩
abbrev S16x1 : Shape := ⟨2, ![16, 1]⟩
abbrev S16x384 : Shape := ⟨2, ![16, 384]⟩
abbrev S16x384x1 : Shape := ⟨3, ![16, 384, 1]⟩
abbrev S1x1 : Shape := ⟨2, ![1, 1]⟩
abbrev S1x1x1024 : Shape := ⟨3, ![1, 1, 1024]⟩
abbrev S1x2048 : Shape := ⟨2, ![1, 2048]⟩
abbrev S16x384x2048 : Shape := ⟨3, ![16, 384, 2048]⟩
abbrev S1x1024 : Shape := ⟨2, ![1, 1024]⟩
abbrev S1x16x384x1024 : Shape := ⟨4, ![1, 16, 384, 1024]⟩
abbrev S1 : Shape := ⟨1, ![1]⟩
abbrev S1x1x1x1 : Shape := ⟨4, ![1, 1, 1, 1]⟩
abbrev S6144x1024 : Shape := ⟨2, ![6144, 1024]⟩
abbrev S6144x2048 : Shape := ⟨2, ![6144, 2048]⟩

abbrev nBuf : Space → Nat
  | .hbm => 34
  | .vmem => 13
  | .smem => 6
  | _ => 0

abbrev bufTy : (tb : Table) → Fin (tcTables nBuf tb) → BufTy
  | .hbm, ⟨0, _⟩ => ⟨S16x384x1024, .bf16⟩
  | .hbm, ⟨1, _⟩ => ⟨S16x384x1024, .bf16⟩
  | .hbm, ⟨2, _⟩ => ⟨S16, .i32⟩
  | .hbm, ⟨3, _⟩ => ⟨S1024, .f32⟩
  | .hbm, ⟨4, _⟩ => ⟨S1024, .f32⟩
  | .hbm, ⟨5, _⟩ => ⟨S1024x2048, .fp8e4m3⟩
  | .hbm, ⟨6, _⟩ => ⟨S_, .f32⟩
  | .hbm, ⟨7, _⟩ => ⟨S2048, .f32⟩
  | .hbm, ⟨8, _⟩ => ⟨S1024x1024, .fp8e4m3⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S384, .i32⟩
  | .hbm, ⟨13, _⟩ => ⟨S1x384, .i32⟩
  | .hbm, ⟨14, _⟩ => ⟨S16x1, .i32⟩
  | .hbm, ⟨15, _⟩ => ⟨S16x384, .i32⟩
  | .hbm, ⟨16, _⟩ => ⟨S16x384, .i32⟩
  | .hbm, ⟨17, _⟩ => ⟨S16x384, .i1⟩
  | .hbm, ⟨18, _⟩ => ⟨S16x384, .f32⟩
  | .hbm, ⟨19, _⟩ => ⟨S16x384x1, .f32⟩
  | .hbm, ⟨20, _⟩ => ⟨S1x1, .f32⟩
  | .hbm, ⟨21, _⟩ => ⟨S1x1, .f32⟩
  | .hbm, ⟨22, _⟩ => ⟨S1x1, .f32⟩
  | .hbm, ⟨23, _⟩ => ⟨S1x1, .f32⟩
  | .hbm, ⟨24, _⟩ => ⟨S1x1x1024, .f32⟩
  | .hbm, ⟨25, _⟩ => ⟨S1x1x1024, .f32⟩
  | .hbm, ⟨26, _⟩ => ⟨S1x2048, .f32⟩
  | .hbm, ⟨27, _⟩ => ⟨S16x384x1024, .fp8e4m3⟩
  | .hbm, ⟨28, _⟩ => ⟨S16x384x2048, .f32⟩
  | .hbm, ⟨29, _⟩ => ⟨S16x384x1024, .fp8e5m2⟩
  | .hbm, ⟨30, _⟩ => ⟨S16x384x1024, .f32⟩
  | .hbm, ⟨31, _⟩ => ⟨S1x1024, .f32⟩
  | .hbm, ⟨32, _⟩ => ⟨S1x1, .f32⟩
  | .hbm, ⟨33, _⟩ => ⟨S1x1, .f32⟩
  | .local _ .vmem, ⟨0, _⟩ => ⟨S16x384x1, .f32⟩
  | .local _ .vmem, ⟨1, _⟩ => ⟨S16x384x1024, .bf16⟩
  | .local _ .vmem, ⟨2, _⟩ => ⟨S16x384x1024, .bf16⟩
  | .local _ .vmem, ⟨3, _⟩ => ⟨S1x1x1024, .f32⟩
  | .local _ .vmem, ⟨4, _⟩ => ⟨S1x1x1024, .f32⟩
  | .local _ .vmem, ⟨5, _⟩ => ⟨S1024x2048, .fp8e4m3⟩
  | .local _ .vmem, ⟨6, _⟩ => ⟨S1x2048, .f32⟩
  | .local _ .vmem, ⟨7, _⟩ => ⟨S1024x1024, .fp8e4m3⟩
  | .local _ .vmem, ⟨8, _⟩ => ⟨S16x384x1024, .fp8e4m3⟩
  | .local _ .vmem, ⟨9, _⟩ => ⟨S16x384x2048, .f32⟩
  | .local _ .vmem, ⟨10, _⟩ => ⟨S16x384x1024, .fp8e5m2⟩
  | .local _ .vmem, ⟨11, _⟩ => ⟨S16x384x1024, .f32⟩
  | .local _ .vmem, ⟨12, _⟩ => ⟨S1x1024, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | _, _ => ⟨S16x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev main_v15_6 : Ref sig .tc := ⟨.hbm, 33, rfl⟩
abbrev cc0_stg0_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg13_0 : Ref sig .tc := ⟨.vmem, 9, rfl⟩
abbrev cc0_stg14_0 : Ref sig .tc := ⟨.vmem, 10, rfl⟩
abbrev cc0_stg15_0 : Ref sig .tc := ⟨.vmem, 11, rfl⟩
abbrev cc0_stg16_0 : Ref sig .tc := ⟨.vmem, 12, rfl⟩
abbrev cc0_stg1_0 : Ref sig .tc := ⟨.smem, 0, rfl⟩
abbrev cc0_stg2_0 : Ref sig .tc := ⟨.smem, 1, rfl⟩
abbrev cc0_stg3_0 : Ref sig .tc := ⟨.smem, 2, rfl⟩
abbrev cc0_stg4_0 : Ref sig .tc := ⟨.smem, 3, rfl⟩
abbrev cc0_stg17_0 : Ref sig .tc := ⟨.smem, 4, rfl⟩
abbrev cc0_stg18_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S16x384x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1024 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x384x1024 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x384x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x384x1024 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x384x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .smem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .smem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== RowsOut.lean ====
abbrev S16x384x1024 : Shape := ⟨3, ![16, 384, 1024]⟩
abbrev S16 : Shape := ⟨1, ![16]⟩
abbrev S16x384x2048 : Shape := ⟨3, ![16, 384, 2048]⟩
abbrev S1024 : Shape := ⟨1, ![1024]⟩
abbrev S1024x2048 : Shape := ⟨2, ![1024, 2048]⟩
abbrev S_ : Shape := ⟨0, ![]⟩
abbrev S1024x1024 : Shape := ⟨2, ![1024, 1024]⟩
abbrev S1x1 : Shape := ⟨2, ![1, 1]⟩
abbrev S1x1024 : Shape := ⟨2, ![1, 1024]⟩
abbrev S1x384x1024 : Shape := ⟨3, ![1, 384, 1024]⟩
abbrev S1x384x2048 : Shape := ⟨3, ![1, 384, 2048]⟩
abbrev S8x1024 : Shape := ⟨2, ![8, 1024]⟩
abbrev S1 : Shape := ⟨1, ![1]⟩
abbrev S384x1 : Shape := ⟨2, ![384, 1]⟩
abbrev S384x1024 : Shape := ⟨2, ![384, 1024]⟩
abbrev S1024x256 : Shape := ⟨2, ![1024, 256]⟩
abbrev S384x256 : Shape := ⟨2, ![384, 256]⟩
abbrev S1x256 : Shape := ⟨2, ![1, 256]⟩
abbrev S1x384x256 : Shape := ⟨3, ![1, 384, 256]⟩
abbrev S384x2048 : Shape := ⟨2, ![384, 2048]⟩
abbrev S256x2048 : Shape := ⟨2, ![256, 2048]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S4x8x1024 : Shape := ⟨3, ![4, 8, 1024]⟩

abbrev nBuf : Space → Nat
  | .hbm => 34
  | .vmem => 32
  | .smem => 7
  | _ => 0

abbrev bufTy : (tb : Table) → Fin (tcTables nBuf tb) → BufTy
  | .hbm, ⟨0, _⟩ => ⟨S16x384x1024, .bf16⟩
  | .hbm, ⟨1, _⟩ => ⟨S16x384x1024, .bf16⟩
  | .hbm, ⟨2, _⟩ => ⟨S16, .i32⟩
  | .hbm, ⟨3, _⟩ => ⟨S16x384x1024, .fp8e4m3⟩
  | .hbm, ⟨4, _⟩ => ⟨S16x384x1024, .fp8e4m3⟩
  | .hbm, ⟨5, _⟩ => ⟨S16x384x1024, .fp8e5m2⟩
  | .hbm, ⟨6, _⟩ => ⟨S16x384x2048, .fp8e5m2⟩
  | .hbm, ⟨7, _⟩ => ⟨S1024, .f32⟩
  | .hbm, ⟨8, _⟩ => ⟨S1024x2048, .fp8e4m3⟩
  | .hbm, ⟨9, _⟩ => ⟨S_, .f32⟩
  | .hbm, ⟨10, _⟩ => ⟨S1024x1024, .fp8e4m3⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S1x1, .f32⟩
  | .hbm, ⟨22, _⟩ => ⟨S1x1, .f32⟩
  | .hbm, ⟨23, _⟩ => ⟨S1x1024, .f32⟩
  | .hbm, ⟨24, _⟩ => ⟨S1x1024, .f32⟩
  | .hbm, ⟨25, _⟩ => ⟨S16x384x1024, .bf16⟩
  | .hbm, ⟨26, _⟩ => ⟨S16x384x1024, .f32⟩
  | .hbm, ⟨27, _⟩ => ⟨S16x384x1024, .f32⟩
  | .hbm, ⟨28, _⟩ => ⟨S16x384x1024, .f32⟩
  | .hbm, ⟨29, _⟩ => ⟨S16x384x1024, .bf16⟩
  | .hbm, ⟨30, _⟩ => ⟨S1024x2048, .f32⟩
  | .hbm, ⟨31, _⟩ => ⟨S1024x1024, .f32⟩
  | .hbm, ⟨32, _⟩ => ⟨S1x1024, .f32⟩
  | .hbm, ⟨33, _⟩ => ⟨S1x1024, .f32⟩
  | .local _ .vmem, ⟨0, _⟩ => ⟨S1x384x1024, .bf16⟩
  | .local _ .vmem, ⟨1, _⟩ => ⟨S1x384x1024, .bf16⟩
  | .local _ .vmem, ⟨2, _⟩ => ⟨S1x384x1024, .bf16⟩
  | .local _ .vmem, ⟨3, _⟩ => ⟨S1x384x1024, .bf16⟩
  | .local _ .vmem, ⟨4, _⟩ => ⟨S1x384x1024, .fp8e4m3⟩
  | .local _ .vmem, ⟨5, _⟩ => ⟨S1x384x1024, .fp8e4m3⟩
  | .local _ .vmem, ⟨6, _⟩ => ⟨S1x384x1024, .fp8e4m3⟩
  | .local _ .vmem, ⟨7, _⟩ => ⟨S1x384x1024, .fp8e4m3⟩
  | .local _ .vmem, ⟨8, _⟩ => ⟨S1x384x1024, .fp8e5m2⟩
  | .local _ .vmem, ⟨9, _⟩ => ⟨S1x384x1024, .fp8e5m2⟩
  | .local _ .vmem, ⟨10, _⟩ => ⟨S1x384x2048, .fp8e5m2⟩
  | .local _ .vmem, ⟨11, _⟩ => ⟨S1x384x2048, .fp8e5m2⟩
  | .local _ .vmem, ⟨12, _⟩ => ⟨S1024x2048, .fp8e4m3⟩
  | .local _ .vmem, ⟨13, _⟩ => ⟨S1024x1024, .fp8e4m3⟩
  | .local _ .vmem, ⟨14, _⟩ => ⟨S1x1024, .f32⟩
  | .local _ .vmem, ⟨15, _⟩ => ⟨S1x1024, .f32⟩
  | .local _ .vmem, ⟨16, _⟩ => ⟨S1x384x1024, .bf16⟩
  | .local _ .vmem, ⟨17, _⟩ => ⟨S1x384x1024, .bf16⟩
  | .local _ .vmem, ⟨18, _⟩ => ⟨S1x384x1024, .f32⟩
  | .local _ .vmem, ⟨19, _⟩ => ⟨S1x384x1024, .f32⟩
  | .local _ .vmem, ⟨20, _⟩ => ⟨S1x384x1024, .f32⟩
  | .local _ .vmem, ⟨21, _⟩ => ⟨S1x384x1024, .f32⟩
  | .local _ .vmem, ⟨22, _⟩ => ⟨S1x384x1024, .f32⟩
  | .local _ .vmem, ⟨23, _⟩ => ⟨S1x384x1024, .f32⟩
  | .local _ .vmem, ⟨24, _⟩ => ⟨S1x384x1024, .bf16⟩
  | .local _ .vmem, ⟨25, _⟩ => ⟨S1x384x1024, .bf16⟩
  | .local _ .vmem, ⟨26, _⟩ => ⟨S1024x2048, .f32⟩
  | .local _ .vmem, ⟨27, _⟩ => ⟨S1024x1024, .f32⟩
  | .local _ .vmem, ⟨28, _⟩ => ⟨S1x1024, .f32⟩
  | .local _ .vmem, ⟨29, _⟩ => ⟨S1x1024, .f32⟩
  | .local _ .vmem, ⟨30, _⟩ => ⟨S8x1024, .f32⟩
  | .local _ .vmem, ⟨31, _⟩ => ⟨S8x1024, .f32⟩
  | .local _ .smem, ⟨0, _⟩ => ⟨S16, .i32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | _, _ => ⟨S16x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v8_3 : Ref sig .tc := ⟨.hbm, 28, rfl⟩
abbrev main_v8_4 : Ref sig .tc := ⟨.hbm, 29, rfl⟩
abbrev main_v8_5 : Ref sig .tc := ⟨.hbm, 30, rfl⟩
abbrev main_v8_6 : Ref sig .tc := ⟨.hbm, 31, rfl⟩
abbrev main_v8_7 : Ref sig .tc := ⟨.hbm, 32, rfl⟩
abbrev main_v8_8 : Ref sig .tc := ⟨.hbm, 33, rfl⟩
abbrev cc0_stg7_0 : Ref sig .tc := ⟨.vmem, 0, rfl⟩
abbrev cc0_stg7_1 : Ref sig .tc := ⟨.vmem, 1, rfl⟩
abbrev cc0_stg8_0 : Ref sig .tc := ⟨.vmem, 2, rfl⟩
abbrev cc0_stg8_1 : Ref sig .tc := ⟨.vmem, 3, rfl⟩
abbrev cc0_stg9_0 : Ref sig .tc := ⟨.vmem, 4, rfl⟩
abbrev cc0_stg9_1 : Ref sig .tc := ⟨.vmem, 5, rfl⟩
abbrev cc0_stg10_0 : Ref sig .tc := ⟨.vmem, 6, rfl⟩
abbrev cc0_stg10_1 : Ref sig .tc := ⟨.vmem, 7, rfl⟩
abbrev cc0_stg11_0 : Ref sig .tc := ⟨.vmem, 8, rfl⟩
abbrev cc0_stg11_1 : Ref sig .tc := ⟨.vmem, 9, rfl⟩
abbrev cc0_stg12_0 : Ref sig .tc := ⟨.vmem, 10, rfl⟩
abbrev cc0_stg12_1 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg17_1 : Ref sig .tc := ⟨.vmem, 17, rfl⟩
abbrev cc0_stg18_0 : Ref sig .tc := ⟨.vmem, 18, rfl⟩
abbrev cc0_stg18_1 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_scratch0 : Ref sig .tc := ⟨.vmem, 30, rfl⟩
abbrev cc0_scratch1 : Ref sig .tc := ⟨.vmem, 31, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_stg6_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem23_0 : DmaSem sig := 34
abbrev cc0_sem24_0 : DmaSem sig := 35
abbrev cc0_sem25_0 : DmaSem sig := 36

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c15_i32 : BitVec 32 := 15#32
  let v1048 : BitVec 1 := Scalar.cmpi .eq arg0 c15_i32
  let v1049 : BitVec 32 := Scalar.extui v1048
  let c0_i32_644 : BitVec 32 := 0#32
  let v1050 : BitVec 1 := Scalar.cmpi .ne v1049 c0_i32_644
  v1050

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x384x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x384x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x384x1024 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x384x2048 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x2048 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x384x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x384x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x384x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x384x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x384x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1024x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== RefOutIdeal.lean ====
abbrev S16x384x1024 : Shape := ⟨3, ![16, 384, 1024]⟩
abbrev S16 : Shape := ⟨1, ![16]⟩
abbrev S16x384x2048 : Shape := ⟨3, ![16, 384, 2048]⟩
abbrev S1024 : Shape := ⟨1, ![1024]⟩
abbrev S1024x2048 : Shape := ⟨2, ![1024, 2048]⟩
abbrev S_ : Shape := ⟨0, ![]⟩
abbrev S1024x1024 : Shape := ⟨2, ![1024, 1024]⟩
abbrev S384 : Shape := ⟨1, ![384]⟩
abbrev S1x384 : Shape := ⟨2, ![1, 384]⟩
abbrev S16x1 : Shape := ⟨2, ![16, 1]⟩
abbrev S16x384 : Shape := ⟨2, ![16, 384]⟩
abbrev S16x384x1 : Shape := ⟨3, ![16, 384, 1]⟩
abbrev S1x1 : Shape := ⟨2, ![1, 1]⟩
abbrev S1x1x1024 : Shape := ⟨3, ![1, 1, 1024]⟩
abbrev S1x1024 : Shape := ⟨2, ![1, 1024]⟩
abbrev S6144x1024 : Shape := ⟨2, ![6144, 1024]⟩
abbrev S6144x2048 : Shape := ⟨2, ![6144, 2048]⟩

abbrev nBuf : Space → Nat
  | .hbm => 42
  | .vmem => 20
  | .smem => 6
  | _ => 0

abbrev bufTy : (tb : Table) → Fin (tcTables nBuf tb) → BufTy
  | .hbm, ⟨0, _⟩ => ⟨S16x384x1024, .bf16⟩
  | .hbm, ⟨1, _⟩ => ⟨S16x384x1024, .bf16⟩
  | .hbm, ⟨2, _⟩ => ⟨S16, .i32⟩
  | .hbm, ⟨3, _⟩ => ⟨S16x384x1024, .fp8e4m3⟩
  | .hbm, ⟨4, _⟩ => ⟨S16x384x1024, .fp8e4m3⟩
  | .hbm, ⟨5, _⟩ => ⟨S16x384x1024, .fp8e5m2⟩
  | .hbm, ⟨6, _⟩ => ⟨S16x384x2048, .fp8e5m2⟩
  | .hbm, ⟨7, _⟩ => ⟨S1024, .f32⟩
  | .hbm, ⟨8, _⟩ => ⟨S1024x2048, .fp8e4m3⟩
  | .hbm, ⟨9, _⟩ => ⟨S_, .f32⟩
  | .hbm, ⟨10, _⟩ => ⟨S1024x1024, .fp8e4m3⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S384, .i32⟩
  | .hbm, ⟨18, _⟩ => ⟨S1x384, .i32⟩
  | .hbm, ⟨19, _⟩ => ⟨S16x1, .i32⟩
  | .hbm, ⟨20, _⟩ => ⟨S16x384, .i32⟩
  | .hbm, ⟨21, _⟩ => ⟨S16x384, .i32⟩
  | .hbm, ⟨22, _⟩ => ⟨S16x384, .i1⟩
  | .hbm, ⟨23, _⟩ => ⟨S16x384, .f32⟩
  | .hbm, ⟨24, _⟩ => ⟨S16x384x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S1x1, .f32⟩
  | .hbm, ⟨31, _⟩ => ⟨S1x1x1024, .f32⟩
  | .hbm, ⟨32, _⟩ => ⟨S1x1024, .f32⟩
  | .hbm, ⟨33, _⟩ => ⟨S16x384x1024, .bf16⟩
  | .hbm, ⟨34, _⟩ => ⟨S16x384x1024, .f32⟩
  | .hbm, ⟨35, _⟩ => ⟨S16x384x1024, .f32⟩
  | .hbm, ⟨36, _⟩ => ⟨S16x384x1024, .f32⟩
  | .hbm, ⟨37, _⟩ => ⟨S16x384x1024, .bf16⟩
  | .hbm, ⟨38, _⟩ => ⟨S1024x2048, .f32⟩
  | .hbm, ⟨39, _⟩ => ⟨S1024x1024, .f32⟩
  | .hbm, ⟨40, _⟩ => ⟨S1x1024, .f32⟩
  | .hbm, ⟨41, _⟩ => ⟨S1x1024, .f32⟩
  | .local _ .vmem, ⟨0, _⟩ => ⟨S16x384x1, .f32⟩
  | .local _ .vmem, ⟨1, _⟩ => ⟨S16x384x1024, .bf16⟩
  | .local _ .vmem, ⟨2, _⟩ => ⟨S16x384x1024, .bf16⟩
  | .local _ .vmem, ⟨3, _⟩ => ⟨S16x384x1024, .fp8e4m3⟩
  | .local _ .vmem, ⟨4, _⟩ => ⟨S16x384x1024, .fp8e4m3⟩
  | .local _ .vmem, ⟨5, _⟩ => ⟨S16x384x1024, .fp8e5m2⟩
  | .local _ .vmem, ⟨6, _⟩ => ⟨S16x384x2048, .fp8e5m2⟩
  | .local _ .vmem, ⟨7, _⟩ => ⟨S1x1x1024, .f32⟩
  | .local _ .vmem, ⟨8, _⟩ => ⟨S1024x2048, .fp8e4m3⟩
  | .local _ .vmem, ⟨9, _⟩ => ⟨S1024x1024, .fp8e4m3⟩
  | .local _ .vmem, ⟨10, _⟩ => ⟨S1x1024, .f32⟩
  | .local _ .vmem, ⟨11, _⟩ => ⟨S16x384x1024, .bf16⟩
  | .local _ .vmem, ⟨12, _⟩ => ⟨S16x384x1024, .f32⟩
  | .local _ .vmem, ⟨13, _⟩ => ⟨S16x384x1024, .f32⟩
  | .local _ .vmem, ⟨14, _⟩ => ⟨S16x384x1024, .f32⟩
  | .local _ .vmem, ⟨15, _⟩ => ⟨S16x384x1024, .bf16⟩
  | .local _ .vmem, ⟨16, _⟩ => ⟨S1024x2048, .f32⟩
  | .local _ .vmem, ⟨17, _⟩ => ⟨S1024x1024, .f32⟩
  | .local _ .vmem, ⟨18, _⟩ => ⟨S1x1024, .f32⟩
  | .local _ .vmem, ⟨19, _⟩ => ⟨S1x1024, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | _, _ => ⟨S16x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev main_v16_5 : Ref sig .tc := ⟨.hbm, 38, rfl⟩
abbrev main_v16_6 : Ref sig .tc := ⟨.hbm, 39, rfl⟩
abbrev main_v16_7 : Ref sig .tc := ⟨.hbm, 40, rfl⟩
abbrev main_v16_8 : Ref sig .tc := ⟨.hbm, 41, rfl⟩
abbrev cc0_stg0_0 : Ref sig .tc := ⟨.vmem, 0, rfl⟩
abbrev cc0_stg7_0 : Ref sig .tc := ⟨.vmem, 1, rfl⟩
abbrev cc0_stg8_0 : Ref sig .tc := ⟨.vmem, 2, rfl⟩
abbrev cc0_stg9_0 : Ref sig .tc := ⟨.vmem, 3, rfl⟩
abbrev cc0_stg10_0 : Ref sig .tc := ⟨.vmem, 4, rfl⟩
abbrev cc0_stg11_0 : Ref sig .tc := ⟨.vmem, 5, rfl⟩
abbrev cc0_stg12_0 : Ref sig .tc := ⟨.vmem, 6, rfl⟩
abbrev cc0_stg13_0 : Ref sig .tc := ⟨.vmem, 7, rfl⟩
abbrev cc0_stg14_0 : Ref sig .tc := ⟨.vmem, 8, rfl⟩
abbrev cc0_stg15_0 : Ref sig .tc := ⟨.vmem, 9, rfl⟩
abbrev cc0_stg16_0 : Ref sig .tc := ⟨.vmem, 10, rfl⟩
abbrev cc0_stg17_0 : Ref sig .tc := ⟨.vmem, 11, rfl⟩
abbrev cc0_stg18_0 : Ref sig .tc := ⟨.vmem, 12, rfl⟩
abbrev cc0_stg19_0 : Ref sig .tc := ⟨.vmem, 13, rfl⟩
abbrev cc0_stg20_0 : Ref sig .tc := ⟨.vmem, 14, rfl⟩
abbrev cc0_stg21_0 : Ref sig .tc := ⟨.vmem, 15, rfl⟩
abbrev cc0_stg22_0 : Ref sig .tc := ⟨.vmem, 16, rfl⟩
abbrev cc0_stg23_0 : Ref sig .tc := ⟨.vmem, 17, rfl⟩
abbrev cc0_stg24_0 : Ref sig .tc := ⟨.vmem, 18, rfl⟩
abbrev cc0_stg25_0 : Ref sig .tc := ⟨.vmem, 19, rfl⟩
abbrev cc0_stg1_0 : Ref sig .tc := ⟨.smem, 0, rfl⟩
abbrev cc0_stg2_0 : Ref sig .tc := ⟨.smem, 1, rfl⟩
abbrev cc0_stg3_0 : Ref sig .tc := ⟨.smem, 2, rfl⟩
abbrev cc0_stg4_0 : Ref sig .tc := ⟨.smem, 3, rfl⟩
abbrev cc0_stg5_0 : Ref sig .tc := ⟨.smem, 4, rfl⟩
abbrev cc0_stg6_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := .none

abbrev stage0_0 : Fin 1 → Memref sig .tc .vmem S16x384x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x384x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x384x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x384x1024 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x384x2048 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x2048 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x1024 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x384x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x384x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S16x384x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S16x384x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S16x384x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1024x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
-- ==== Proof.Spec.lean ====
/-
  The layer norm of one row over the extended reals, and the few facts about extended reals the two claims share: the
  reciprocal square root of the plain mathematics, running maxima and sums over rows cut into chunks of eight.
-/
module

public import Idealize.ShloMosaic.Lib.Pipeline.ValueKit
public import Idealize.ShloMosaic.Lib.Pointwise

@[expose] public section

set_option maxRecDepth 16384

noncomputable section

open Idealize.ShloMosaic
open scoped BigOperators

namespace Cert.Spec

/-- The row length, as both programs spell it: the f32 word of 1024. -/
abbrev n1024 : EReal := Ideal.ofBits .f32 0x44800000#32
/-- The layer norm's epsilon, as both programs spell it. -/
abbrev eps : EReal := Ideal.ofBits .f32 0x3727C5AC#32

/-- The mean of a row. -/
def rmean (x : Fin 1024 → EReal) : EReal := Ideal.div (∑ k, x k) n1024
/-- The centred row. -/
def rcen (x : Fin 1024 → EReal) (k : Fin 1024) : EReal := x k - rmean x
/-- The variance of a row. -/
def rvar (x : Fin 1024 → EReal) : EReal := Ideal.div (∑ k, rcen x k * rcen x k) n1024
/-- The reciprocal standard deviation of a row. -/
def rstd (x : Fin 1024 → EReal) : EReal := Ideal.rsqrt (rvar x + eps)
/-- The normalised row. -/
def rhat (x : Fin 1024 → EReal) (k : Fin 1024) : EReal := rcen x k * rstd x
/-- The layer norm of a row. -/
def rln (x g b : Fin 1024 → EReal) (k : Fin 1024) : EReal := rhat x k * g k + b k

theorem n1024_eq : n1024 = ((1024 : ℝ) : EReal) := by
  simp [n1024, Ideal.ofBits, Ideal.ieee, -EReal.coe_mul, ← EReal.coe_mul]
  norm_num

theorem eps_pos : 0 < eps := by
  simp [eps, Ideal.ofBits, Ideal.ieee, -EReal.coe_mul, ← EReal.coe_mul]
  try (rw [← EReal.coe_zero]; apply EReal.coe_lt_coe_iff.mpr; norm_num)

theorem mul_self_nonneg (x : EReal) : 0 ≤ x * x := by
  rcases le_total 0 x with h | h
  · exact mul_nonneg h h
  · exact EReal.mul_nonneg_iff.mpr (.inr ⟨h, h⟩)

theorem div_n1024_nonneg {x : EReal} (h : 0 ≤ x) : 0 ≤ Ideal.div x n1024 := by
  rw [n1024_eq]
  unfold Ideal.div
  rw [if_neg (by norm_num)]
  exact mul_nonneg h (EReal.inv_nonneg_of_nonneg (by norm_num))

theorem rvar_eps_pos (x : Fin 1024 → EReal) : 0 < rvar x + eps :=
  lt_of_lt_of_le eps_pos (le_add_of_nonneg_left (div_n1024_nonneg (Finset.sum_nonneg fun k _ => mul_self_nonneg _)))

/-- Of a positive argument one over the square root is the reciprocal square root, at infinity too. -/
theorem one_div_sqrt {v : EReal} (h : 0 < v) : Ideal.div 1 (Ideal.sqrt v) = Ideal.rsqrt v := by
  induction v with
  | bot => simp at h
  | top =>
    rw [show Ideal.sqrt ⊤ = ⊤ from rfl, show Ideal.rsqrt ⊤ = 0 from rfl]
    simp [Ideal.div]
  | coe r =>
    have hr : 0 < r := by exact_mod_cast h
    have hs : ((Real.sqrt r : ℝ) : EReal) ≠ 0 := by exact_mod_cast (Real.sqrt_pos.mpr hr).ne'
    have e1 : Ideal.sqrt (r : EReal) = ((Real.sqrt r : ℝ) : EReal) := if_neg (not_lt.mpr hr.le)
    have e2 : Ideal.rsqrt (r : EReal) = (((Real.sqrt r)⁻¹ : ℝ) : EReal) :=
      (if_neg (not_lt.mpr hr.le)).trans (if_neg hr.ne')
    rw [e1, e2]
    unfold Ideal.div
    rw [if_neg hs, one_mul, EReal.coe_inv]

theorem rstd_eq (x : Fin 1024 → EReal) : Ideal.div 1 (Ideal.sqrt (rvar x + eps)) = rstd x := one_div_sqrt (rvar_eps_pos x)

/-- A fold of maxima stays under a bound when its start and every entry do. -/
theorem foldmax_le {ι : Type} (s : Finset ι) (a c : EReal) (f : ι → EReal) :
    s.fold max a f ≤ c ↔ a ≤ c ∧ ∀ i ∈ s, f i ≤ c := Finset.fold_max_le c

/-- The fold's start, the word of minus infinity. -/
theorem ofBits_neg_inf : Ideal.ofBits .f32 0xFF800000#32 = ⊥ := by
  simp [Ideal.ofBits, Ideal.ieee]

/-- The absolute value of an extended real. -/
abbrev eabs (x : EReal) : EReal := FloatOps.absf (F := Ideal) (φ := .f32) x

/-- Clip to the range of the e4m3 codes. -/
def clip4 (v : EReal) : EReal := min (Ideal.ofBits .f32 0x43E00000#32) (max (Ideal.ofBits .f32 0xC3E00000#32) v)
/-- Clip to the range of the e5m2 codes. -/
def clip5 (v : EReal) : EReal := min (Ideal.ofBits .f32 0x47600000#32) (max (Ideal.ofBits .f32 0xC7600000#32) v)

/-! ## The values of "rows_in", over plain functions of the coordinates -/

section RowsIn
variable (x : Fin 16 → Fin 384 → Fin 1024 → EReal) (dy : Fin 16 → Fin 384 → Fin 1024 → EReal) (len : Fin 16 → BitVec 32)
  (g b : Fin 1024 → EReal) (s : EReal)

/-- The e4m3 codes of the normalised rows. -/
def xcode (i : Fin 16) (r : Fin 384) (k : Fin 1024) : EReal := clip4 (Ideal.div (rln (x i r) g b k) s)

/-- The cotangent, zero on the rows past the sequence's length. -/
def gzv (i : Fin 16) (r : Fin 384) (k : Fin 1024) : EReal := if (r.val : ℤ) < (len i).toInt then dy i r k else 0

/-- Its e5m2 codes. -/
def gcode (i : Fin 16) (r : Fin 384) (k : Fin 1024) : EReal := clip5 (Ideal.div (gzv dy len i r k) s)

/-- The dequantised product of the codes with the rows of a weight matrix, plus a bias. -/
def hval (w : Fin 1024 → Fin 2048 → EReal) (ws : EReal) (b1 : Fin 2048 → EReal) (i : Fin 16) (r : Fin 384) (n : Fin 2048) : EReal :=
  (∑ k : Fin 1024, xcode x g b s i r k * w k n) * (s * ws) + b1 n

/-- The dequantised product of the cotangent's codes with the transposed weights. -/
def dvval (w : Fin 1024 → Fin 1024 → EReal) (ws : EReal) (i : Fin 16) (r : Fin 384) (n : Fin 1024) : EReal :=
  (∑ k : Fin 1024, gcode dy len s i r k * w n k) * (s * ws)

/-- The column sums of the cotangent over all rows. -/
def db2val (k : Fin 1024) : EReal := ∑ i : Fin 16, ∑ r : Fin 384, gzv dy len i r k

/-- The largest absolute value of an array. -/
def amaxval (v : Fin 16 → Fin 384 → Fin 1024 → EReal) : EReal :=
  Finset.univ.sup fun q : Fin 16 × Fin 384 × Fin 1024 => eabs (v q.1 q.2.1 q.2.2)

theorem amaxval_le (v : Fin 16 → Fin 384 → Fin 1024 → EReal) (c : EReal) :
    amaxval v ≤ c ↔ ∀ i r k, eabs (v i r k) ≤ c := by
  unfold amaxval
  rw [Finset.sup_le_iff]
  exact ⟨fun h i r k => h (i, r, k) (Finset.mem_univ _), fun h q _ => h _ _ _⟩

/-- A value below exactly the bounds of all absolute values is their maximum. -/
theorem eq_amaxval (v : Fin 16 → Fin 384 → Fin 1024 → EReal) (a : EReal) (h : ∀ c, a ≤ c ↔ ∀ i r k, eabs (v i r k) ≤ c) :
    a = amaxval v := eq_of_forall_ge_iff fun c => (h c).trans (amaxval_le v c).symm

/-- A sum over all 6144 rows, sequence by sequence. -/
theorem sum_rows (f : Fin 16 → Fin 384 → EReal) :
    ∑ q : Fin 6144, f ⟨q.val / 384, by omega⟩ ⟨q.val % 384, by omega⟩ = ∑ i : Fin 16, ∑ r : Fin 384, f i r := by
  rw [← Fintype.sum_prod_type', ← (finProdFinEquiv (m := 16) (n := 384)).symm.sum_comp]
  rfl

end RowsIn

/-! ## The values of "rows_out", over plain functions of the coordinates -/

section RowsOut
variable (x : Fin 16 → Fin 384 → Fin 1024 → EReal) (dy : Fin 16 → Fin 384 → Fin 1024 → EReal) (len : Fin 16 → BitVec 32)
  (xc vc gc : Fin 16 → Fin 384 → Fin 1024 → EReal) (dhc : Fin 16 → Fin 384 → Fin 2048 → EReal) (g : Fin 1024 → EReal)

/-- The second projection, from the codes. -/
def zval (w : Fin 1024 → Fin 1024 → EReal) (sv ws : EReal) (b2 : Fin 1024 → EReal) (i : Fin 16) (r : Fin 384) (n : Fin 1024) : EReal :=
  (∑ k : Fin 1024, vc i r k * w k n) * (sv * ws) + b2 n

/-- The output: the input plus the projection on the rows inside the sequence. -/
def yval (w : Fin 1024 → Fin 1024 → EReal) (sv ws : EReal) (b2 : Fin 1024 → EReal) (i : Fin 16) (r : Fin 384) (n : Fin 1024) : EReal :=
  x i r n + if (r.val : ℤ) < (len i).toInt then zval vc w sv ws b2 i r n else 0

/-- The gradient of the second weights. -/
def dw2val (sv sg : EReal) (a n : Fin 1024) : EReal := (∑ i : Fin 16, ∑ r : Fin 384, vc i r a * gc i r n) * (sv * sg)

/-- The gradient of the first weights. -/
def dw1val (sx sd : EReal) (a : Fin 1024) (n : Fin 2048) : EReal := (∑ i : Fin 16, ∑ r : Fin 384, xc i r a * dhc i r n) * (sx * sd)

/-- The cotangent of the normalised rows. -/
def dxnval (w : Fin 1024 → Fin 2048 → EReal) (sd ws : EReal) (i : Fin 16) (r : Fin 384) (k : Fin 1024) : EReal :=
  (∑ n : Fin 2048, dhc i r n * w k n) * (sd * ws)

/-- The gradient of the layer norm's offset: column sums. -/
def dlnbval (dxn : Fin 16 → Fin 384 → Fin 1024 → EReal) (k : Fin 1024) : EReal := ∑ i : Fin 16, ∑ r : Fin 384, dxn i r k

/-- The gradient of the layer norm's scale. -/
def dlngval (dxn : Fin 16 → Fin 384 → Fin 1024 → EReal) (k : Fin 1024) : EReal :=
  ∑ i : Fin 16, ∑ r : Fin 384, dxn i r k * rhat (x i r) k

/-- The layer norm's gradient for one row, from the row and the cotangent's row. -/
def lngrad (xr d : Fin 1024 → EReal) (g : Fin 1024 → EReal) (k : Fin 1024) : EReal :=
  rstd xr * (d k * g k - rmean (fun q => d q * g q) - rhat xr k * rmean (fun q => d q * g q * rhat xr q))

end RowsOut

end Cert.Spec

end
-- ==== Proof.InPay.lean ====
/-
  The values the body of the call "rows_in" computes, read at an index. The body repeats one text for twelve chunks of
  thirty-two rows, eight column chunks of the first product and four of the second: each repeated value is one function
  of its chunk, and each function is read once.
-/
module

public import proofs.«01_k».proof.Proof.Gen.RowsInIdeal.Skeleton
public import proofs.«01_k».proof.Proof.Spec
public import Idealize.ShloMosaic.Lib.WordArith
public import Idealize.ShloMosaic.Lib.WordCmp

@[expose] public section

set_option maxRecDepth 16384

noncomputable section

open Idealize.ShloMosaic Idealize.ShloMosaic.TcCoe Idealize.SL.Sem
open Cert.Spec

namespace Cert.RowsInIdeal.Pay
open Cert.RowsInIdeal Cert.RowsInIdeal.Gen

/-! ## The functions of one chunk -/

/-- The masked gradient of a chunk whose first row is `off`. -/
def gzc (off : BitVec 32) (v1 : Elt Ideal .i32) (x : Vec Ideal S1x32x1024 .bf16) : FVec Ideal S32x1024 .f32 :=
  select (broadcastTo S32x1024 (shapeCast S32x1 (cmpi .slt (iota .tc S32x1 32 [0] iota_S32x1_d0_w32)
      (broadcast S32x1 (Scalar.subi v1 off))) shapeCasts_S32x1_S32x1) broadcasts_S32x1_S32x1024)
    (extf .f32 (shapeCast S32x1024 x shapeCasts_S1x32x1024_S32x1024) bitsLt_bf16_f32)
    (broadcast S32x1024 (Scalar.ofBits (F := Ideal) .f32 0x00000000#32))

/-- The running maximum of eight row classes, taken over a chunk. -/
def maxc (g : FVec Ideal S32x1024 .f32) (v : Vec Ideal S8x1024 .f32) : FVec Ideal S8x1024 .f32 :=
  shapeCast S8x1024 (maximumf v (multiReduction .maximumf [0] S8x1024 (shapeCast S4x8x1024 (absf g)
    shapeCasts_S32x1024_S4x8x1024) 0xFF800000#32 reduces_S4x8x1024_S8x1024 (.inl rfl) rfl)) shapeCasts_S8x1024_S8x1024

/-- The running sum of eight row classes, taken over a chunk. -/
def sumc (g : FVec Ideal S32x1024 .f32) (v : Vec Ideal S8x1024 .f32) : FVec Ideal S8x1024 .f32 :=
  shapeCast S8x1024 (addf v (multiReduction .add [0] S8x1024 (shapeCast S4x8x1024 g
    shapeCasts_S32x1024_S4x8x1024) 0x00000000#32 reduces_S4x8x1024_S8x1024 (.inl rfl) rfl)) shapeCasts_S8x1024_S8x1024

/-! ## Every printed value is one of them -/

theorem xmax0 (g b : Vec Ideal S1x1024 .f32) (x : Vec Ideal S1x32x1024 .bf16) (v : Vec Ideal S8x1024 .f32) :
    k0_pay12 v (k0_pay11 g b x) = maxc (k0_pay10 g b x) v := rfl
theorem gz0 (l : Elt Ideal .i32) (y : Vec Ideal S1x32x1024 .bf16) : k0_pay14 l y = gzc 0#32 l y := rfl
theorem gmax0 (l : Elt Ideal .i32) (y : Vec Ideal S1x32x1024 .bf16) (v : Vec Ideal S8x1024 .f32) :
    k0_pay15 l y v = maxc (gzc 0#32 l y) v := rfl
theorem gsum0 (l : Elt Ideal .i32) (y : Vec Ideal S1x32x1024 .bf16) (v : Vec Ideal S8x1024 .f32) :
    k0_pay17 v (k0_pay16 l y) = sumc (gzc 0#32 l y) v := rfl
theorem xn1 (g b : Vec Ideal S1x1024 .f32) (x : Vec Ideal S1x32x1024 .bf16) :
    k0_pay19 (k0_pay8 g) (k0_pay9 b) x = k0_pay10 g b x := rfl
theorem xmax1 (g b : Vec Ideal S1x1024 .f32) (x : Vec Ideal S1x32x1024 .bf16) (v : Vec Ideal S8x1024 .f32) :
    k0_pay21 v (k0_pay20 (k0_pay8 g) (k0_pay9 b) x) = maxc (k0_pay10 g b x) v := rfl
theorem xcode1 (s : Elt Ideal .f32) (v : FVec Ideal S32x1024 .f32) :
    k0_pay22 s v = k0_pay13 s v := rfl
theorem gz1 (l : Elt Ideal .i32) (y : Vec Ideal S1x32x1024 .bf16) : k0_pay23 l y = gzc 32#32 l y := rfl
theorem gmax1 (l : Elt Ideal .i32) (y : Vec Ideal S1x32x1024 .bf16) (v : Vec Ideal S8x1024 .f32) :
    k0_pay24 l y v = maxc (gzc 32#32 l y) v := rfl
theorem gsum1 (l : Elt Ideal .i32) (y : Vec Ideal S1x32x1024 .bf16) (v : Vec Ideal S8x1024 .f32) :
    k0_pay26 v (k0_pay25 l y) = sumc (gzc 32#32 l y) v := rfl
theorem gcode1 (s : Elt Ideal .f32) (v : FVec Ideal S32x1024 .f32) :
    k0_pay27 s v = k0_pay18 s v := rfl
theorem xn2 (g b : Vec Ideal S1x1024 .f32) (x : Vec Ideal S1x32x1024 .bf16) :
    k0_pay28 (k0_pay8 g) (k0_pay9 b) x = k0_pay10 g b x := rfl
theorem xmax2 (g b : Vec Ideal S1x1024 .f32) (x : Vec Ideal S1x32x1024 .bf16) (v : Vec Ideal S8x1024 .f32) :
    k0_pay30 v (k0_pay29 (k0_pay8 g) (k0_pay9 b) x) = maxc (k0_pay10 g b x) v := rfl
theorem xcode2 (s : Elt Ideal .f32) (v : FVec Ideal S32x1024 .f32) :
    k0_pay31 s v = k0_pay13 s v := rfl
theorem gz2 (l : Elt Ideal .i32) (y : Vec Ideal S1x32x1024 .bf16) : k0_pay32 l y = gzc 64#32 l y := rfl
theorem gmax2 (l : Elt Ideal .i32) (y : Vec Ideal S1x32x1024 .bf16) (v : Vec Ideal S8x1024 .f32) :
    k0_pay33 l y v = maxc (gzc 64#32 l y) v := rfl
theorem gsum2 (l : Elt Ideal .i32) (y : Vec Ideal S1x32x1024 .bf16) (v : Vec Ideal S8x1024 .f32) :
    k0_pay35 v (k0_pay34 l y) = sumc (gzc 64#32 l y) v := rfl
theorem gcode2 (s : Elt Ideal .f32) (v : FVec Ideal S32x1024 .f32) :
    k0_pay36 s v = k0_pay18 s v := rfl
theorem xn3 (g b : Vec Ideal S1x1024 .f32) (x : Vec Ideal S1x32x1024 .bf16) :
    k0_pay37 (k0_pay8 g) (k0_pay9 b) x = k0_pay10 g b x := rfl
theorem xmax3 (g b : Vec Ideal S1x1024 .f32) (x : Vec Ideal S1x32x1024 .bf16) (v : Vec Ideal S8x1024 .f32) :
    k0_pay39 v (k0_pay38 (k0_pay8 g) (k0_pay9 b) x) = maxc (k0_pay10 g b x) v := rfl
theorem xcode3 (s : Elt Ideal .f32) (v : FVec Ideal S32x1024 .f32) :
    k0_pay40 s v = k0_pay13 s v := rfl
theorem gz3 (l : Elt Ideal .i32) (y : Vec Ideal S1x32x1024 .bf16) : k0_pay41 l y = gzc 96#32 l y := rfl
theorem gmax3 (l : Elt Ideal .i32) (y : Vec Ideal S1x32x1024 .bf16) (v : Vec Ideal S8x1024 .f32) :
    k0_pay42 l y v = maxc (gzc 96#32 l y) v := rfl
theorem gsum3 (l : Elt Ideal .i32) (y : Vec Ideal S1x32x1024 .bf16) (v : Vec Ideal S8x1024 .f32) :
    k0_pay44 v (k0_pay43 l y) = sumc (gzc 96#32 l y) v := rfl
theorem gcode3 (s : Elt Ideal .f32) (v : FVec Ideal S32x1024 .f32) :
    k0_pay45 s v = k0_pay18 s v := rfl
theorem xn4 (g b : Vec Ideal S1x1024 .f32) (x : Vec Ideal S1x32x1024 .bf16) :
    k0_pay46 (k0_pay8 g) (k0_pay9 b) x = k0_pay10 g b x := rfl
theorem xmax4 (g b : Vec Ideal S1x1024 .f32) (x : Vec Ideal S1x32x1024 .bf16) (v : Vec Ideal S8x1024 .f32) :
    k0_pay48 v (k0_pay47 (k0_pay8 g) (k0_pay9 b) x) = maxc (k0_pay10 g b x) v := rfl
theorem xcode4 (s : Elt Ideal .f32) (v : FVec Ideal S32x1024 .f32) :
    k0_pay49 s v = k0_pay13 s v := rfl
theorem gz4 (l : Elt Ideal .i32) (y : Vec Ideal S1x32x1024 .bf16) : k0_pay50 l y = gzc 128#32 l y := rfl
theorem gmax4 (l : Elt Ideal .i32) (y : Vec Ideal S1x32x1024 .bf16) (v : Vec Ideal S8x1024 .f32) :
    k0_pay51 l y v = maxc (gzc 128#32 l y) v := rfl
theorem gsum4 (l : Elt Ideal .i32) (y : Vec Ideal S1x32x1024 .bf16) (v : Vec Ideal S8x1024 .f32) :
    k0_pay53 v (k0_pay52 l y) = sumc (gzc 128#32 l y) v := rfl
theorem gcode4 (s : Elt Ideal .f32) (v : FVec Ideal S32x1024 .f32) :
    k0_pay54 s v = k0_pay18 s v := rfl
theorem xn5 (g b : Vec Ideal S1x1024 .f32) (x : Vec Ideal S1x32x1024 .bf16) :
    k0_pay55 (k0_pay8 g) (k0_pay9 b) x = k0_pay10 g b x := rfl
theorem xmax5 (g b : Vec Ideal S1x1024 .f32) (x : Vec Ideal S1x32x1024 .bf16) (v : Vec Ideal S8x1024 .f32) :
    k0_pay57 v (k0_pay56 (k0_pay8 g) (k0_pay9 b) x) = maxc (k0_pay10 g b x) v := rfl
theorem xcode5 (s : Elt Ideal .f32) (v : FVec Ideal S32x1024 .f32) :
    k0_pay58 s v = k0_pay13 s v := rfl
theorem gz5 (l : Elt Ideal .i32) (y : Vec Ideal S1x32x1024 .bf16) : k0_pay59 l y = gzc 160#32 l y := rfl
theorem gmax5 (l : Elt Ideal .i32) (y : Vec Ideal S1x32x1024 .bf16) (v : Vec Ideal S8x1024 .f32) :
    k0_pay60 l y v = maxc (gzc 160#32 l y) v := rfl
theorem gsum5 (l : Elt Ideal .i32) (y : Vec Ideal S1x32x1024 .bf16) (v : Vec Ideal S8x1024 .f32) :
    k0_pay62 v (k0_pay61 l y) = sumc (gzc 160#32 l y) v := rfl
theorem gcode5 (s : Elt Ideal .f32) (v : FVec Ideal S32x1024 .f32) :
    k0_pay63 s v = k0_pay18 s v := rfl
theorem xn6 (g b : Vec Ideal S1x1024 .f32) (x : Vec Ideal S1x32x1024 .bf16) :
    k0_pay64 (k0_pay8 g) (k0_pay9 b) x = k0_pay10 g b x := rfl
theorem xmax6 (g b : Vec Ideal S1x1024 .f32) (x : Vec Ideal S1x32x1024 .bf16) (v : Vec Ideal S8x1024 .f32) :
    k0_pay66 v (k0_pay65 (k0_pay8 g) (k0_pay9 b) x) = maxc (k0_pay10 g b x) v := rfl
theorem xcode6 (s : Elt Ideal .f32) (v : FVec Ideal S32x1024 .f32) :
    k0_pay67 s v = k0_pay13 s v := rfl
theorem gz6 (l : Elt Ideal .i32) (y : Vec Ideal S1x32x1024 .bf16) : k0_pay68 l y = gzc 192#32 l y := rfl
theorem gmax6 (l : Elt Ideal .i32) (y : Vec Ideal S1x32x1024 .bf16) (v : Vec Ideal S8x1024 .f32) :
    k0_pay69 l y v = maxc (gzc 192#32 l y) v := rfl
theorem gsum6 (l : Elt Ideal .i32) (y : Vec Ideal S1x32x1024 .bf16) (v : Vec Ideal S8x1024 .f32) :
    k0_pay71 v (k0_pay70 l y) = sumc (gzc 192#32 l y) v := rfl
theorem gcode6 (s : Elt Ideal .f32) (v : FVec Ideal S32x1024 .f32) :
    k0_pay72 s v = k0_pay18 s v := rfl
theorem xn7 (g b : Vec Ideal S1x1024 .f32) (x : Vec Ideal S1x32x1024 .bf16) :
    k0_pay73 (k0_pay8 g) (k0_pay9 b) x = k0_pay10 g b x := rfl
theorem xmax7 (g b : Vec Ideal S1x1024 .f32) (x : Vec Ideal S1x32x1024 .bf16) (v : Vec Ideal S8x1024 .f32) :
    k0_pay75 v (k0_pay74 (k0_pay8 g) (k0_pay9 b) x) = maxc (k0_pay10 g b x) v := rfl
theorem xcode7 (s : Elt Ideal .f32) (v : FVec Ideal S32x1024 .f32) :
    k0_pay76 s v = k0_pay13 s v := rfl
theorem gz7 (l : Elt Ideal .i32) (y : Vec Ideal S1x32x1024 .bf16) : k0_pay77 l y = gzc 224#32 l y := rfl
theorem gmax7 (l : Elt Ideal .i32) (y : Vec Ideal S1x32x1024 .bf16) (v : Vec Ideal S8x1024 .f32) :
    k0_pay78 l y v = maxc (gzc 224#32 l y) v := rfl
theorem gsum7 (l : Elt Ideal .i32) (y : Vec Ideal S1x32x1024 .bf16) (v : Vec Ideal S8x1024 .f32) :
    k0_pay80 v (k0_pay79 l y) = sumc (gzc 224#32 l y) v := rfl
theorem gcode7 (s : Elt Ideal .f32) (v : FVec Ideal S32x1024 .f32) :
    k0_pay81 s v = k0_pay18 s v := rfl
theorem xn8 (g b : Vec Ideal S1x1024 .f32) (x : Vec Ideal S1x32x1024 .bf16) :
    k0_pay82 (k0_pay8 g) (k0_pay9 b) x = k0_pay10 g b x := rfl
theorem xmax8 (g b : Vec Ideal S1x1024 .f32) (x : Vec Ideal S1x32x1024 .bf16) (v : Vec Ideal S8x1024 .f32) :
    k0_pay84 v (k0_pay83 (k0_pay8 g) (k0_pay9 b) x) = maxc (k0_pay10 g b x) v := rfl
theorem xcode8 (s : Elt Ideal .f32) (v : FVec Ideal S32x1024 .f32) :
    k0_pay85 s v = k0_pay13 s v := rfl
theorem gz8 (l : Elt Ideal .i32) (y : Vec Ideal S1x32x1024 .bf16) : k0_pay86 l y = gzc 256#32 l y := rfl
theorem gmax8 (l : Elt Ideal .i32) (y : Vec Ideal S1x32x1024 .bf16) (v : Vec Ideal S8x1024 .f32) :
    k0_pay87 l y v = maxc (gzc 256#32 l y) v := rfl
theorem gsum8 (l : Elt Ideal .i32) (y : Vec Ideal S1x32x1024 .bf16) (v : Vec Ideal S8x1024 .f32) :
    k0_pay89 v (k0_pay88 l y) = sumc (gzc 256#32 l y) v := rfl
theorem gcode8 (s : Elt Ideal .f32) (v : FVec Ideal S32x1024 .f32) :
    k0_pay90 s v = k0_pay18 s v := rfl
theorem xn9 (g b : Vec Ideal S1x1024 .f32) (x : Vec Ideal S1x32x1024 .bf16) :
    k0_pay91 (k0_pay8 g) (k0_pay9 b) x = k0_pay10 g b x := rfl
theorem xmax9 (g b : Vec Ideal S1x1024 .f32) (x : Vec Ideal S1x32x1024 .bf16) (v : Vec Ideal S8x1024 .f32) :
    k0_pay93 v (k0_pay92 (k0_pay8 g) (k0_pay9 b) x) = maxc (k0_pay10 g b x) v := rfl
theorem xcode9 (s : Elt Ideal .f32) (v : FVec Ideal S32x1024 .f32) :
    k0_pay94 s v = k0_pay13 s v := rfl
theorem gz9 (l : Elt Ideal .i32) (y : Vec Ideal S1x32x1024 .bf16) : k0_pay95 l y = gzc 288#32 l y := rfl
theorem gmax9 (l : Elt Ideal .i32) (y : Vec Ideal S1x32x1024 .bf16) (v : Vec Ideal S8x1024 .f32) :
    k0_pay96 l y v = maxc (gzc 288#32 l y) v := rfl
theorem gsum9 (l : Elt Ideal .i32) (y : Vec Ideal S1x32x1024 .bf16) (v : Vec Ideal S8x1024 .f32) :
    k0_pay98 v (k0_pay97 l y) = sumc (gzc 288#32 l y) v := rfl
theorem gcode9 (s : Elt Ideal .f32) (v : FVec Ideal S32x1024 .f32) :
    k0_pay99 s v = k0_pay18 s v := rfl
theorem xn10 (g b : Vec Ideal S1x1024 .f32) (x : Vec Ideal S1x32x1024 .bf16) :
    k0_pay100 (k0_pay8 g) (k0_pay9 b) x = k0_pay10 g b x := rfl
theorem xmax10 (g b : Vec Ideal S1x1024 .f32) (x : Vec Ideal S1x32x1024 .bf16) (v : Vec Ideal S8x1024 .f32) :
    k0_pay102 v (k0_pay101 (k0_pay8 g) (k0_pay9 b) x) = maxc (k0_pay10 g b x) v := rfl
theorem xcode10 (s : Elt Ideal .f32) (v : FVec Ideal S32x1024 .f32) :
    k0_pay103 s v = k0_pay13 s v := rfl
theorem gz10 (l : Elt Ideal .i32) (y : Vec Ideal S1x32x1024 .bf16) : k0_pay104 l y = gzc 320#32 l y := rfl
theorem gmax10 (l : Elt Ideal .i32) (y : Vec Ideal S1x32x1024 .bf16) (v : Vec Ideal S8x1024 .f32) :
    k0_pay105 l y v = maxc (gzc 320#32 l y) v := rfl
theorem gsum10 (l : Elt Ideal .i32) (y : Vec Ideal S1x32x1024 .bf16) (v : Vec Ideal S8x1024 .f32) :
    k0_pay107 v (k0_pay106 l y) = sumc (gzc 320#32 l y) v := rfl
theorem gcode10 (s : Elt Ideal .f32) (v : FVec Ideal S32x1024 .f32) :
    k0_pay108 s v = k0_pay18 s v := rfl
theorem xn11 (g b : Vec Ideal S1x1024 .f32) (x : Vec Ideal S1x32x1024 .bf16) :
    k0_pay109 (k0_pay8 g) (k0_pay9 b) x = k0_pay10 g b x := rfl
theorem xmax11 (g b : Vec Ideal S1x1024 .f32) (x : Vec Ideal S1x32x1024 .bf16) (v : Vec Ideal S8x1024 .f32) :
    k0_pay111 v (k0_pay110 (k0_pay8 g) (k0_pay9 b) x) = maxc (k0_pay10 g b x) v := rfl
theorem xcode11 (s : Elt Ideal .f32) (v : FVec Ideal S32x1024 .f32) :
    k0_pay112 s v = k0_pay13 s v := rfl
theorem gz11 (l : Elt Ideal .i32) (y : Vec Ideal S1x32x1024 .bf16) : k0_pay113 l y = gzc 352#32 l y := rfl
theorem gmax11 (l : Elt Ideal .i32) (y : Vec Ideal S1x32x1024 .bf16) (v : Vec Ideal S8x1024 .f32) :
    k0_pay114 l y v = maxc (gzc 352#32 l y) v := rfl
theorem gsum11 (l : Elt Ideal .i32) (y : Vec Ideal S1x32x1024 .bf16) (v : Vec Ideal S8x1024 .f32) :
    k0_pay116 v (k0_pay115 l y) = sumc (gzc 352#32 l y) v := rfl
theorem gcode11 (s : Elt Ideal .f32) (v : FVec Ideal S32x1024 .f32) :
    k0_pay117 s v = k0_pay18 s v := rfl
theorem h0 (s t : Elt Ideal .f32) (xn : Vec Ideal S1x384x1024 .fp8e4m3) (w : Vec Ideal S1024x256 .fp8e4m3) (b : Vec Ideal S1x256 .f32) :
    k0_pay120 s t xn w b = k0_pay121 (k0_pay118 s t) xn w b := rfl
theorem h3 (s : Elt Ideal .f32) (xn : Vec Ideal S1x384x1024 .fp8e4m3) (w : Vec Ideal S1024x256 .fp8e4m3) (b : Vec Ideal S1x256 .f32) :
    k0_pay124 (k0_pay123 s xn w) b = k0_pay121 s xn w b := rfl
theorem h122 (s : Elt Ideal .f32) (xn : Vec Ideal S1x384x1024 .fp8e4m3) (w : Vec Ideal S1024x256 .fp8e4m3) (b : Vec Ideal S1x256 .f32) :
    k0_pay122 s xn w b = k0_pay121 s xn w b := rfl
theorem h125 (s : Elt Ideal .f32) (xn : Vec Ideal S1x384x1024 .fp8e4m3) (w : Vec Ideal S1024x256 .fp8e4m3) (b : Vec Ideal S1x256 .f32) :
    k0_pay125 s xn w b = k0_pay121 s xn w b := rfl
theorem h126 (s : Elt Ideal .f32) (xn : Vec Ideal S1x384x1024 .fp8e4m3) (w : Vec Ideal S1024x256 .fp8e4m3) (b : Vec Ideal S1x256 .f32) :
    k0_pay126 s xn w b = k0_pay121 s xn w b := rfl
theorem h127 (s : Elt Ideal .f32) (xn : Vec Ideal S1x384x1024 .fp8e4m3) (w : Vec Ideal S1024x256 .fp8e4m3) (b : Vec Ideal S1x256 .f32) :
    k0_pay127 s xn w b = k0_pay121 s xn w b := rfl
theorem h128 (s : Elt Ideal .f32) (xn : Vec Ideal S1x384x1024 .fp8e4m3) (w : Vec Ideal S1024x256 .fp8e4m3) (b : Vec Ideal S1x256 .f32) :
    k0_pay128 s xn w b = k0_pay121 s xn w b := rfl
theorem dv0 (s : Elt Ideal .f32) (gz : Vec Ideal S1x384x1024 .fp8e5m2) (w : Vec Ideal S256x1024 .fp8e4m3) :
    k0_pay130 s (k0_pay129 gz) w (constant S384x256 .f32 0x00000000#32) = k0_pay131 s gz w := rfl
theorem dv2 (s : Elt Ideal .f32) (gz : Vec Ideal S1x384x1024 .fp8e5m2) (w : Vec Ideal S256x1024 .fp8e4m3) : k0_pay132 s gz w = k0_pay131 s gz w := rfl
theorem dv3 (s : Elt Ideal .f32) (gz : Vec Ideal S1x384x1024 .fp8e5m2) (w : Vec Ideal S256x1024 .fp8e4m3) : k0_pay1 (k0_pay133 s gz w) = k0_pay131 s gz w := rfl

/-! ## The functions read at an index -/

theorem xn_at (g b : Vec Ideal S1x1024 .f32) (x : Vec Ideal S1x32x1024 .bf16) (i : Fin 32) (k : Fin 1024) :
    k0_pay10 g b x (ix2 i k) = rln (fun q => x (ix3 0 i q)) (fun q => g (ix2 0 q)) (fun q => b (ix2 0 q)) k := by
  pointwise [k0_pay10, k0_pay8, k0_pay9, rln, rhat, rstd, rvar, rcen, rmean]

theorem xcode_at (s : Elt Ideal .f32) (v : FVec Ideal S32x1024 .f32) (i : Fin 32) (k : Fin 1024) :
    k0_pay13 s v (ix3 0 i k) = clip4 (Ideal.div (v (ix2 i k)) s) := by
  pointwise [k0_pay13, clip4]

theorem gcode_at (s : Elt Ideal .f32) (v : FVec Ideal S32x1024 .f32) (i : Fin 32) (k : Fin 1024) :
    k0_pay18 s v (ix3 0 i k) = clip5 (Ideal.div (v (ix2 i k)) s) := by
  pointwise [k0_pay18, clip5]

theorem gzc_at (off : BitVec 32) (l : Elt Ideal .i32) (y : Vec Ideal S1x32x1024 .bf16) (i : Fin 32) (k : Fin 1024)
    (hl : 0 ≤ l.toInt) (ho : off.toNat ≤ 352) :
    gzc off l y (ix2 i k) = if ((off.toNat + i.val : ℕ) : ℤ) < l.toInt then y (ix3 0 i k) else 0 := by
  pointwise [gzc]
  have h1 : (Scalar.subi l off).toInt = l.toInt - off.toNat := by
    rw [show Scalar.subi l off = IntOp.subi l off from rfl, Idealize.ShloMosaic.WordArith.toInt_subi_of_nonneg l off hl (by rw [BitVec.toInt_eq_toNat_of_lt (by omega)]; omega),
      BitVec.toInt_eq_toNat_of_lt (x := off) (by omega)]
  have h2 : (BitVec.ofNat 32 i.val).toInt = i.val := by
    rw [BitVec.toInt_eq_toNat_of_lt (by rw [BitVec.toNat_ofNat]; omega), BitVec.toNat_ofNat]; omega
  rw [show ∀ a b : BitVec 32, IntOp.cmpi .slt a b = BitVec.ofBool (decide (a.toInt < b.toInt)) from fun _ _ => rfl, h1, h2]
  by_cases h : ((off.toNat + i.val : ℕ) : ℤ) < l.toInt
  · rw [if_pos h, decide_eq_true (by push_cast at h; omega)]; rfl
  · rw [if_neg h, decide_eq_false (by push_cast at h; omega)]; rfl

theorem maxc_at (g : FVec Ideal S32x1024 .f32) (v : Vec Ideal S8x1024 .f32) (s : Fin 8) (k : Fin 1024) (c : EReal) :
    maxc g v (ix2 s k) ≤ c ↔ v (ix2 s k) ≤ c ∧ ∀ i : Fin 4, eabs (g (ix2 ⟨i.val * 8 + s.val, by omega⟩ k)) ≤ c := by
  have e : maxc g v (ix2 s k) = max (v (ix2 s k))
      (Finset.univ.fold max (Ideal.ofBits .f32 0xFF800000#32) fun i : Fin 4 => eabs (g (ix2 ⟨i.val * 8 + s.val, by omega⟩ k))) := by
    pointwise [maxc]
  rw [e, max_le_iff, foldmax_le, ofBits_neg_inf]
  exact and_congr_right fun _ => ⟨fun h i => h.2 i (Finset.mem_univ i), fun h => ⟨bot_le, fun i _ => h i⟩⟩

theorem sumc_at (g : FVec Ideal S32x1024 .f32) (v : Vec Ideal S8x1024 .f32) (s : Fin 8) (k : Fin 1024) :
    sumc g v (ix2 s k) = v (ix2 s k) + ∑ i : Fin 4, g (ix2 ⟨i.val * 8 + s.val, by omega⟩ k) := by
  pointwise [sumc]

theorem h_at (s : Elt Ideal .f32) (xn : Vec Ideal S1x384x1024 .fp8e4m3) (w : Vec Ideal S1024x256 .fp8e4m3)
    (b : Vec Ideal S1x256 .f32) (r : Fin 384) (n : Fin 256) :
    k0_pay121 s xn w b (ix3 0 r n)
      = (∑ k : Fin 1024, xn (ix3 0 r k) * w (ix2 k n)) * s + b (ix2 0 n) := by
  pointwise [k0_pay121]

theorem dv_at (s : Elt Ideal .f32) (gz : Vec Ideal S1x384x1024 .fp8e5m2) (w : Vec Ideal S256x1024 .fp8e4m3)
    (r : Fin 384) (n : Fin 256) :
    k0_pay131 s gz w (ix3 0 r n) = (∑ k : Fin 1024, gz (ix3 0 r k) * w (ix2 n k)) * s := by
  pointwise [k0_pay131]

theorem zero5_at (j : S8x1024.Idx) : k0_pay5 (F := Ideal) j = 0 := by pointwise [k0_pay5]
theorem zero6_at (j : S8x1024.Idx) : k0_pay6 (F := Ideal) j = 0 := by pointwise [k0_pay6]
theorem zero7_at (j : S8x1024.Idx) : k0_pay7 (F := Ideal) j = 0 := by pointwise [k0_pay7]

theorem amax2_at (v : Vec Ideal S8x1024 .f32) (c : EReal) :
    k0_pay2 v ≤ c ↔ ∀ (s : Fin 8) (k : Fin 1024), v (ix2 s k) ≤ c := by
  have e : k0_pay2 v = Finset.univ.fold max (Ideal.ofBits .f32 0xFF800000#32) fun q : Fin 8 × Fin 1024 => v (ix2 q.1 q.2) := by
    pointwise [k0_pay2]
  rw [e, foldmax_le, ofBits_neg_inf]
  exact ⟨fun h s k => h.2 (s, k) (Finset.mem_univ _), fun h => ⟨bot_le, fun q _ => h q.1 q.2⟩⟩

theorem amax3_at (v : Vec Ideal S8x1024 .f32) (c : EReal) :
    k0_pay3 v ≤ c ↔ ∀ (s : Fin 8) (k : Fin 1024), v (ix2 s k) ≤ c := amax2_at v c

theorem sum4_at (v : Vec Ideal S8x1024 .f32) (k : Fin 1024) :
    k0_pay4 v (ix2 0 k) = ∑ s : Fin 8, v (ix2 s k) := by
  pointwise [k0_pay4]

end Cert.RowsInIdeal.Pay

end
-- ==== Proof.InBlk.lean ====
module

public import proofs.«01_k».proof.Proof.Gen.RowsInIdeal.Value
public import proofs.«01_k».proof.Proof.InPay
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.Spec

namespace Cert.RowsInIdeal.Val
open Cert.RowsInIdeal Cert.RowsInIdeal.Gen
variable (m : (ℓ : Loc nD τ sig) → Buf (Elt Ideal) ℓ)

/-- A load of one chunk of rows, read at an index. -/
theorem ldrow {e : EltTy} (x : Vec Ideal S1x384x1024 e) (o : ℕ) (inb) (i : Fin 32) (q : Fin 1024) (r : Fin 384)
    (hr : r.val = o + i.val) :
    View.ld (S := S1x384x1024) x (Rect.unit ![0, o, 0] ![1, 32, 1024] inb) (ix3 0 i q) = x (ix3 0 r q) := by
  refine congrArg (f := x) (funext fun a => Fin.ext ?_)
  match a with
  | ⟨0, _⟩ => rfl
  | ⟨1, _⟩ => exact (by simp [hr] : o + 1 * i.val = r.val)
  | ⟨2, _⟩ => exact (by simp : 0 + 1 * q.val = q.val)

/-- One chunk of the normalised rows' codes, at an index of the block. -/
theorem xn_piece (s : Elt Ideal .f32) (g b : Vec Ideal S1x1024 .f32) (x : Vec Ideal S1x384x1024 .bf16) (o : ℕ) (inb)
    (u : S1x32x1024.Idx) (j : S1x384x1024.Idx) (h1 : (j 1).val = o + (u 1).val) (h2 : (j 2).val = (u 2).val) :
    k0_pay13 s (k0_pay10 g b (View.ld (S := S1x384x1024) x (Rect.unit ![0, o, 0] ![1, 32, 1024] inb))) u
      = clip4 (Ideal.div (rln (fun q => x (ix3 0 (j 1) q)) (fun q => g (ix2 0 q)) (fun q => b (ix2 0 q)) (j 2)) s) := by
  idx_vars u
  idx_vars j
  obtain rfl := Subsingleton.elim u0 (0 : Fin 1)
  obtain rfl : j2 = u2 := Fin.ext h2
  rw [Pay.xcode_at, Pay.xn_at]
  simp only [fun q => ldrow x o inb u1 q j1 h1]

/-- One chunk of the gated rows' codes, at an index of the block. -/
theorem gz_piece (s : Elt Ideal .f32) (l : Elt Ideal .i32) (hl : 0 ≤ l.toInt) (y : Vec Ideal S1x384x1024 .bf16) (o : BitVec 32)
    (p : ℕ) (ho : o.toNat = p) (hp : p ≤ 352) (inb)
    (u : S1x32x1024.Idx) (j : S1x384x1024.Idx) (h1 : (j 1).val = p + (u 1).val) (h2 : (j 2).val = (u 2).val) :
    k0_pay18 s (Pay.gzc o l (View.ld (S := S1x384x1024) y (Rect.unit ![0, p, 0] ![1, 32, 1024] inb))) u
      = clip5 (Ideal.div (if (((j 1).val : ℕ) : ℤ) < l.toInt then y (ix3 0 (j 1) (j 2)) else 0) s) := by
  idx_vars u
  idx_vars j
  obtain rfl := Subsingleton.elim u0 (0 : Fin 1)
  obtain rfl : j2 = u2 := Fin.ext h2
  rw [Pay.gcode_at, Pay.gzc_at _ _ _ _ _ hl (by omega), ldrow y p inb u1 j2 j1 h1, ho, ← show j1.val = p + u1.val from h1]
  rfl

/-- The twelve stores of the normalised rows' codes are one block of codes. -/
theorem canon_xn (s : Elt Ideal .f32) (g b : Vec Ideal S1x1024 .f32) (x : Vec Ideal S1x384x1024 .bf16) :
    View.canon (Val := Elt Ideal) (s := S1x384x1024) (e := .fp8e4m3)
      [⟨Rect.unit ![0, 352, 0] ![1, 32, 1024] inb_S1x384x1024_S1x32x1024_0_352_0, k0_pay13 s (k0_pay10 g b (View.ld x (Rect.unit ![0, 352, 0] ![1, 32, 1024] inb_S1x384x1024_S1x32x1024_0_352_0)))⟩,
        ⟨Rect.unit ![0, 320, 0] ![1, 32, 1024] inb_S1x384x1024_S1x32x1024_0_320_0, k0_pay13 s (k0_pay10 g b (View.ld x (Rect.unit ![0, 320, 0] ![1, 32, 1024] inb_S1x384x1024_S1x32x1024_0_320_0)))⟩,
        ⟨Rect.unit ![0, 288, 0] ![1, 32, 1024] inb_S1x384x1024_S1x32x1024_0_288_0, k0_pay13 s (k0_pay10 g b (View.ld x (Rect.unit ![0, 288, 0] ![1, 32, 1024] inb_S1x384x1024_S1x32x1024_0_288_0)))⟩,
        ⟨Rect.unit ![0, 256, 0] ![1, 32, 1024] inb_S1x384x1024_S1x32x1024_0_256_0, k0_pay13 s (k0_pay10 g b (View.ld x (Rect.unit ![0, 256, 0] ![1, 32, 1024] inb_S1x384x1024_S1x32x1024_0_256_0)))⟩,
        ⟨Rect.unit ![0, 224, 0] ![1, 32, 1024] inb_S1x384x1024_S1x32x1024_0_224_0, k0_pay13 s (k0_pay10 g b (View.ld x (Rect.unit ![0, 224, 0] ![1, 32, 1024] inb_S1x384x1024_S1x32x1024_0_224_0)))⟩,
        ⟨Rect.unit ![0, 192, 0] ![1, 32, 1024] inb_S1x384x1024_S1x32x1024_0_192_0, k0_pay13 s (k0_pay10 g b (View.ld x (Rect.unit ![0, 192, 0] ![1, 32, 1024] inb_S1x384x1024_S1x32x1024_0_192_0)))⟩,
        ⟨Rect.unit ![0, 160, 0] ![1, 32, 1024] inb_S1x384x1024_S1x32x1024_0_160_0, k0_pay13 s (k0_pay10 g b (View.ld x (Rect.unit ![0, 160, 0] ![1, 32, 1024] inb_S1x384x1024_S1x32x1024_0_160_0)))⟩,
        ⟨Rect.unit ![0, 128, 0] ![1, 32, 1024] inb_S1x384x1024_S1x32x1024_0_128_0, k0_pay13 s (k0_pay10 g b (View.ld x (Rect.unit ![0, 128, 0] ![1, 32, 1024] inb_S1x384x1024_S1x32x1024_0_128_0)))⟩,
        ⟨Rect.unit ![0, 96, 0] ![1, 32, 1024] inb_S1x384x1024_S1x32x1024_0_96_0, k0_pay13 s (k0_pay10 g b (View.ld x (Rect.unit ![0, 96, 0] ![1, 32, 1024] inb_S1x384x1024_S1x32x1024_0_96_0)))⟩,
        ⟨Rect.unit ![0, 64, 0] ![1, 32, 1024] inb_S1x384x1024_S1x32x1024_0_64_0, k0_pay13 s (k0_pay10 g b (View.ld x (Rect.unit ![0, 64, 0] ![1, 32, 1024] inb_S1x384x1024_S1x32x1024_0_64_0)))⟩,
        ⟨Rect.unit ![0, 32, 0] ![1, 32, 1024] inb_S1x384x1024_S1x32x1024_0_32_0, k0_pay13 s (k0_pay10 g b (View.ld x (Rect.unit ![0, 32, 0] ![1, 32, 1024] inb_S1x384x1024_S1x32x1024_0_32_0)))⟩,
        ⟨Rect.unit ![0, 0, 0] ![1, 32, 1024] inb_S1x384x1024_S1x32x1024_0_0_0, k0_pay13 s (k0_pay10 g b (View.ld x (Rect.unit ![0, 0, 0] ![1, 32, 1024] inb_S1x384x1024_S1x32x1024_0_0_0)))⟩]
      = fun y => clip4 (Ideal.div (rln (fun q => x (ix3 0 (y 1) q)) (fun q => g (ix2 0 q)) (fun q => b (ix2 0 q)) (y 2)) s) := by
  funext j
  canon_tiles u h
  all_goals exact xn_piece s g b x _ _ u j (by omega) h2

/-- The twelve stores of the gated rows' codes are one block of codes. -/
theorem canon_gz (s : Elt Ideal .f32) (l : Elt Ideal .i32) (hl : 0 ≤ l.toInt) (x : Vec Ideal S1x384x1024 .bf16) :
    View.canon (Val := Elt Ideal) (s := S1x384x1024) (e := .fp8e5m2)
      [⟨Rect.unit ![0, 352, 0] ![1, 32, 1024] inb_S1x384x1024_S1x32x1024_0_352_0, k0_pay18 s (Pay.gzc 352#32 l (View.ld x (Rect.unit ![0, 352, 0] ![1, 32, 1024] inb_S1x384x1024_S1x32x1024_0_352_0)))⟩,
        ⟨Rect.unit ![0, 320, 0] ![1, 32, 1024] inb_S1x384x1024_S1x32x1024_0_320_0, k0_pay18 s (Pay.gzc 320#32 l (View.ld x (Rect.unit ![0, 320, 0] ![1, 32, 1024] inb_S1x384x1024_S1x32x1024_0_320_0)))⟩,
        ⟨Rect.unit ![0, 288, 0] ![1, 32, 1024] inb_S1x384x1024_S1x32x1024_0_288_0, k0_pay18 s (Pay.gzc 288#32 l (View.ld x (Rect.unit ![0, 288, 0] ![1, 32, 1024] inb_S1x384x1024_S1x32x1024_0_288_0)))⟩,
        ⟨Rect.unit ![0, 256, 0] ![1, 32, 1024] inb_S1x384x1024_S1x32x1024_0_256_0, k0_pay18 s (Pay.gzc 256#32 l (View.ld x (Rect.unit ![0, 256, 0] ![1, 32, 1024] inb_S1x384x1024_S1x32x1024_0_256_0)))⟩,
        ⟨Rect.unit ![0, 224, 0] ![1, 32, 1024] inb_S1x384x1024_S1x32x1024_0_224_0, k0_pay18 s (Pay.gzc 224#32 l (View.ld x (Rect.unit ![0, 224, 0] ![1, 32, 1024] inb_S1x384x1024_S1x32x1024_0_224_0)))⟩,
        ⟨Rect.unit ![0, 192, 0] ![1, 32, 1024] inb_S1x384x1024_S1x32x1024_0_192_0, k0_pay18 s (Pay.gzc 192#32 l (View.ld x (Rect.unit ![0, 192, 0] ![1, 32, 1024] inb_S1x384x1024_S1x32x1024_0_192_0)))⟩,
        ⟨Rect.unit ![0, 160, 0] ![1, 32, 1024] inb_S1x384x1024_S1x32x1024_0_160_0, k0_pay18 s (Pay.gzc 160#32 l (View.ld x (Rect.unit ![0, 160, 0] ![1, 32, 1024] inb_S1x384x1024_S1x32x1024_0_160_0)))⟩,
        ⟨Rect.unit ![0, 128, 0] ![1, 32, 1024] inb_S1x384x1024_S1x32x1024_0_128_0, k0_pay18 s (Pay.gzc 128#32 l (View.ld x (Rect.unit ![0, 128, 0] ![1, 32, 1024] inb_S1x384x1024_S1x32x1024_0_128_0)))⟩,
        ⟨Rect.unit ![0, 96, 0] ![1, 32, 1024] inb_S1x384x1024_S1x32x1024_0_96_0, k0_pay18 s (Pay.gzc 96#32 l (View.ld x (Rect.unit ![0, 96, 0] ![1, 32, 1024] inb_S1x384x1024_S1x32x1024_0_96_0)))⟩,
        ⟨Rect.unit ![0, 64, 0] ![1, 32, 1024] inb_S1x384x1024_S1x32x1024_0_64_0, k0_pay18 s (Pay.gzc 64#32 l (View.ld x (Rect.unit ![0, 64, 0] ![1, 32, 1024] inb_S1x384x1024_S1x32x1024_0_64_0)))⟩,
        ⟨Rect.unit ![0, 32, 0] ![1, 32, 1024] inb_S1x384x1024_S1x32x1024_0_32_0, k0_pay18 s (Pay.gzc 32#32 l (View.ld x (Rect.unit ![0, 32, 0] ![1, 32, 1024] inb_S1x384x1024_S1x32x1024_0_32_0)))⟩,
        ⟨Rect.unit ![0, 0, 0] ![1, 32, 1024] inb_S1x384x1024_S1x32x1024_0_0_0, k0_pay18 s (Pay.gzc 0#32 l (View.ld x (Rect.unit ![0, 0, 0] ![1, 32, 1024] inb_S1x384x1024_S1x32x1024_0_0_0)))⟩]
      = fun y => clip5 (Ideal.div (if (((y 1).val : ℕ) : ℤ) < l.toInt then x (ix3 0 (y 1) (y 2)) else 0) s) := by
  funext j
  canon_tiles u h
  all_goals
    refine gz_piece s l hl x _ _ ?_ ?_ _ u j ?_ h2
    · rfl
    all_goals omega

/-! The arguments, as plain functions of their coordinates. -/
abbrev aX (c : Dev nD) (i : Fin 16) (r : Fin 384) (k : Fin 1024) : EReal := m ((c : Thread nD τ).loc main_arg0) (ix3 i r k)
abbrev aDy (c : Dev nD) (i : Fin 16) (r : Fin 384) (k : Fin 1024) : EReal := m ((c : Thread nD τ).loc main_arg1) (ix3 i r k)
abbrev aLen (c : Dev nD) (i : Fin 16) : BitVec 32 := m ((c : Thread nD τ).loc main_arg2) (ix1 i)
abbrev aG (c : Dev nD) (k : Fin 1024) : EReal := m ((c : Thread nD τ).loc main_arg3) (ix1 k)
abbrev aB (c : Dev nD) (k : Fin 1024) : EReal := m ((c : Thread nD τ).loc main_arg4) (ix1 k)
abbrev aW1 (c : Dev nD) (k : Fin 1024) (n : Fin 2048) : EReal := m ((c : Thread nD τ).loc main_arg5) (ix2 k n)
abbrev aS1 (c : Dev nD) : EReal := m ((c : Thread nD τ).loc main_arg6) ix0
abbrev aB1 (c : Dev nD) (n : Fin 2048) : EReal := m ((c : Thread nD τ).loc main_arg7) (ix1 n)
abbrev aW2 (c : Dev nD) (n k : Fin 1024) : EReal := m ((c : Thread nD τ).loc main_arg8) (ix2 n k)
abbrev aS2 (c : Dev nD) : EReal := m ((c : Thread nD τ).loc main_arg9) ix0
abbrev aSx (c : Dev nD) : EReal := m ((c : Thread nD τ).loc main_arg10) ix0
abbrev aSg (c : Dev nD) : EReal := m ((c : Thread nD τ).loc main_arg11) ix0

theorem idx : ∀ t : Fin cfg0.N, win0_0.index t = ![0] ∧ win0_1.index t = ![0, 0] ∧ win0_2.index t = ![0, 0]
    ∧ win0_3.index t = ![0, 0] ∧ win0_4.index t = ![0, 0] ∧ win0_5.index t = ![t.val, 0, 0] ∧ win0_6.index t = ![t.val, 0, 0]
    ∧ win0_7.index t = ![0, 0] ∧ win0_8.index t = ![0, 0] ∧ win0_9.index t = ![0, 0] ∧ win0_10.index t = ![0, 0]
    ∧ win0_11.index t = ![0, 0] ∧ win0_12.index t = ![t.val, 0, 0] ∧ win0_13.index t = ![t.val, 0, 0]
    ∧ win0_14.index t = ![t.val, 0, 0] ∧ win0_15.index t = ![t.val, 0, 0] :=
  (by decide +kernel : ∀ t : Fin grid0.N, _)

/-- The sequence a grid point works on. -/
abbrev sq (t : Fin cfg0.N) : Fin 16 := ⟨t.val, lt_of_lt_of_eq t.isLt (show cfg0.N = 16 from N_0)⟩

/-! The blocks, read at coordinates. -/

theorem i0 (c : Dev nD) (t : Fin cfg0.N) (i : Fin 16) : (iblk m c 0 t (ix1 i) : BitVec 32) = aLen m c i := by
  blk_ext [iblk, V, idx t]

theorem i1 (c : Dev nD) (t : Fin cfg0.N) : (iblk m c 1 t (ix2 0 0) : EReal) = aSx m c := by
  blk_simp [iblk]
  entry_read
  pointwise
  blk_ext [idx t]

theorem i2 (c : Dev nD) (t : Fin cfg0.N) : (iblk m c 2 t (ix2 0 0) : EReal) = aSg m c := by
  blk_simp [iblk]
  entry_read
  pointwise
  blk_ext [idx t]

theorem i3 (c : Dev nD) (t : Fin cfg0.N) : (iblk m c 3 t (ix2 0 0) : EReal) = aS1 m c := by
  blk_simp [iblk]
  entry_read
  pointwise
  blk_ext [idx t]

theorem i4 (c : Dev nD) (t : Fin cfg0.N) : (iblk m c 4 t (ix2 0 0) : EReal) = aS2 m c := by
  blk_simp [iblk]
  entry_read
  pointwise
  blk_ext [idx t]

theorem i5 (c : Dev nD) (t : Fin cfg0.N) (r : Fin 384) (k : Fin 1024) : (iblk m c 5 t (ix3 0 r k) : EReal) = aX m c (sq t) r k := by
  blk_ext [iblk, V, idx t]

theorem i6 (c : Dev nD) (t : Fin cfg0.N) (r : Fin 384) (k : Fin 1024) : (iblk m c 6 t (ix3 0 r k) : EReal) = aDy m c (sq t) r k := by
  blk_ext [iblk, V, idx t]

theorem i7 (c : Dev nD) (t : Fin cfg0.N) (k : Fin 1024) : (iblk m c 7 t (ix2 0 k) : EReal) = aG m c k := by
  blk_simp [iblk]
  entry_read
  pointwise
  blk_ext [idx t]

theorem i8 (c : Dev nD) (t : Fin cfg0.N) (k : Fin 1024) : (iblk m c 8 t (ix2 0 k) : EReal) = aB m c k := by
  blk_simp [iblk]
  entry_read
  pointwise
  blk_ext [idx t]

theorem i9 (c : Dev nD) (t : Fin cfg0.N) (k : Fin 1024) (n : Fin 2048) : (iblk m c 9 t (ix2 k n) : EReal) = aW1 m c k n := by
  blk_ext [iblk, V, idx t]

theorem i10 (c : Dev nD) (t : Fin cfg0.N) (n : Fin 2048) : (iblk m c 10 t (ix2 0 n) : EReal) = aB1 m c n := by
  blk_simp [iblk]
  entry_read
  pointwise
  blk_ext [idx t]

theorem i11 (c : Dev nD) (t : Fin cfg0.N) (n k : Fin 1024) : (iblk m c 11 t (ix2 n k) : EReal) = aW2 m c n k := by
  blk_ext [iblk, V, idx t]

theorem first11 (h) : (Shape.Idx.first h : S1x1.Idx) = ix2 0 0 := by
  funext a
  match a with
  | ⟨0, _⟩ => exact Subsingleton.elim (α := Fin 1) _ _
  | ⟨1, _⟩ => exact Subsingleton.elim (α := Fin 1) _ _

end Cert.RowsInIdeal.Val

end
-- ==== Proof.Rows.lean ====
module

public import proofs.«01_k».proof.Proof.Spec

/-! How a kernel's partial results over chunks of rows, and over grid points, add up to a whole. -/

@[expose] public section

noncomputable section

open Idealize.ShloMosaic
open scoped BigOperators

namespace Cert.Spec

/-- The row of a sequence that is row `8 i + s` of chunk `j` of 32 rows. -/
abbrev crow (j : Fin 12) (i : Fin 4) (s : Fin 8) : Fin 384 := ⟨32 * j.val + (i.val * 8 + s.val), by omega⟩

/-- The sum of the rows of one class modulo eight. -/
def rowsum (f : Fin 384 → EReal) (s : Fin 8) : EReal := ∑ j : Fin 12, ∑ i : Fin 4, f (crow j i s)

/-- The eight classes together are all rows. -/
theorem sum_rowsum (f : Fin 384 → EReal) : ∑ s : Fin 8, rowsum f s = ∑ r : Fin 384, f r := by
  unfold rowsum
  rw [Finset.sum_comm]
  rw [← (finProdFinEquiv (m := 12) (n := 32)).sum_comp, Fintype.sum_prod_type]
  refine Finset.sum_congr rfl fun j _ => ?_
  rw [Finset.sum_comm, ← (finProdFinEquiv (m := 4) (n := 8)).sum_comp, Fintype.sum_prod_type]
  refine Finset.sum_congr rfl fun i _ => Finset.sum_congr rfl fun s _ => congrArg f (Fin.ext ?_)
  simp [finProdFinEquiv]
  omega

/-- The rows of one class, chunk by chunk. -/
theorem rowsum_eq (f : Fin 384 → EReal) (s : Fin 8) (v : EReal) :
    v + (∑ i, f (crow 0 i s)) + (∑ i, f (crow 1 i s)) + (∑ i, f (crow 2 i s)) + (∑ i, f (crow 3 i s)) + (∑ i, f (crow 4 i s))
      + (∑ i, f (crow 5 i s)) + (∑ i, f (crow 6 i s)) + (∑ i, f (crow 7 i s)) + (∑ i, f (crow 8 i s)) + (∑ i, f (crow 9 i s))
      + (∑ i, f (crow 10 i s)) + (∑ i, f (crow 11 i s)) = v + rowsum f s := by
  have e : rowsum f s = (∑ i, f (crow 0 i s)) + (∑ i, f (crow 1 i s)) + (∑ i, f (crow 2 i s)) + (∑ i, f (crow 3 i s)) + (∑ i, f (crow 4 i s))
      + (∑ i, f (crow 5 i s)) + (∑ i, f (crow 6 i s)) + (∑ i, f (crow 7 i s)) + (∑ i, f (crow 8 i s)) + (∑ i, f (crow 9 i s))
      + (∑ i, f (crow 10 i s)) + (∑ i, f (crow 11 i s)) := by
    unfold rowsum
    simp only [Fin.sum_univ_castSucc (n := 11), Fin.sum_univ_castSucc (n := 10), Fin.sum_univ_castSucc (n := 9),
      Fin.sum_univ_castSucc (n := 8), Fin.sum_univ_castSucc (n := 7), Fin.sum_univ_castSucc (n := 6), Fin.sum_univ_castSucc (n := 5),
      Fin.sum_univ_castSucc (n := 4), Fin.sum_univ_castSucc (n := 3 + 1), Fin.sum_univ_four]
    rfl
  rw [e]
  simp only [add_assoc]

/-- What holds of the rows of one class, chunk by chunk. -/
theorem rows_forall (P : Fin 384 → Prop) (s : Fin 8) (Q : Prop) :
    ((((((((((((Q ∧ ∀ i, P (crow 0 i s)) ∧ ∀ i, P (crow 1 i s)) ∧ ∀ i, P (crow 2 i s)) ∧ ∀ i, P (crow 3 i s)) ∧ ∀ i, P (crow 4 i s))
      ∧ ∀ i, P (crow 5 i s)) ∧ ∀ i, P (crow 6 i s)) ∧ ∀ i, P (crow 7 i s)) ∧ ∀ i, P (crow 8 i s)) ∧ ∀ i, P (crow 9 i s))
      ∧ ∀ i, P (crow 10 i s)) ∧ ∀ i, P (crow 11 i s)) ↔ Q ∧ ∀ j i, P (crow j i s) := by
  constructor
  · rintro ⟨⟨⟨⟨⟨⟨⟨⟨⟨⟨⟨⟨q, h0⟩, h1⟩, h2⟩, h3⟩, h4⟩, h5⟩, h6⟩, h7⟩, h8⟩, h9⟩, h10⟩, h11⟩
    refine ⟨q, fun j => ?_⟩
    match j with
    | 0 => exact h0
    | 1 => exact h1
    | 2 => exact h2
    | 3 => exact h3
    | 4 => exact h4
    | 5 => exact h5
    | 6 => exact h6
    | 7 => exact h7
    | 8 => exact h8
    | 9 => exact h9
    | 10 => exact h10
    | 11 => exact h11
  · rintro ⟨q, h⟩
    exact ⟨⟨⟨⟨⟨⟨⟨⟨⟨⟨⟨⟨q, h 0⟩, h 1⟩, h 2⟩, h 3⟩, h 4⟩, h 5⟩, h 6⟩, h 7⟩, h 8⟩, h 9⟩, h 10⟩, h 11⟩

/-- Every row is in a class. -/
theorem all_rows (P : Fin 384 → Prop) : (∀ (s : Fin 8) (j : Fin 12) (i : Fin 4), P (crow j i s)) ↔ ∀ r, P r := by
  refine ⟨fun h r => ?_, fun h _ _ _ => h _⟩
  have e : r = crow ⟨r.val / 32, by omega⟩ ⟨r.val % 32 / 8, by omega⟩ ⟨r.val % 8, by omega⟩ := Fin.ext (by simp; omega)
  rw [e]
  exact h _ _ _

/-- The sum of what the sequences up to number `n` give. -/
def upto (f : Fin 16 → EReal) (n : ℕ) : EReal := ∑ i : Fin 16, if i.val ≤ n then f i else 0

theorem upto_zero (f : Fin 16 → EReal) : upto f 0 = f 0 := by
  unfold upto
  rw [Finset.sum_eq_single 0]
  · simp
  · intro b _ hb
    exact if_neg fun h => hb (Fin.ext (by simpa using h))
  · simp

theorem upto_succ (f : Fin 16 → EReal) (n : ℕ) (h : n + 1 < 16) : upto f (n + 1) = upto f n + f ⟨n + 1, h⟩ := by
  unfold upto
  have e : f ⟨n + 1, h⟩ = ∑ i : Fin 16, if i = ⟨n + 1, h⟩ then f i else 0 := by simp
  rw [e, ← Finset.sum_add_distrib]
  refine Finset.sum_congr rfl fun i _ => ?_
  by_cases h1 : i = ⟨n + 1, h⟩
  · subst h1
    simp
  · have h2 : i.val ≠ n + 1 := fun e => h1 (Fin.ext e)
    rw [if_neg h1, add_zero]
    by_cases h3 : i.val ≤ n
    · rw [if_pos h3, if_pos (by omega)]
    · rw [if_neg h3, if_neg (by omega)]

theorem upto_last (f : Fin 16 → EReal) : upto f 15 = ∑ i, f i := by
  unfold upto
  exact Finset.sum_congr rfl fun i _ => if_pos (by omega)

/-- The absolute value is not negative. -/
theorem eabs_nonneg (x : EReal) : 0 ≤ eabs x := by
  unfold eabs
  rw [show FloatOps.absf (F := Ideal) (φ := .f32) x = max x (-x) from rfl]
  rcases le_total 0 x with h | h
  · exact le_max_of_le_left h
  · exact le_max_of_le_right (by simpa using EReal.neg_le_neg_iff.mpr h)

end Cert.Spec

end
-- ==== Proof.InVal.lean ====
module

public import proofs.«01_k».proof.Proof.InBlk
public import proofs.«01_k».proof.Proof.Rows

@[expose] public section

set_option maxRecDepth 16384

noncomputable section

open Idealize.ShloMosaic Idealize.ShloMosaic.TcCoe Idealize.SL.Sem
open Cert.Spec

namespace Cert.RowsInIdeal.Val
open Cert.RowsInIdeal Cert.RowsInIdeal.Gen
variable (m : (ℓ : Loc nD τ sig) → Buf (Elt Ideal) ℓ)

theorem ld11 (x : Vec Ideal S1x1 .f32) (inb) (j) : View.ld (S := S1x1) x (Rect.unit ![0, 0] ![1, 1] inb) j = x (ix2 0 0) := by
  refine congrArg (f := x) (funext fun a => ?_)
  match a with
  | ⟨0, _⟩ => exact Subsingleton.elim (α := Fin 1) _ _
  | ⟨1, _⟩ => exact Subsingleton.elim (α := Fin 1) _ _

theorem off1 : ∀ t : Fin cfg0.N, k0_off1 (grid0.coords t) = ![t.val] :=
  (by decide +kernel : ∀ t : Fin grid0.N, _)

theorem ldlen (c : Dev nD) (t : Fin cfg0.N) (inb) (j) :
    View.ld (iblk m c 0 t) (Rect.unit (k0_off1 (grid0.coords t)) ![1] inb) j = aLen m c (sq t) := by
  rw [← i0 m c t (sq t)]
  refine congrArg (f := iblk m c 0 t) (funext fun a => Fin.ext ?_)
  match a with
  | ⟨0, _⟩ =>
    have h : k0_off1 (grid0.coords t) 0 = t.val := by rw [off1]; rfl
    have hj : (j 0).val = 0 := Nat.lt_one_iff.mp (j 0).isLt
    exact (by rw [h, hj]; omega : k0_off1 (grid0.coords t) 0 + 1 * (j 0).val = t.val)

/-- A load of columns of a matrix, read at an index. -/
theorem ldcol {R N C : ℕ} {e : EltTy} (x : Vec Ideal ⟨2, ![R, N]⟩ e) (o : ℕ) (inb) (k : Fin R) (n : Fin C) (q : Fin N) (hq : q.val = o + n.val) :
    View.ld (S := ⟨2, ![R, N]⟩) x (Rect.unit ![0, o] ![R, C] inb) (ix2 k n) = x (ix2 k q) := by
  refine congrArg (f := x) (funext fun a => Fin.ext ?_)
  match a with
  | ⟨0, _⟩ => exact (by simp : 0 + 1 * k.val = k.val)
  | ⟨1, _⟩ => exact (by simp [hq] : o + 1 * n.val = q.val)

/-- A load of rows of a matrix, read at an index. -/
theorem ldmrow {R N C : ℕ} {e : EltTy} (x : Vec Ideal ⟨2, ![N, R]⟩ e) (o : ℕ) (inb) (n : Fin C) (k : Fin R) (q : Fin N) (hq : q.val = o + n.val) :
    View.ld (S := ⟨2, ![N, R]⟩) x (Rect.unit ![o, 0] ![C, R] inb) (ix2 n k) = x (ix2 q k) := by
  refine congrArg (f := x) (funext fun a => Fin.ext ?_)
  match a with
  | ⟨0, _⟩ => exact (by simp [hq] : o + 1 * n.val = q.val)
  | ⟨1, _⟩ => exact (by simp : 0 + 1 * k.val = k.val)

theorem h_piece (S : Elt Ideal .f32) (xn : Vec Ideal S1x384x1024 .fp8e4m3) (w : Vec Ideal S1024x2048 .fp8e4m3) (b : Vec Ideal S1x2048 .f32)
    (o : ℕ) (inb inb') (u : S1x384x256.Idx) (j : S1x384x2048.Idx) (h1 : (j 1).val = (u 1).val) (h2 : (j 2).val = o + (u 2).val) :
    k0_pay121 S xn (View.ld (S := S1024x2048) w (Rect.unit ![0, o] ![1024, 256] inb)) (View.ld (S := S1x2048) b (Rect.unit ![0, o] ![1, 256] inb')) u
      = (∑ k : Fin 1024, xn (ix3 0 (j 1) k) * w (ix2 k (j 2))) * S + b (ix2 0 (j 2)) := by
  idx_vars u
  idx_vars j
  obtain rfl := Subsingleton.elim u0 (0 : Fin 1)
  obtain rfl : j1 = u1 := Fin.ext h1
  rw [Pay.h_at]
  simp only [fun k => ldcol w o inb k u2 j2 h2, ldcol b o inb' 0 u2 j2 h2]

theorem dv_piece (S : Elt Ideal .f32) (gz : Vec Ideal S1x384x1024 .fp8e5m2) (w : Vec Ideal S1024x1024 .fp8e4m3)
    (o : ℕ) (inb) (u : S1x384x256.Idx) (j : S1x384x1024.Idx) (h1 : (j 1).val = (u 1).val) (h2 : (j 2).val = o + (u 2).val) :
    k0_pay131 S gz (View.ld (S := S1024x1024) w (Rect.unit ![o, 0] ![256, 1024] inb)) u
      = (∑ k : Fin 1024, gz (ix3 0 (j 1) k) * w (ix2 (j 2) k)) * S := by
  idx_vars u
  idx_vars j
  obtain rfl := Subsingleton.elim u0 (0 : Fin 1)
  obtain rfl : j1 = u1 := Fin.ext h1
  rw [Pay.dv_at]
  simp only [fun k => ldmrow w o inb u2 k j2 h2]

/-- The eight stores of the first projection are one block. -/
theorem canon_h (S : Elt Ideal .f32) (xn : Vec Ideal S1x384x1024 .fp8e4m3) (w : Vec Ideal S1024x2048 .fp8e4m3) (b : Vec Ideal S1x2048 .f32) :
    View.canon (Val := Elt Ideal) (s := S1x384x2048) (e := .f32)
      [⟨Rect.unit ![0, 0, 1792] ![1, 384, 256] inb_S1x384x2048_S1x384x256_0_0_1792, k0_pay121 S xn (View.ld w (Rect.unit ![0, 1792] ![1024, 256] inb_S1024x2048_S1024x256_0_1792)) (View.ld b (Rect.unit ![0, 1792] ![1, 256] inb_S1x2048_S1x256_0_1792))⟩,
        ⟨Rect.unit ![0, 0, 1536] ![1, 384, 256] inb_S1x384x2048_S1x384x256_0_0_1536, k0_pay121 S xn (View.ld w (Rect.unit ![0, 1536] ![1024, 256] inb_S1024x2048_S1024x256_0_1536)) (View.ld b (Rect.unit ![0, 1536] ![1, 256] inb_S1x2048_S1x256_0_1536))⟩,
        ⟨Rect.unit ![0, 0, 1280] ![1, 384, 256] inb_S1x384x2048_S1x384x256_0_0_1280, k0_pay121 S xn (View.ld w (Rect.unit ![0, 1280] ![1024, 256] inb_S1024x2048_S1024x256_0_1280)) (View.ld b (Rect.unit ![0, 1280] ![1, 256] inb_S1x2048_S1x256_0_1280))⟩,
        ⟨Rect.unit ![0, 0, 1024] ![1, 384, 256] inb_S1x384x2048_S1x384x256_0_0_1024, k0_pay121 S xn (View.ld w (Rect.unit ![0, 1024] ![1024, 256] inb_S1024x2048_S1024x256_0_1024)) (View.ld b (Rect.unit ![0, 1024] ![1, 256] inb_S1x2048_S1x256_0_1024))⟩,
        ⟨Rect.unit ![0, 0, 768] ![1, 384, 256] inb_S1x384x2048_S1x384x256_0_0_768, k0_pay121 S xn (View.ld w (Rect.unit ![0, 768] ![1024, 256] inb_S1024x2048_S1024x256_0_768)) (View.ld b (Rect.unit ![0, 768] ![1, 256] inb_S1x2048_S1x256_0_768))⟩,
        ⟨Rect.unit ![0, 0, 512] ![1, 384, 256] inb_S1x384x2048_S1x384x256_0_0_512, k0_pay121 S xn (View.ld w (Rect.unit ![0, 512] ![1024, 256] inb_S1024x2048_S1024x256_0_512)) (View.ld b (Rect.unit ![0, 512] ![1, 256] inb_S1x2048_S1x256_0_512))⟩,
        ⟨Rect.unit ![0, 0, 256] ![1, 384, 256] inb_S1x384x2048_S1x384x256_0_0_256, k0_pay121 S xn (View.ld w (Rect.unit ![0, 256] ![1024, 256] inb_S1024x2048_S1024x256_0_256)) (View.ld b (Rect.unit ![0, 256] ![1, 256] inb_S1x2048_S1x256_0_256))⟩,
        ⟨Rect.unit ![0, 0, 0] ![1, 384, 256] inb_S1x384x2048_S1x384x256_0_0_0, k0_pay121 S xn (View.ld w (Rect.unit ![0, 0] ![1024, 256] inb_S1024x2048_S1024x256_0_0)) (View.ld b (Rect.unit ![0, 0] ![1, 256] inb_S1x2048_S1x256_0_0))⟩]
      = fun y => (∑ k : Fin 1024, xn (ix3 0 (y 1) k) * w (ix2 k (y 2))) * S + b (ix2 0 (y 2)) := by
  funext j
  canon_tiles u h
  all_goals exact h_piece S xn w b _ _ _ u j h1 (by omega)

/-- The four stores of the cotangent's product are one block. -/
theorem canon_dv (S : Elt Ideal .f32) (gz : Vec Ideal S1x384x1024 .fp8e5m2) (w : Vec Ideal S1024x1024 .fp8e4m3) :
    View.canon (Val := Elt Ideal) (s := S1x384x1024) (e := .f32)
      [⟨Rect.unit ![0, 0, 768] ![1, 384, 256] inb_S1x384x1024_S1x384x256_0_0_768, k0_pay131 S gz (View.ld w (Rect.unit ![768, 0] ![256, 1024] inb_S1024x1024_S256x1024_768_0))⟩,
        ⟨Rect.unit ![0, 0, 512] ![1, 384, 256] inb_S1x384x1024_S1x384x256_0_0_512, k0_pay131 S gz (View.ld w (Rect.unit ![512, 0] ![256, 1024] inb_S1024x1024_S256x1024_512_0))⟩,
        ⟨Rect.unit ![0, 0, 256] ![1, 384, 256] inb_S1x384x1024_S1x384x256_0_0_256, k0_pay131 S gz (View.ld w (Rect.unit ![256, 0] ![256, 1024] inb_S1024x1024_S256x1024_256_0))⟩,
        ⟨Rect.unit ![0, 0, 0] ![1, 384, 256] inb_S1x384x1024_S1x384x256_0_0_0, k0_pay131 S gz (View.ld w (Rect.unit ![0, 0] ![256, 1024] inb_S1024x1024_S256x1024_0_0))⟩]
      = fun y => (∑ k : Fin 1024, gz (ix3 0 (y 1) k) * w (ix2 (y 2) k)) * S := by
  funext j
  canon_tiles u h
  all_goals exact dv_piece S gz w _ _ u j h1 (by omega)

theorem idx_whole (inb) (j : S1x384x1024.Idx) :
    (Rect.unit (s := S1x384x1024) ![0, 0, 0] ![1, 384, 1024] inb).idx j = j := by
  funext a
  refine Fin.ext ?_
  match a with
  | ⟨0, _⟩ => exact (by omega : 0 + 1 * (j 0).val = (j 0).val)
  | ⟨1, _⟩ => exact (by omega : 0 + 1 * (j 1).val = (j 1).val)
  | ⟨2, _⟩ => exact (by omega : 0 + 1 * (j 2).val = (j 2).val)

/-- A whole block read back from its stores. -/
theorem readCov_whole {κ : _} {sp : _} {e : EltTy} (v : View sig κ sp S1x384x1024 e) (L : List (View.Piece (Elt Ideal) S1x384x1024 e)) (inb) :
    v.readCov L (Rect.unit ![0, 0, 0] ![1, 384, 1024] inb).toLoadRect = View.canon L := by
  rw [View.readCov_eq_canon']
  funext j
  exact congrArg (View.canon L) (idx_whole inb j)

theorem scale_h (a b : Elt Ideal .f32) : k0_pay118 a b = a * b := by pointwise [k0_pay118]
theorem scale_dv (a b : Elt Ideal .f32) : k0_pay119 a b = a * b := by pointwise [k0_pay119]

/-! ## A running maximum and a running sum over the twelve chunks -/

theorem max_chain (f : Fin 384 → Fin 1024 → EReal) (g0 g1 g2 g3 g4 g5 g6 g7 g8 g9 g10 g11 : FVec Ideal S32x1024 .f32) (v : Vec Ideal S8x1024 .f32)
    (h0 : ∀ (i : Fin 32) (k : Fin 1024), g0 (ix2 i k) = f ⟨0 + i.val, by omega⟩ k)
    (h1 : ∀ (i : Fin 32) (k : Fin 1024), g1 (ix2 i k) = f ⟨32 + i.val, by omega⟩ k)
    (h2 : ∀ (i : Fin 32) (k : Fin 1024), g2 (ix2 i k) = f ⟨64 + i.val, by omega⟩ k)
    (h3 : ∀ (i : Fin 32) (k : Fin 1024), g3 (ix2 i k) = f ⟨96 + i.val, by omega⟩ k)
    (h4 : ∀ (i : Fin 32) (k : Fin 1024), g4 (ix2 i k) = f ⟨128 + i.val, by omega⟩ k)
    (h5 : ∀ (i : Fin 32) (k : Fin 1024), g5 (ix2 i k) = f ⟨160 + i.val, by omega⟩ k)
    (h6 : ∀ (i : Fin 32) (k : Fin 1024), g6 (ix2 i k) = f ⟨192 + i.val, by omega⟩ k)
    (h7 : ∀ (i : Fin 32) (k : Fin 1024), g7 (ix2 i k) = f ⟨224 + i.val, by omega⟩ k)
    (h8 : ∀ (i : Fin 32) (k : Fin 1024), g8 (ix2 i k) = f ⟨256 + i.val, by omega⟩ k)
    (h9 : ∀ (i : Fin 32) (k : Fin 1024), g9 (ix2 i k) = f ⟨288 + i.val, by omega⟩ k)
    (h10 : ∀ (i : Fin 32) (k : Fin 1024), g10 (ix2 i k) = f ⟨320 + i.val, by omega⟩ k)
    (h11 : ∀ (i : Fin 32) (k : Fin 1024), g11 (ix2 i k) = f ⟨352 + i.val, by omega⟩ k)
    (s : Fin 8) (k : Fin 1024) (c : EReal) :
    Pay.maxc g11 (Pay.maxc g10 (Pay.maxc g9 (Pay.maxc g8 (Pay.maxc g7 (Pay.maxc g6 (Pay.maxc g5 (Pay.maxc g4 (Pay.maxc g3 (Pay.maxc g2 (Pay.maxc g1 (Pay.maxc g0 v))))))))))) (ix2 s k) ≤ c
      ↔ v (ix2 s k) ≤ c ∧ ∀ j i, eabs (f (crow j i s) k) ≤ c := by
  rw [Pay.maxc_at, Pay.maxc_at, Pay.maxc_at, Pay.maxc_at, Pay.maxc_at, Pay.maxc_at, Pay.maxc_at, Pay.maxc_at, Pay.maxc_at, Pay.maxc_at, Pay.maxc_at, Pay.maxc_at]
  simp only [h0, h1, h2, h3, h4, h5, h6, h7, h8, h9, h10, h11]
  exact rows_forall (fun r => eabs (f r k) ≤ c) s _

theorem sum_chain (f : Fin 384 → Fin 1024 → EReal) (g0 g1 g2 g3 g4 g5 g6 g7 g8 g9 g10 g11 : FVec Ideal S32x1024 .f32) (v : Vec Ideal S8x1024 .f32)
    (h0 : ∀ (i : Fin 32) (k : Fin 1024), g0 (ix2 i k) = f ⟨0 + i.val, by omega⟩ k)
    (h1 : ∀ (i : Fin 32) (k : Fin 1024), g1 (ix2 i k) = f ⟨32 + i.val, by omega⟩ k)
    (h2 : ∀ (i : Fin 32) (k : Fin 1024), g2 (ix2 i k) = f ⟨64 + i.val, by omega⟩ k)
    (h3 : ∀ (i : Fin 32) (k : Fin 1024), g3 (ix2 i k) = f ⟨96 + i.val, by omega⟩ k)
    (h4 : ∀ (i : Fin 32) (k : Fin 1024), g4 (ix2 i k) = f ⟨128 + i.val, by omega⟩ k)
    (h5 : ∀ (i : Fin 32) (k : Fin 1024), g5 (ix2 i k) = f ⟨160 + i.val, by omega⟩ k)
    (h6 : ∀ (i : Fin 32) (k : Fin 1024), g6 (ix2 i k) = f ⟨192 + i.val, by omega⟩ k)
    (h7 : ∀ (i : Fin 32) (k : Fin 1024), g7 (ix2 i k) = f ⟨224 + i.val, by omega⟩ k)
    (h8 : ∀ (i : Fin 32) (k : Fin 1024), g8 (ix2 i k) = f ⟨256 + i.val, by omega⟩ k)
    (h9 : ∀ (i : Fin 32) (k : Fin 1024), g9 (ix2 i k) = f ⟨288 + i.val, by omega⟩ k)
    (h10 : ∀ (i : Fin 32) (k : Fin 1024), g10 (ix2 i k) = f ⟨320 + i.val, by omega⟩ k)
    (h11 : ∀ (i : Fin 32) (k : Fin 1024), g11 (ix2 i k) = f ⟨352 + i.val, by omega⟩ k)
    (s : Fin 8) (k : Fin 1024) :
    Pay.sumc g11 (Pay.sumc g10 (Pay.sumc g9 (Pay.sumc g8 (Pay.sumc g7 (Pay.sumc g6 (Pay.sumc g5 (Pay.sumc g4 (Pay.sumc g3 (Pay.sumc g2 (Pay.sumc g1 (Pay.sumc g0 v))))))))))) (ix2 s k)
      = v (ix2 s k) + rowsum (fun r => f r k) s := by
  rw [Pay.sumc_at, Pay.sumc_at, Pay.sumc_at, Pay.sumc_at, Pay.sumc_at, Pay.sumc_at, Pay.sumc_at, Pay.sumc_at, Pay.sumc_at, Pay.sumc_at, Pay.sumc_at, Pay.sumc_at]
  simp only [h0, h1, h2, h3, h4, h5, h6, h7, h8, h9, h10, h11]
  exact rowsum_eq (fun r => f r k) s _

/-- The rows of one sequence, normalised. -/
abbrev XN (c : Dev nD) (i : Fin 16) (r : Fin 384) (k : Fin 1024) : EReal := rln (aX m c i r) (aG m c) (aB m c) k
/-- The gated rows of one sequence. -/
abbrev GZ (c : Dev nD) (i : Fin 16) (r : Fin 384) (k : Fin 1024) : EReal := gzv (aDy m c) (aLen m c) i r k

theorem xn_row (c : Dev nD) (t : Fin cfg0.N) (o : ℕ) (inb) (ho : o + 32 ≤ 384) (i : Fin 32) (k : Fin 1024) :
    k0_pay10 (iblk m c 7 t) (iblk m c 8 t) (View.ld (S := S1x384x1024) (iblk m c 5 t) (Rect.unit ![0, o, 0] ![1, 32, 1024] inb)) (ix2 i k)
      = XN m c (sq t) ⟨o + i.val, by omega⟩ k := by
  rw [Pay.xn_at]
  simp only [fun q => ldrow (iblk m c 5 t) o inb i q ⟨o + i.val, by omega⟩ rfl, i5, i7, i8]

theorem gz_row (c : Dev nD) (hl : ∀ i, 0 ≤ (aLen m c i).toInt) (t : Fin cfg0.N) (o : BitVec 32) (p : ℕ) (ho : o.toNat = p)
    (hp : p ≤ 352) (inb) (i : Fin 32) (k : Fin 1024) :
    Pay.gzc o (aLen m c (sq t)) (View.ld (S := S1x384x1024) (iblk m c 6 t) (Rect.unit ![0, p, 0] ![1, 32, 1024] inb)) (ix2 i k)
      = GZ m c (sq t) ⟨p + i.val, by omega⟩ k := by
  rw [Pay.gzc_at _ _ _ _ _ (hl _) (by omega), ldrow (iblk m c 6 t) p inb i k ⟨p + i.val, by omega⟩ rfl, ho, i6]
  rfl

/-! ## Case A -/

theorem w12A (c : Dev nD) (t : Fin cfg0.N) (h : t.val % 16 = 0) (h1 : ¬ t.val % 16 = 15) (r : Fin 384) (k : Fin 1024) :
    (outsAt0 m c t.val t.isLt).1 (ix3 0 r k) = xcode (aX m c) (aG m c) (aB m c) (aSx m c) (sq t) r k := by
  rw [outsAt0_A m c t h h1]
  frame_out
  simp only [Pay.xn1, Pay.xn2, Pay.xn3, Pay.xn4, Pay.xn5, Pay.xn6, Pay.xn7, Pay.xn8, Pay.xn9, Pay.xn10, Pay.xn11,
    Pay.xcode1, Pay.xcode2, Pay.xcode3, Pay.xcode4, Pay.xcode5, Pay.xcode6, Pay.xcode7, Pay.xcode8, Pay.xcode9, Pay.xcode10, Pay.xcode11]
  rw [canon_xn, ld11]
  change clip4 (Ideal.div (rln (fun q => iblk m c 5 t (ix3 0 r q)) (fun q => iblk m c 7 t (ix2 0 q)) (fun q => iblk m c 8 t (ix2 0 q)) k)
    (iblk m c 1 t (ix2 0 0))) = _
  unfold xcode
  simp only [i1, i5, i7, i8]

theorem w14A (c : Dev nD) (hl : ∀ i, 0 ≤ (aLen m c i).toInt) (t : Fin cfg0.N) (h : t.val % 16 = 0) (h1 : ¬ t.val % 16 = 15) (r : Fin 384) (k : Fin 1024) :
    (outsAt0 m c t.val t.isLt).2.2.1 (ix3 0 r k) = gcode (aDy m c) (aLen m c) (aSg m c) (sq t) r k := by
  rw [outsAt0_A m c t h h1]
  frame_out
  simp only [Pay.gz0, Pay.gz1, Pay.gz2, Pay.gz3, Pay.gz4, Pay.gz5, Pay.gz6, Pay.gz7, Pay.gz8, Pay.gz9, Pay.gz10, Pay.gz11,
    Pay.gcode1, Pay.gcode2, Pay.gcode3, Pay.gcode4, Pay.gcode5, Pay.gcode6, Pay.gcode7, Pay.gcode8, Pay.gcode9, Pay.gcode10, Pay.gcode11]
  simp only [ldlen]
  rw [canon_gz _ _ (hl _), ld11]
  change clip5 (Ideal.div (if (r.val : ℤ) < (aLen m c (sq t)).toInt then iblk m c 6 t (ix3 0 r k) else 0) (iblk m c 2 t (ix2 0 0))) = _
  unfold gcode gzv
  simp only [i2, i6]

theorem w13A (c : Dev nD) (t : Fin cfg0.N) (h : t.val % 16 = 0) (h1 : ¬ t.val % 16 = 15) (r : Fin 384) (n : Fin 2048) :
    (outsAt0 m c t.val t.isLt).2.1 (ix3 0 r n)
      = hval (aX m c) (aG m c) (aB m c) (aSx m c) (aW1 m c) (aS1 m c) (aB1 m c) (sq t) r n := by
  rw [outsAt0_A m c t h h1]
  frame_out
  simp only [Pay.xn1, Pay.xn2, Pay.xn3, Pay.xn4, Pay.xn5, Pay.xn6, Pay.xn7, Pay.xn8, Pay.xn9, Pay.xn10, Pay.xn11,
    Pay.xcode1, Pay.xcode2, Pay.xcode3, Pay.xcode4, Pay.xcode5, Pay.xcode6, Pay.xcode7, Pay.xcode8, Pay.xcode9, Pay.xcode10, Pay.xcode11]
  simp only [readCov_whole, canon_xn, Pay.h0, Pay.h3, Pay.h122, Pay.h125, Pay.h126, Pay.h127, Pay.h128]
  rw [canon_h, ld11, ld11, scale_h]
  change (∑ k : Fin 1024, clip4 (Ideal.div (rln (fun q => iblk m c 5 t (ix3 0 r q)) (fun q => iblk m c 7 t (ix2 0 q))
    (fun q => iblk m c 8 t (ix2 0 q)) k) (iblk m c 1 t (ix2 0 0))) * iblk m c 9 t (ix2 k n)) * (@HMul.hMul EReal EReal EReal instHMul (iblk m c 1 t (ix2 0 0)) (iblk m c 3 t (ix2 0 0)))
    + iblk m c 10 t (ix2 0 n) = _
  unfold hval xcode
  simp only [i1, i3, i5, i7, i8, i9, i10]

theorem w15A (c : Dev nD) (hl : ∀ i, 0 ≤ (aLen m c i).toInt) (t : Fin cfg0.N) (h : t.val % 16 = 0) (h1 : ¬ t.val % 16 = 15) (r : Fin 384) (n : Fin 1024) :
    (outsAt0 m c t.val t.isLt).2.2.2.1 (ix3 0 r n)
      = dvval (aDy m c) (aLen m c) (aSg m c) (aW2 m c) (aS2 m c) (sq t) r n := by
  rw [outsAt0_A m c t h h1]
  frame_out
  simp only [Pay.gz0, Pay.gz1, Pay.gz2, Pay.gz3, Pay.gz4, Pay.gz5, Pay.gz6, Pay.gz7, Pay.gz8, Pay.gz9, Pay.gz10, Pay.gz11,
    Pay.gcode1, Pay.gcode2, Pay.gcode3, Pay.gcode4, Pay.gcode5, Pay.gcode6, Pay.gcode7, Pay.gcode8, Pay.gcode9, Pay.gcode10, Pay.gcode11]
  simp only [readCov_whole, ldlen, canon_gz _ _ (hl _), Pay.dv0, Pay.dv2, Pay.dv3]
  rw [canon_dv, ld11, ld11, scale_dv]
  change (∑ k : Fin 1024, clip5 (Ideal.div (if (r.val : ℤ) < (aLen m c (sq t)).toInt then iblk m c 6 t (ix3 0 r k) else 0)
    (iblk m c 2 t (ix2 0 0))) * iblk m c 11 t (ix2 n k)) * (@HMul.hMul EReal EReal EReal instHMul (iblk m c 2 t (ix2 0 0)) (iblk m c 4 t (ix2 0 0))) = _
  unfold dvval gcode gzv
  simp only [i2, i4, i6, i11]

theorem xmA (c : Dev nD) (t : Fin cfg0.N) (h : t.val % 16 = 0) (h1 : ¬ t.val % 16 = 15) (s : Fin 8) (k : Fin 1024) (a : EReal) :
    (outsAt0 m c t.val t.isLt).2.2.2.2.2.2.2.1 (ix2 s k) ≤ a
      ↔ (0 : EReal) ≤ a ∧ ∀ j i, eabs (XN m c (sq t) (crow j i s) k) ≤ a := by
  rw [outsAt0_A m c t h h1]
  frame_out
  simp only [Pay.xmax0, Pay.xmax1, Pay.xmax2, Pay.xmax3, Pay.xmax4, Pay.xmax5, Pay.xmax6, Pay.xmax7, Pay.xmax8, Pay.xmax9, Pay.xmax10, Pay.xmax11, read_unread_whole]
  rw [max_chain (XN m c (sq t)) _ _ _ _ _ _ _ _ _ _ _ _ _
    (xn_row m c t 0 _ (by omega)) (xn_row m c t 32 _ (by omega)) (xn_row m c t 64 _ (by omega)) (xn_row m c t 96 _ (by omega)) (xn_row m c t 128 _ (by omega)) (xn_row m c t 160 _ (by omega)) (xn_row m c t 192 _ (by omega)) (xn_row m c t 224 _ (by omega)) (xn_row m c t 256 _ (by omega)) (xn_row m c t 288 _ (by omega)) (xn_row m c t 320 _ (by omega)) (xn_row m c t 352 _ (by omega))]
  rw [Pay.zero5_at]

theorem gmA (c : Dev nD) (hl : ∀ i, 0 ≤ (aLen m c i).toInt) (t : Fin cfg0.N) (h : t.val % 16 = 0) (h1 : ¬ t.val % 16 = 15) (s : Fin 8) (k : Fin 1024) (a : EReal) :
    (outsAt0 m c t.val t.isLt).2.2.2.2.2.2.2.2.1 (ix2 s k) ≤ a
      ↔ (0 : EReal) ≤ a ∧ ∀ j i, eabs (GZ m c (sq t) (crow j i s) k) ≤ a := by
  rw [outsAt0_A m c t h h1]
  frame_out
  simp only [Pay.gmax0, Pay.gmax1, Pay.gmax2, Pay.gmax3, Pay.gmax4, Pay.gmax5, Pay.gmax6, Pay.gmax7, Pay.gmax8, Pay.gmax9, Pay.gmax10, Pay.gmax11, read_unread_whole, ldlen]
  rw [max_chain (GZ m c (sq t)) _ _ _ _ _ _ _ _ _ _ _ _ _
    (gz_row m c hl t 0#32 0 rfl (by omega) _) (gz_row m c hl t 32#32 32 rfl (by omega) _) (gz_row m c hl t 64#32 64 rfl (by omega) _) (gz_row m c hl t 96#32 96 rfl (by omega) _) (gz_row m c hl t 128#32 128 rfl (by omega) _) (gz_row m c hl t 160#32 160 rfl (by omega) _) (gz_row m c hl t 192#32 192 rfl (by omega) _) (gz_row m c hl t 224#32 224 rfl (by omega) _) (gz_row m c hl t 256#32 256 rfl (by omega) _) (gz_row m c hl t 288#32 288 rfl (by omega) _) (gz_row m c hl t 320#32 320 rfl (by omega) _) (gz_row m c hl t 352#32 352 rfl (by omega) _)]
  rw [Pay.zero6_at]

theorem gsA (c : Dev nD) (hl : ∀ i, 0 ≤ (aLen m c i).toInt) (t : Fin cfg0.N) (h : t.val % 16 = 0) (h1 : ¬ t.val % 16 = 15) (s : Fin 8) (k : Fin 1024) :
    ((outsAt0 m c t.val t.isLt).2.2.2.2.2.2.2.2.2 (ix2 s k) : EReal)
      = (0 : EReal) + rowsum (fun r => GZ m c (sq t) r k) s := by
  rw [outsAt0_A m c t h h1]
  frame_out
  simp only [Pay.gsum0, Pay.gsum1, Pay.gsum2, Pay.gsum3, Pay.gsum4, Pay.gsum5, Pay.gsum6, Pay.gsum7, Pay.gsum8, Pay.gsum9, Pay.gsum10, Pay.gsum11, read_unread_whole, ldlen]
  rw [sum_chain (GZ m c (sq t)) _ _ _ _ _ _ _ _ _ _ _ _ _
    (gz_row m c hl t 0#32 0 rfl (by omega) _) (gz_row m c hl t 32#32 32 rfl (by omega) _) (gz_row m c hl t 64#32 64 rfl (by omega) _) (gz_row m c hl t 96#32 96 rfl (by omega) _) (gz_row m c hl t 128#32 128 rfl (by omega) _) (gz_row m c hl t 160#32 160 rfl (by omega) _) (gz_row m c hl t 192#32 192 rfl (by omega) _) (gz_row m c hl t 224#32 224 rfl (by omega) _) (gz_row m c hl t 256#32 256 rfl (by omega) _) (gz_row m c hl t 288#32 288 rfl (by omega) _) (gz_row m c hl t 320#32 320 rfl (by omega) _) (gz_row m c hl t 352#32 352 rfl (by omega) _)]
  rw [Pay.zero7_at]

/-! ## Case B -/

theorem w12B (c : Dev nD) (t : Fin cfg0.N) (h : ¬ t.val % 16 = 0) (h1 : ¬ t.val % 16 = 15) (r : Fin 384) (k : Fin 1024) :
    (outsAt0 m c t.val t.isLt).1 (ix3 0 r k) = xcode (aX m c) (aG m c) (aB m c) (aSx m c) (sq t) r k := by
  rw [outsAt0_B m c t h h1]
  frame_out
  simp only [Pay.xn1, Pay.xn2, Pay.xn3, Pay.xn4, Pay.xn5, Pay.xn6, Pay.xn7, Pay.xn8, Pay.xn9, Pay.xn10, Pay.xn11,
    Pay.xcode1, Pay.xcode2, Pay.xcode3, Pay.xcode4, Pay.xcode5, Pay.xcode6, Pay.xcode7, Pay.xcode8, Pay.xcode9, Pay.xcode10, Pay.xcode11]
  rw [canon_xn, ld11]
  change clip4 (Ideal.div (rln (fun q => iblk m c 5 t (ix3 0 r q)) (fun q => iblk m c 7 t (ix2 0 q)) (fun q => iblk m c 8 t (ix2 0 q)) k)
    (iblk m c 1 t (ix2 0 0))) = _
  unfold xcode
  simp only [i1, i5, i7, i8]

theorem w14B (c : Dev nD) (hl : ∀ i, 0 ≤ (aLen m c i).toInt) (t : Fin cfg0.N) (h : ¬ t.val % 16 = 0) (h1 : ¬ t.val % 16 = 15) (r : Fin 384) (k : Fin 1024) :
    (outsAt0 m c t.val t.isLt).2.2.1 (ix3 0 r k) = gcode (aDy m c) (aLen m c) (aSg m c) (sq t) r k := by
  rw [outsAt0_B m c t h h1]
  frame_out
  simp only [Pay.gz0, Pay.gz1, Pay.gz2, Pay.gz3, Pay.gz4, Pay.gz5, Pay.gz6, Pay.gz7, Pay.gz8, Pay.gz9, Pay.gz10, Pay.gz11,
    Pay.gcode1, Pay.gcode2, Pay.gcode3, Pay.gcode4, Pay.gcode5, Pay.gcode6, Pay.gcode7, Pay.gcode8, Pay.gcode9, Pay.gcode10, Pay.gcode11]
  simp only [ldlen]
  rw [canon_gz _ _ (hl _), ld11]
  change clip5 (Ideal.div (if (r.val : ℤ) < (aLen m c (sq t)).toInt then iblk m c 6 t (ix3 0 r k) else 0) (iblk m c 2 t (ix2 0 0))) = _
  unfold gcode gzv
  simp only [i2, i6]

theorem w13B (c : Dev nD) (t : Fin cfg0.N) (h : ¬ t.val % 16 = 0) (h1 : ¬ t.val % 16 = 15) (r : Fin 384) (n : Fin 2048) :
    (outsAt0 m c t.val t.isLt).2.1 (ix3 0 r n)
      = hval (aX m c) (aG m c) (aB m c) (aSx m c) (aW1 m c) (aS1 m c) (aB1 m c) (sq t) r n := by
  rw [outsAt0_B m c t h h1]
  frame_out
  simp only [Pay.xn1, Pay.xn2, Pay.xn3, Pay.xn4, Pay.xn5, Pay.xn6, Pay.xn7, Pay.xn8, Pay.xn9, Pay.xn10, Pay.xn11,
    Pay.xcode1, Pay.xcode2, Pay.xcode3, Pay.xcode4, Pay.xcode5, Pay.xcode6, Pay.xcode7, Pay.xcode8, Pay.xcode9, Pay.xcode10, Pay.xcode11]
  simp only [readCov_whole, canon_xn, Pay.h0, Pay.h3, Pay.h122, Pay.h125, Pay.h126, Pay.h127, Pay.h128]
  rw [canon_h, ld11, ld11, scale_h]
  change (∑ k : Fin 1024, clip4 (Ideal.div (rln (fun q => iblk m c 5 t (ix3 0 r q)) (fun q => iblk m c 7 t (ix2 0 q))
    (fun q => iblk m c 8 t (ix2 0 q)) k) (iblk m c 1 t (ix2 0 0))) * iblk m c 9 t (ix2 k n)) * (@HMul.hMul EReal EReal EReal instHMul (iblk m c 1 t (ix2 0 0)) (iblk m c 3 t (ix2 0 0)))
    + iblk m c 10 t (ix2 0 n) = _
  unfold hval xcode
  simp only [i1, i3, i5, i7, i8, i9, i10]

theorem w15B (c : Dev nD) (hl : ∀ i, 0 ≤ (aLen m c i).toInt) (t : Fin cfg0.N) (h : ¬ t.val % 16 = 0) (h1 : ¬ t.val % 16 = 15) (r : Fin 384) (n : Fin 1024) :
    (outsAt0 m c t.val t.isLt).2.2.2.1 (ix3 0 r n)
      = dvval (aDy m c) (aLen m c) (aSg m c) (aW2 m c) (aS2 m c) (sq t) r n := by
  rw [outsAt0_B m c t h h1]
  frame_out
  simp only [Pay.gz0, Pay.gz1, Pay.gz2, Pay.gz3, Pay.gz4, Pay.gz5, Pay.gz6, Pay.gz7, Pay.gz8, Pay.gz9, Pay.gz10, Pay.gz11,
    Pay.gcode1, Pay.gcode2, Pay.gcode3, Pay.gcode4, Pay.gcode5, Pay.gcode6, Pay.gcode7, Pay.gcode8, Pay.gcode9, Pay.gcode10, Pay.gcode11]
  simp only [readCov_whole, ldlen, canon_gz _ _ (hl _), Pay.dv0, Pay.dv2, Pay.dv3]
  rw [canon_dv, ld11, ld11, scale_dv]
  change (∑ k : Fin 1024, clip5 (Ideal.div (if (r.val : ℤ) < (aLen m c (sq t)).toInt then iblk m c 6 t (ix3 0 r k) else 0)
    (iblk m c 2 t (ix2 0 0))) * iblk m c 11 t (ix2 n k)) * (@HMul.hMul EReal EReal EReal instHMul (iblk m c 2 t (ix2 0 0)) (iblk m c 4 t (ix2 0 0))) = _
  unfold dvval gcode gzv
  simp only [i2, i4, i6, i11]

theorem xmB (c : Dev nD) (t : Fin cfg0.N) (h : ¬ t.val % 16 = 0) (h1 : ¬ t.val % 16 = 15) (s : Fin 8) (k : Fin 1024) (a : EReal) :
    (outsAt0 m c t.val t.isLt).2.2.2.2.2.2.2.1 (ix2 s k) ≤ a
      ↔ (outsAt0 m c (t.val - 1) (by omega)).2.2.2.2.2.2.2.1 (ix2 s k) ≤ a ∧ ∀ j i, eabs (XN m c (sq t) (crow j i s) k) ≤ a := by
  rw [outsAt0_B m c t h h1]
  frame_out
  simp only [Pay.xmax0, Pay.xmax1, Pay.xmax2, Pay.xmax3, Pay.xmax4, Pay.xmax5, Pay.xmax6, Pay.xmax7, Pay.xmax8, Pay.xmax9, Pay.xmax10, Pay.xmax11, read_unread_whole]
  rw [max_chain (XN m c (sq t)) _ _ _ _ _ _ _ _ _ _ _ _ _
    (xn_row m c t 0 _ (by omega)) (xn_row m c t 32 _ (by omega)) (xn_row m c t 64 _ (by omega)) (xn_row m c t 96 _ (by omega)) (xn_row m c t 128 _ (by omega)) (xn_row m c t 160 _ (by omega)) (xn_row m c t 192 _ (by omega)) (xn_row m c t 224 _ (by omega)) (xn_row m c t 256 _ (by omega)) (xn_row m c t 288 _ (by omega)) (xn_row m c t 320 _ (by omega)) (xn_row m c t 352 _ (by omega))]

theorem gmB (c : Dev nD) (hl : ∀ i, 0 ≤ (aLen m c i).toInt) (t : Fin cfg0.N) (h : ¬ t.val % 16 = 0) (h1 : ¬ t.val % 16 = 15) (s : Fin 8) (k : Fin 1024) (a : EReal) :
    (outsAt0 m c t.val t.isLt).2.2.2.2.2.2.2.2.1 (ix2 s k) ≤ a
      ↔ (outsAt0 m c (t.val - 1) (by omega)).2.2.2.2.2.2.2.2.1 (ix2 s k) ≤ a ∧ ∀ j i, eabs (GZ m c (sq t) (crow j i s) k) ≤ a := by
  rw [outsAt0_B m c t h h1]
  frame_out
  simp only [Pay.gmax0, Pay.gmax1, Pay.gmax2, Pay.gmax3, Pay.gmax4, Pay.gmax5, Pay.gmax6, Pay.gmax7, Pay.gmax8, Pay.gmax9, Pay.gmax10, Pay.gmax11, read_unread_whole, ldlen]
  rw [max_chain (GZ m c (sq t)) _ _ _ _ _ _ _ _ _ _ _ _ _
    (gz_row m c hl t 0#32 0 rfl (by omega) _) (gz_row m c hl t 32#32 32 rfl (by omega) _) (gz_row m c hl t 64#32 64 rfl (by omega) _) (gz_row m c hl t 96#32 96 rfl (by omega) _) (gz_row m c hl t 128#32 128 rfl (by omega) _) (gz_row m c hl t 160#32 160 rfl (by omega) _) (gz_row m c hl t 192#32 192 rfl (by omega) _) (gz_row m c hl t 224#32 224 rfl (by omega) _) (gz_row m c hl t 256#32 256 rfl (by omega) _) (gz_row m c hl t 288#32 288 rfl (by omega) _) (gz_row m c hl t 320#32 320 rfl (by omega) _) (gz_row m c hl t 352#32 352 rfl (by omega) _)]

theorem gsB (c : Dev nD) (hl : ∀ i, 0 ≤ (aLen m c i).toInt) (t : Fin cfg0.N) (h : ¬ t.val % 16 = 0) (h1 : ¬ t.val % 16 = 15) (s : Fin 8) (k : Fin 1024) :
    ((outsAt0 m c t.val t.isLt).2.2.2.2.2.2.2.2.2 (ix2 s k) : EReal)
      = (outsAt0 m c (t.val - 1) (by omega)).2.2.2.2.2.2.2.2.2 (ix2 s k) + rowsum (fun r => GZ m c (sq t) r k) s := by
  rw [outsAt0_B m c t h h1]
  frame_out
  simp only [Pay.gsum0, Pay.gsum1, Pay.gsum2, Pay.gsum3, Pay.gsum4, Pay.gsum5, Pay.gsum6, Pay.gsum7, Pay.gsum8, Pay.gsum9, Pay.gsum10, Pay.gsum11, read_unread_whole, ldlen]
  rw [sum_chain (GZ m c (sq t)) _ _ _ _ _ _ _ _ _ _ _ _ _
    (gz_row m c hl t 0#32 0 rfl (by omega) _) (gz_row m c hl t 32#32 32 rfl (by omega) _) (gz_row m c hl t 64#32 64 rfl (by omega) _) (gz_row m c hl t 96#32 96 rfl (by omega) _) (gz_row m c hl t 128#32 128 rfl (by omega) _) (gz_row m c hl t 160#32 160 rfl (by omega) _) (gz_row m c hl t 192#32 192 rfl (by omega) _) (gz_row m c hl t 224#32 224 rfl (by omega) _) (gz_row m c hl t 256#32 256 rfl (by omega) _) (gz_row m c hl t 288#32 288 rfl (by omega) _) (gz_row m c hl t 320#32 320 rfl (by omega) _) (gz_row m c hl t 352#32 352 rfl (by omega) _)]

/-! ## Case C -/

theorem w12C (c : Dev nD) (t : Fin cfg0.N) (h : ¬ t.val % 16 = 0) (h1 : t.val % 16 = 15) (r : Fin 384) (k : Fin 1024) :
    (outsAt0 m c t.val t.isLt).1 (ix3 0 r k) = xcode (aX m c) (aG m c) (aB m c) (aSx m c) (sq t) r k := by
  rw [outsAt0_C m c t h h1]
  frame_out
  simp only [Pay.xn1, Pay.xn2, Pay.xn3, Pay.xn4, Pay.xn5, Pay.xn6, Pay.xn7, Pay.xn8, Pay.xn9, Pay.xn10, Pay.xn11,
    Pay.xcode1, Pay.xcode2, Pay.xcode3, Pay.xcode4, Pay.xcode5, Pay.xcode6, Pay.xcode7, Pay.xcode8, Pay.xcode9, Pay.xcode10, Pay.xcode11]
  rw [canon_xn, ld11]
  change clip4 (Ideal.div (rln (fun q => iblk m c 5 t (ix3 0 r q)) (fun q => iblk m c 7 t (ix2 0 q)) (fun q => iblk m c 8 t (ix2 0 q)) k)
    (iblk m c 1 t (ix2 0 0))) = _
  unfold xcode
  simp only [i1, i5, i7, i8]

theorem w14C (c : Dev nD) (hl : ∀ i, 0 ≤ (aLen m c i).toInt) (t : Fin cfg0.N) (h : ¬ t.val % 16 = 0) (h1 : t.val % 16 = 15) (r : Fin 384) (k : Fin 1024) :
    (outsAt0 m c t.val t.isLt).2.2.1 (ix3 0 r k) = gcode (aDy m c) (aLen m c) (aSg m c) (sq t) r k := by
  rw [outsAt0_C m c t h h1]
  frame_out
  simp only [Pay.gz0, Pay.gz1, Pay.gz2, Pay.gz3, Pay.gz4, Pay.gz5, Pay.gz6, Pay.gz7, Pay.gz8, Pay.gz9, Pay.gz10, Pay.gz11,
    Pay.gcode1, Pay.gcode2, Pay.gcode3, Pay.gcode4, Pay.gcode5, Pay.gcode6, Pay.gcode7, Pay.gcode8, Pay.gcode9, Pay.gcode10, Pay.gcode11]
  simp only [ldlen]
  rw [canon_gz _ _ (hl _), ld11]
  change clip5 (Ideal.div (if (r.val : ℤ) < (aLen m c (sq t)).toInt then iblk m c 6 t (ix3 0 r k) else 0) (iblk m c 2 t (ix2 0 0))) = _
  unfold gcode gzv
  simp only [i2, i6]

theorem w13C (c : Dev nD) (t : Fin cfg0.N) (h : ¬ t.val % 16 = 0) (h1 : t.val % 16 = 15) (r : Fin 384) (n : Fin 2048) :
    (outsAt0 m c t.val t.isLt).2.1 (ix3 0 r n)
      = hval (aX m c) (aG m c) (aB m c) (aSx m c) (aW1 m c) (aS1 m c) (aB1 m c) (sq t) r n := by
  rw [outsAt0_C m c t h h1]
  frame_out
  simp only [Pay.xn1, Pay.xn2, Pay.xn3, Pay.xn4, Pay.xn5, Pay.xn6, Pay.xn7, Pay.xn8, Pay.xn9, Pay.xn10, Pay.xn11,
    Pay.xcode1, Pay.xcode2, Pay.xcode3, Pay.xcode4, Pay.xcode5, Pay.xcode6, Pay.xcode7, Pay.xcode8, Pay.xcode9, Pay.xcode10, Pay.xcode11]
  simp only [readCov_whole, canon_xn, Pay.h0, Pay.h3, Pay.h122, Pay.h125, Pay.h126, Pay.h127, Pay.h128]
  rw [canon_h, ld11, ld11, scale_h]
  change (∑ k : Fin 1024, clip4 (Ideal.div (rln (fun q => iblk m c 5 t (ix3 0 r q)) (fun q => iblk m c 7 t (ix2 0 q))
    (fun q => iblk m c 8 t (ix2 0 q)) k) (iblk m c 1 t (ix2 0 0))) * iblk m c 9 t (ix2 k n)) * (@HMul.hMul EReal EReal EReal instHMul (iblk m c 1 t (ix2 0 0)) (iblk m c 3 t (ix2 0 0)))
    + iblk m c 10 t (ix2 0 n) = _
  unfold hval xcode
  simp only [i1, i3, i5, i7, i8, i9, i10]

theorem w15C (c : Dev nD) (hl : ∀ i, 0 ≤ (aLen m c i).toInt) (t : Fin cfg0.N) (h : ¬ t.val % 16 = 0) (h1 : t.val % 16 = 15) (r : Fin 384) (n : Fin 1024) :
    (outsAt0 m c t.val t.isLt).2.2.2.1 (ix3 0 r n)
      = dvval (aDy m c) (aLen m c) (aSg m c) (aW2 m c) (aS2 m c) (sq t) r n := by
  rw [outsAt0_C m c t h h1]
  frame_out
  simp only [Pay.gz0, Pay.gz1, Pay.gz2, Pay.gz3, Pay.gz4, Pay.gz5, Pay.gz6, Pay.gz7, Pay.gz8, Pay.gz9, Pay.gz10, Pay.gz11,
    Pay.gcode1, Pay.gcode2, Pay.gcode3, Pay.gcode4, Pay.gcode5, Pay.gcode6, Pay.gcode7, Pay.gcode8, Pay.gcode9, Pay.gcode10, Pay.gcode11]
  simp only [readCov_whole, ldlen, canon_gz _ _ (hl _), Pay.dv0, Pay.dv2, Pay.dv3]
  rw [canon_dv, ld11, ld11, scale_dv]
  change (∑ k : Fin 1024, clip5 (Ideal.div (if (r.val : ℤ) < (aLen m c (sq t)).toInt then iblk m c 6 t (ix3 0 r k) else 0)
    (iblk m c 2 t (ix2 0 0))) * iblk m c 11 t (ix2 n k)) * (@HMul.hMul EReal EReal EReal instHMul (iblk m c 2 t (ix2 0 0)) (iblk m c 4 t (ix2 0 0))) = _
  unfold dvval gcode gzv
  simp only [i2, i4, i6, i11]

theorem xmC (c : Dev nD) (t : Fin cfg0.N) (h : ¬ t.val % 16 = 0) (h1 : t.val % 16 = 15) (s : Fin 8) (k : Fin 1024) (a : EReal) :
    (outsAt0 m c t.val t.isLt).2.2.2.2.2.2.2.1 (ix2 s k) ≤ a
      ↔ (outsAt0 m c (t.val - 1) (by omega)).2.2.2.2.2.2.2.1 (ix2 s k) ≤ a ∧ ∀ j i, eabs (XN m c (sq t) (crow j i s) k) ≤ a := by
  rw [outsAt0_C m c t h h1]
  frame_out
  simp only [Pay.xmax0, Pay.xmax1, Pay.xmax2, Pay.xmax3, Pay.xmax4, Pay.xmax5, Pay.xmax6, Pay.xmax7, Pay.xmax8, Pay.xmax9, Pay.xmax10, Pay.xmax11, read_unread_whole]
  rw [max_chain (XN m c (sq t)) _ _ _ _ _ _ _ _ _ _ _ _ _
    (xn_row m c t 0 _ (by omega)) (xn_row m c t 32 _ (by omega)) (xn_row m c t 64 _ (by omega)) (xn_row m c t 96 _ (by omega)) (xn_row m c t 128 _ (by omega)) (xn_row m c t 160 _ (by omega)) (xn_row m c t 192 _ (by omega)) (xn_row m c t 224 _ (by omega)) (xn_row m c t 256 _ (by omega)) (xn_row m c t 288 _ (by omega)) (xn_row m c t 320 _ (by omega)) (xn_row m c t 352 _ (by omega))]

theorem gmC (c : Dev nD) (hl : ∀ i, 0 ≤ (aLen m c i).toInt) (t : Fin cfg0.N) (h : ¬ t.val % 16 = 0) (h1 : t.val % 16 = 15) (s : Fin 8) (k : Fin 1024) (a : EReal) :
    (outsAt0 m c t.val t.isLt).2.2.2.2.2.2.2.2.1 (ix2 s k) ≤ a
      ↔ (outsAt0 m c (t.val - 1) (by omega)).2.2.2.2.2.2.2.2.1 (ix2 s k) ≤ a ∧ ∀ j i, eabs (GZ m c (sq t) (crow j i s) k) ≤ a := by
  rw [outsAt0_C m c t h h1]
  frame_out
  simp only [Pay.gmax0, Pay.gmax1, Pay.gmax2, Pay.gmax3, Pay.gmax4, Pay.gmax5, Pay.gmax6, Pay.gmax7, Pay.gmax8, Pay.gmax9, Pay.gmax10, Pay.gmax11, read_unread_whole, ldlen]
  rw [max_chain (GZ m c (sq t)) _ _ _ _ _ _ _ _ _ _ _ _ _
    (gz_row m c hl t 0#32 0 rfl (by omega) _) (gz_row m c hl t 32#32 32 rfl (by omega) _) (gz_row m c hl t 64#32 64 rfl (by omega) _) (gz_row m c hl t 96#32 96 rfl (by omega) _) (gz_row m c hl t 128#32 128 rfl (by omega) _) (gz_row m c hl t 160#32 160 rfl (by omega) _) (gz_row m c hl t 192#32 192 rfl (by omega) _) (gz_row m c hl t 224#32 224 rfl (by omega) _) (gz_row m c hl t 256#32 256 rfl (by omega) _) (gz_row m c hl t 288#32 288 rfl (by omega) _) (gz_row m c hl t 320#32 320 rfl (by omega) _) (gz_row m c hl t 352#32 352 rfl (by omega) _)]

theorem gsC (c : Dev nD) (hl : ∀ i, 0 ≤ (aLen m c i).toInt) (t : Fin cfg0.N) (h : ¬ t.val % 16 = 0) (h1 : t.val % 16 = 15) (s : Fin 8) (k : Fin 1024) :
    ((outsAt0 m c t.val t.isLt).2.2.2.2.2.2.2.2.2 (ix2 s k) : EReal)
      = (outsAt0 m c (t.val - 1) (by omega)).2.2.2.2.2.2.2.2.2 (ix2 s k) + rowsum (fun r => GZ m c (sq t) r k) s := by
  rw [outsAt0_C m c t h h1]
  frame_out
  simp only [Pay.gsum0, Pay.gsum1, Pay.gsum2, Pay.gsum3, Pay.gsum4, Pay.gsum5, Pay.gsum6, Pay.gsum7, Pay.gsum8, Pay.gsum9, Pay.gsum10, Pay.gsum11, read_unread_whole, ldlen]
  rw [sum_chain (GZ m c (sq t)) _ _ _ _ _ _ _ _ _ _ _ _ _
    (gz_row m c hl t 0#32 0 rfl (by omega) _) (gz_row m c hl t 32#32 32 rfl (by omega) _) (gz_row m c hl t 64#32 64 rfl (by omega) _) (gz_row m c hl t 96#32 96 rfl (by omega) _) (gz_row m c hl t 128#32 128 rfl (by omega) _) (gz_row m c hl t 160#32 160 rfl (by omega) _) (gz_row m c hl t 192#32 192 rfl (by omega) _) (gz_row m c hl t 224#32 224 rfl (by omega) _) (gz_row m c hl t 256#32 256 rfl (by omega) _) (gz_row m c hl t 288#32 288 rfl (by omega) _) (gz_row m c hl t 320#32 320 rfl (by omega) _) (gz_row m c hl t 352#32 352 rfl (by omega) _)]

/-- At the last point output 16 is read off the running result. -/
theorem o16 (c : Dev nD) (t : Fin cfg0.N) (h : ¬ t.val % 16 = 0) (h1 : t.val % 16 = 15) (j) :
    (outsAt0 m c t.val t.isLt).2.2.2.2.1 j = k0_pay4 (outsAt0 m c t.val t.isLt).2.2.2.2.2.2.2.2.2 j := by
  rw [outsAt0_C m c t h h1]
  frame_out

/-- At the last point output 17 is read off the running result. -/
theorem o17 (c : Dev nD) (t : Fin cfg0.N) (h : ¬ t.val % 16 = 0) (h1 : t.val % 16 = 15) (j) :
    (outsAt0 m c t.val t.isLt).2.2.2.2.2.1 j = k0_pay2 (outsAt0 m c t.val t.isLt).2.2.2.2.2.2.2.1  := by
  rw [outsAt0_C m c t h h1]
  frame_out

/-- At the last point output 18 is read off the running result. -/
theorem o18 (c : Dev nD) (t : Fin cfg0.N) (h : ¬ t.val % 16 = 0) (h1 : t.val % 16 = 15) (j) :
    (outsAt0 m c t.val t.isLt).2.2.2.2.2.2.1 j = k0_pay3 (outsAt0 m c t.val t.isLt).2.2.2.2.2.2.2.2.1  := by
  rw [outsAt0_C m c t h h1]
  frame_out

end Cert.RowsInIdeal.Val

end
-- ==== Proof.InFin.lean ====
module

public import proofs.«01_k».proof.Proof.InVal

/-! The seven result arrays of the kernel's "rows_in" call over the extended reals, as functions of the arguments. -/

@[expose] public section

set_option maxRecDepth 16384

noncomputable section

open Idealize.ShloMosaic Idealize.ShloMosaic.TcCoe Idealize.SL.Sem
open Cert.Spec

namespace Cert.RowsInIdeal.Val
open Cert.RowsInIdeal Cert.RowsInIdeal.Gen
variable (m : (ℓ : Loc nD τ sig) → Buf (Elt Ideal) ℓ)

theorem lt16 (t : Fin cfg0.N) : t.val < 16 := lt_of_lt_of_eq t.isLt (show cfg0.N = 16 from N_0)

/-! ## What every point leaves in the blocks of the codes and the products -/

theorem w12 (c : Dev nD) (t : Fin cfg0.N) (r : Fin 384) (k : Fin 1024) :
    (outsAt0 m c t.val t.isLt).1 (ix3 0 r k) = xcode (aX m c) (aG m c) (aB m c) (aSx m c) (sq t) r k := by
  have := lt16 t
  by_cases h : t.val % 16 = 0
  · exact w12A m c t h (by omega) r k
  · by_cases h1 : t.val % 16 = 15
    · exact w12C m c t h h1 r k
    · exact w12B m c t h h1 r k

theorem w13 (c : Dev nD) (t : Fin cfg0.N) (r : Fin 384) (n : Fin 2048) :
    (outsAt0 m c t.val t.isLt).2.1 (ix3 0 r n)
      = hval (aX m c) (aG m c) (aB m c) (aSx m c) (aW1 m c) (aS1 m c) (aB1 m c) (sq t) r n := by
  by_cases h : t.val % 16 = 0
  · exact w13A m c t h (by omega) r n
  · by_cases h1 : t.val % 16 = 15
    · exact w13C m c t h h1 r n
    · exact w13B m c t h h1 r n

theorem w14 (c : Dev nD) (hl : ∀ i, 0 ≤ (aLen m c i).toInt) (t : Fin cfg0.N) (r : Fin 384) (k : Fin 1024) :
    (outsAt0 m c t.val t.isLt).2.2.1 (ix3 0 r k) = gcode (aDy m c) (aLen m c) (aSg m c) (sq t) r k := by
  by_cases h : t.val % 16 = 0
  · exact w14A m c hl t h (by omega) r k
  · by_cases h1 : t.val % 16 = 15
    · exact w14C m c hl t h h1 r k
    · exact w14B m c hl t h h1 r k

theorem w15 (c : Dev nD) (hl : ∀ i, 0 ≤ (aLen m c i).toInt) (t : Fin cfg0.N) (r : Fin 384) (n : Fin 1024) :
    (outsAt0 m c t.val t.isLt).2.2.2.1 (ix3 0 r n)
      = dvval (aDy m c) (aLen m c) (aSg m c) (aW2 m c) (aS2 m c) (sq t) r n := by
  by_cases h : t.val % 16 = 0
  · exact w15A m c hl t h (by omega) r n
  · by_cases h1 : t.val % 16 = 15
    · exact w15C m c hl t h h1 r n
    · exact w15B m c hl t h h1 r n

/-! ## The running results after every point -/

theorem forall_upto (P : Fin 16 → Prop) (n : ℕ) (h : n + 1 < 16) :
    (∀ i : Fin 16, i.val ≤ n + 1 → P i) ↔ (∀ i : Fin 16, i.val ≤ n → P i) ∧ P ⟨n + 1, h⟩ := by
  refine ⟨fun hp => ⟨fun i hi => hp i (by omega), hp _ (le_refl _)⟩, fun ⟨h1, h2⟩ i hi => ?_⟩
  rcases Nat.lt_or_ge i.val (n + 1) with h3 | h3
  · exact h1 i (by omega)
  · have e : i = ⟨n + 1, h⟩ := Fin.ext (by simp; omega)
    rw [e]
    exact h2

theorem xm (c : Dev nD) (s : Fin 8) (k : Fin 1024) (a : EReal) : ∀ (n : ℕ) (hn : n < cfg0.N),
    (outsAt0 m c n hn).2.2.2.2.2.2.2.1 (ix2 s k) ≤ a
      ↔ (0 : EReal) ≤ a ∧ ∀ i : Fin 16, i.val ≤ n → ∀ j q, eabs (XN m c i (crow j q s) k) ≤ a
  | 0, hn => by
    rw [xmA m c ⟨0, hn⟩ rfl (by simp) s k a]
    exact and_congr_right fun _ => ⟨fun h i hi => (Fin.ext (Nat.le_zero.mp hi) : i = 0) ▸ h, fun h => h 0 (le_refl _)⟩
  | n + 1, hn => by
    have h16 : n + 1 < 16 := lt16 ⟨n + 1, hn⟩
    have ih := xm c s k a n (by omega)
    rw [forall_upto _ n h16, ← and_assoc, ← ih]
    by_cases h1 : (n + 1) % 16 = 15
    · exact xmC m c ⟨n + 1, hn⟩ (by simp; omega) h1 s k a
    · exact xmB m c ⟨n + 1, hn⟩ (by simp; omega) h1 s k a

theorem gm (c : Dev nD) (hl : ∀ i, 0 ≤ (aLen m c i).toInt) (s : Fin 8) (k : Fin 1024) (a : EReal) : ∀ (n : ℕ) (hn : n < cfg0.N),
    (outsAt0 m c n hn).2.2.2.2.2.2.2.2.1 (ix2 s k) ≤ a
      ↔ (0 : EReal) ≤ a ∧ ∀ i : Fin 16, i.val ≤ n → ∀ j q, eabs (GZ m c i (crow j q s) k) ≤ a
  | 0, hn => by
    rw [gmA m c hl ⟨0, hn⟩ rfl (by simp) s k a]
    exact and_congr_right fun _ => ⟨fun h i hi => (Fin.ext (Nat.le_zero.mp hi) : i = 0) ▸ h, fun h => h 0 (le_refl _)⟩
  | n + 1, hn => by
    have h16 : n + 1 < 16 := lt16 ⟨n + 1, hn⟩
    have ih := gm c hl s k a n (by omega)
    rw [forall_upto _ n h16, ← and_assoc, ← ih]
    by_cases h1 : (n + 1) % 16 = 15
    · exact gmC m c hl ⟨n + 1, hn⟩ (by simp; omega) h1 s k a
    · exact gmB m c hl ⟨n + 1, hn⟩ (by simp; omega) h1 s k a

theorem gs (c : Dev nD) (hl : ∀ i, 0 ≤ (aLen m c i).toInt) (s : Fin 8) (k : Fin 1024) : ∀ (n : ℕ) (hn : n < cfg0.N),
    ((outsAt0 m c n hn).2.2.2.2.2.2.2.2.2 (ix2 s k) : EReal) = upto (fun i => rowsum (fun r => GZ m c i r k) s) n
  | 0, hn => by
    rw [gsA m c hl ⟨0, hn⟩ rfl (by simp) s k, upto_zero, zero_add]
    rfl
  | n + 1, hn => by
    have h16 : n + 1 < 16 := lt16 ⟨n + 1, hn⟩
    have ih := gs c hl s k n (by omega)
    rw [upto_succ _ n h16, ← ih]
    by_cases h1 : (n + 1) % 16 = 15
    · exact gsC m c hl ⟨n + 1, hn⟩ (by simp; omega) h1 s k
    · exact gsB m c hl ⟨n + 1, hn⟩ (by simp; omega) h1 s k

/-! ## The result arrays -/

theorem final12 (c : Dev nD) : (dats m 0 c).arrAt 12 cfg0.N
    = fun j : S16x384x1024.Idx => xcode (aX m c) (aG m c) (aB m c) (aSx m c) (j 0) (j 1) (j 2) := by
  refine (dats m 0 c).arrAt_eq_of_covers 12 _ (by decide +kernel) fun t hf y => ?_
  blk_simp
  rw [after0_12]
  idx_vars y
  obtain rfl := Subsingleton.elim y0 (0 : Fin 1)
  refine (w12 m c t y1 y2).trans ?_
  have e : ∀ F : S16x384x1024.Idx → EReal, F (ix3 (sq t) y1 y2)
      = F (((View.whole main_v7_0).slice (win0_12.rect t)).emb (ix3 0 y1 y2)) := fun F => by blk_ext [idx t]
  exact e fun j => xcode (aX m c) (aG m c) (aB m c) (aSx m c) (j 0) (j 1) (j 2)

theorem final13 (c : Dev nD) : (dats m 0 c).arrAt 13 cfg0.N
    = fun j : S16x384x2048.Idx => hval (aX m c) (aG m c) (aB m c) (aSx m c) (aW1 m c) (aS1 m c) (aB1 m c) (j 0) (j 1) (j 2) := by
  refine (dats m 0 c).arrAt_eq_of_covers 13 _ (by decide +kernel) fun t hf y => ?_
  blk_simp
  rw [after0_13]
  idx_vars y
  obtain rfl := Subsingleton.elim y0 (0 : Fin 1)
  refine (w13 m c t y1 y2).trans ?_
  have e : ∀ F : S16x384x2048.Idx → EReal, F (ix3 (sq t) y1 y2)
      = F (((View.whole main_v7_1).slice (win0_13.rect t)).emb (ix3 0 y1 y2)) := fun F => by blk_ext [idx t]
  exact e fun j => hval (aX m c) (aG m c) (aB m c) (aSx m c) (aW1 m c) (aS1 m c) (aB1 m c) (j 0) (j 1) (j 2)

theorem final14 (c : Dev nD) (hl : ∀ i, 0 ≤ (aLen m c i).toInt) : (dats m 0 c).arrAt 14 cfg0.N
    = fun j : S16x384x1024.Idx => gcode (aDy m c) (aLen m c) (aSg m c) (j 0) (j 1) (j 2) := by
  refine (dats m 0 c).arrAt_eq_of_covers 14 _ (by decide +kernel) fun t hf y => ?_
  blk_simp
  rw [after0_14]
  idx_vars y
  obtain rfl := Subsingleton.elim y0 (0 : Fin 1)
  refine (w14 m c hl t y1 y2).trans ?_
  have e : ∀ F : S16x384x1024.Idx → EReal, F (ix3 (sq t) y1 y2)
      = F (((View.whole main_v7_2).slice (win0_14.rect t)).emb (ix3 0 y1 y2)) := fun F => by blk_ext [idx t]
  exact e fun j => gcode (aDy m c) (aLen m c) (aSg m c) (j 0) (j 1) (j 2)

theorem final15 (c : Dev nD) (hl : ∀ i, 0 ≤ (aLen m c i).toInt) : (dats m 0 c).arrAt 15 cfg0.N
    = fun j : S16x384x1024.Idx => dvval (aDy m c) (aLen m c) (aSg m c) (aW2 m c) (aS2 m c) (j 0) (j 1) (j 2) := by
  refine (dats m 0 c).arrAt_eq_of_covers 15 _ (by decide +kernel) fun t hf y => ?_
  blk_simp
  rw [after0_15]
  idx_vars y
  obtain rfl := Subsingleton.elim y0 (0 : Fin 1)
  refine (w15 m c hl t y1 y2).trans ?_
  have e : ∀ F : S16x384x1024.Idx → EReal, F (ix3 (sq t) y1 y2)
      = F (((View.whole main_v7_3).slice (win0_15.rect t)).emb (ix3 0 y1 y2)) := fun F => by blk_ext [idx t]
  exact e fun j => dvval (aDy m c) (aLen m c) (aSg m c) (aW2 m c) (aS2 m c) (j 0) (j 1) (j 2)

theorem final16 (c : Dev nD) (hl : ∀ i, 0 ≤ (aLen m c i).toInt) : (dats m 0 c).arrAt 16 cfg0.N
    = fun j : S1x1024.Idx => db2val (aDy m c) (aLen m c) (j 1) := by
  refine (dats m 0 c).arrAt_eq_of_after_last 16 t0_15 (by decide +kernel) _ fun j => ?_
  blk_simp
  rw [after0_16, o16 m c t0_15 (by decide) (by decide)]
  idx_vars j
  obtain rfl := Subsingleton.elim j0 (0 : Fin 1)
  rw [Pay.sum4_at]
  refine (Finset.sum_congr rfl fun s _ => gs m c hl s j1 15 t0_15.isLt).trans ?_
  simp only [upto_last]
  rw [Finset.sum_comm]
  simp only [sum_rowsum]
  rfl

theorem final17 (c : Dev nD) : (dats m 0 c).arrAt 17 cfg0.N
    = fun j : S1x1.Idx => amaxval (XN m c) := by
  refine (dats m 0 c).arrAt_eq_of_after_last 17 t0_15 (by decide +kernel) _ fun j => ?_
  blk_simp
  rw [after0_17, o17 m c t0_15 (by decide) (by decide)]
  refine eq_amaxval _ _ fun a => ?_
  rw [Pay.amax2_at]
  refine (forall_congr' fun s => forall_congr' fun k => xm m c s k a 15 t0_15.isLt).trans ?_
  exact ⟨fun h i r k => (all_rows fun r => eabs (XN m c i r k) ≤ a).mp (fun s j q => (h s k).2 i (by omega) j q) r,
    fun h s k => ⟨(eabs_nonneg _).trans (h 0 0 0), fun i _ j q => h i _ k⟩⟩

theorem final18 (c : Dev nD) (hl : ∀ i, 0 ≤ (aLen m c i).toInt) : (dats m 0 c).arrAt 18 cfg0.N
    = fun j : S1x1.Idx => amaxval (GZ m c) := by
  refine (dats m 0 c).arrAt_eq_of_after_last 18 t0_15 (by decide +kernel) _ fun j => ?_
  blk_simp
  rw [after0_18, o18 m c t0_15 (by decide) (by decide)]
  refine eq_amaxval _ _ fun a => ?_
  rw [Pay.amax3_at]
  refine (forall_congr' fun s => forall_congr' fun k => gm m c hl s k a 15 t0_15.isLt).trans ?_
  exact ⟨fun h i r k => (all_rows fun r => eabs (GZ m c i r k) ≤ a).mp (fun s j q => (h s k).2 i (by omega) j q) r,
    fun h s k => ⟨(eabs_nonneg _).trans (h 0 0 0), fun i _ j q => h i _ k⟩⟩

end Cert.RowsInIdeal.Val

end
-- ==== Proof.InRefPay.lean ====
/-
  The values the body of the reference of "rows_in" computes, read at an index.
-/
module

public import proofs.«01_k».proof.Proof.Gen.RefInIdeal.Skeleton
public import proofs.«01_k».proof.Proof.Spec

@[expose] public section

set_option maxRecDepth 16384

noncomputable section

open Idealize.ShloMosaic Idealize.ShloMosaic.TcCoe Idealize.SL.Sem
open Cert.Spec

namespace Cert.RefInIdeal.Pay
open Cert.RefInIdeal Cert.RefInIdeal.Gen

theorem xn_at (x : Vec Ideal S16x384x1024 .bf16) (g b : Vec Ideal S1x1x1024 .f32) (i : Fin 16) (r : Fin 384) (k : Fin 1024) :
    k0_pay4 x g b (ix3 i r k) = rln (fun q => x (ix3 i r q)) (fun q => g (ix3 0 0 q)) (fun q => b (ix3 0 0 q)) k := by
  unfold rln rhat
  rw [← rstd_eq]
  pointwise [k0_pay4, rvar, rcen, rmean]

theorem xcode_at (s : Elt Ideal .f32) (v : FVec Ideal S16x384x1024 .f32) (i : Fin 16) (r : Fin 384) (k : Fin 1024) :
    k0_pay7 s v (ix3 i r k) = clip4 (Ideal.div (v (ix3 i r k)) s) := by
  pointwise [k0_pay7, clip4]

theorem gcode_at (s : Elt Ideal .f32) (v : FVec Ideal S16x384x1024 .f32) (i : Fin 16) (r : Fin 384) (k : Fin 1024) :
    k0_pay1 s v (ix3 i r k) = clip5 (Ideal.div (v (ix3 i r k)) s) := by
  pointwise [k0_pay1, clip5]

theorem gz_at (y : Vec Ideal S16x384x1024 .bf16) (mm : Vec Ideal S16x384x1 .f32) (i : Fin 16) (r : Fin 384) (k : Fin 1024) :
    k0_pay9 y mm (ix3 i r k) = y (ix3 i r k) * mm (ix3 i r 0) := by
  pointwise [k0_pay9]

theorem h_at (s t : Elt Ideal .f32) (v : FVec Ideal S16x384x1024 .f32) (w : Vec Ideal S1024x2048 .fp8e4m3)
    (b : Vec Ideal S1x2048 .f32) (i : Fin 16) (r : Fin 384) (n : Fin 2048) :
    k0_pay8 s t v w b (ix3 i r n)
      = (∑ k : Fin 1024, clip4 (Ideal.div (v (ix3 i r k)) s) * w (ix2 k n)) * (s * t) + b (ix2 0 n) := by
  pointwise [k0_pay8, k0_pay7, clip4]

theorem dv_at (s t : Elt Ideal .f32) (v : FVec Ideal S16x384x1024 .f32) (w : Vec Ideal S1024x1024 .fp8e4m3)
    (i : Fin 16) (r : Fin 384) (n : Fin 1024) :
    k0_pay3 s t v w (ix3 i r n)
      = (∑ k : Fin 1024, clip5 (Ideal.div (v (ix3 i r k)) s) * w (ix2 n k)) * (s * t) := by
  pointwise [k0_pay3, k0_pay1, clip5]

theorem db2_at (v : FVec Ideal S16x384x1024 .f32) (k : Fin 1024) :
    k0_pay2 v (ix2 0 k) = ∑ q : Fin 6144, v (ix3 ⟨q.val / 384, by omega⟩ ⟨q.val % 384, by omega⟩ k) := by
  pointwise [k0_pay2]

/-- The largest of all absolute values, one maximum over the whole array. -/
theorem amaxWhole (v : FVec Ideal S16x384x1024 .f32) (c : EReal) :
    Finset.fold max (Ideal.ofBits .f32 0xFF800000#32) (fun q : S1x16x384x1024.Idx => eabs (v (ix3 (q 1) (q 2) (q 3))))
        {q | reduces_S1x16x384x1024_S1.drop q = ix1 0} ≤ c
      ↔ ∀ (i : Fin 16) (r : Fin 384) (k : Fin 1024), eabs (v (ix3 i r k)) ≤ c := by
  rw [foldmax_le, ofBits_neg_inf]
  refine ⟨fun h i r k => ?_, fun h => ⟨bot_le, fun q _ => h _ _ _⟩⟩
  refine h.2 (ix4 0 i r k) (Finset.mem_filter.mpr ⟨Finset.mem_univ _, ?_⟩)
  funext a
  apply Fin.ext
  match a with
  | ⟨0, _⟩ =>
    have h1 : (reduces_S1x16x384x1024_S1.drop (ix4 0 i r k) (0 : Fin 1)).val < 1 := (reduces_S1x16x384x1024_S1.drop (ix4 0 i r k) (0 : Fin 1)).isLt
    exact Nat.lt_one_iff.mp h1

theorem xmax_at (x : Vec Ideal S16x384x1024 .bf16) (g b : Vec Ideal S1x1x1024 .f32) (c : EReal) :
    k0_pay6 (k0_pay5 x g b) ≤ c ↔ ∀ (i : Fin 16) (r : Fin 384) (k : Fin 1024), eabs (k0_pay4 x g b (ix3 i r k)) ≤ c := by
  rw [← amaxWhole (k0_pay4 x g b) c]
  refine iff_of_eq (congrArg (· ≤ c) ?_)
  pointwise [k0_pay5, k0_pay6]

theorem gmax_at (y : Vec Ideal S16x384x1024 .bf16) (mm : Vec Ideal S16x384x1 .f32) (c : EReal) :
    k0_pay10 y mm ≤ c ↔ ∀ (i : Fin 16) (r : Fin 384) (k : Fin 1024), eabs (k0_pay9 y mm (ix3 i r k)) ≤ c := by
  rw [← amaxWhole (k0_pay9 y mm) c]
  refine iff_of_eq (congrArg (· ≤ c) ?_)
  pointwise [k0_pay10]

end Cert.RefInIdeal.Pay

end
-- ==== Proof.InRefVal.lean ====
/-
  The arrays the reference of "rows_in" leaves, as functions of its arguments.
-/
module

public import proofs.«01_k».proof.Proof.Gen.RefInIdeal.Value
public import proofs.«01_k».proof.Proof.InRefPay
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Spec

namespace Cert.RefInIdeal.Val
open Cert.RefInIdeal Cert.RefInIdeal.Gen
variable (m : (ℓ : Loc nD τ sig) → Buf (Elt Ideal) ℓ)

/-! The arguments, as plain functions of their coordinates. -/
abbrev aX (c : Dev nD) (i : Fin 16) (r : Fin 384) (k : Fin 1024) : EReal := m ((c : Thread nD τ).loc main_arg0) (ix3 i r k)
abbrev aDy (c : Dev nD) (i : Fin 16) (r : Fin 384) (k : Fin 1024) : EReal := m ((c : Thread nD τ).loc main_arg1) (ix3 i r k)
abbrev aLen (c : Dev nD) (i : Fin 16) : BitVec 32 := m ((c : Thread nD τ).loc main_arg2) (ix1 i)
abbrev aG (c : Dev nD) (k : Fin 1024) : EReal := m ((c : Thread nD τ).loc main_arg3) (ix1 k)
abbrev aB (c : Dev nD) (k : Fin 1024) : EReal := m ((c : Thread nD τ).loc main_arg4) (ix1 k)
abbrev aW1 (c : Dev nD) (k : Fin 1024) (n : Fin 2048) : EReal := m ((c : Thread nD τ).loc main_arg5) (ix2 k n)
abbrev aS1 (c : Dev nD) : EReal := m ((c : Thread nD τ).loc main_arg6) ix0
abbrev aB1 (c : Dev nD) (n : Fin 2048) : EReal := m ((c : Thread nD τ).loc main_arg7) (ix1 n)
abbrev aW2 (c : Dev nD) (n k : Fin 1024) : EReal := m ((c : Thread nD τ).loc main_arg8) (ix2 n k)
abbrev aS2 (c : Dev nD) : EReal := m ((c : Thread nD τ).loc main_arg9) ix0
abbrev aSx (c : Dev nD) : EReal := m ((c : Thread nD τ).loc main_arg10) ix0
abbrev aSg (c : Dev nD) : EReal := m ((c : Thread nD τ).loc main_arg11) ix0

theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0, 0] ∧ win0_6.index t = ![0, 0, 0]
    ∧ win0_7.index t = ![0, 0, 0] ∧ win0_8.index t = ![0, 0, 0] ∧ win0_9.index t = ![0, 0] ∧ win0_10.index t = ![0, 0]
    ∧ win0_11.index t = ![0, 0] :=
  (by decide +kernel : ∀ t : Fin grid0.N, _)

/-! The blocks, read at coordinates. -/

theorem i0 (c : Dev nD) (t : Fin cfg0.N) (i : Fin 16) (r : Fin 384) :
    (iblk m c 0 t (ix3 i r 0) : EReal) = if (r.val : ℤ) < (aLen m c i).toInt then (1 : EReal) else (0 : EReal) := by
  have e : (iblk m c 0 t (ix3 i r 0) : EReal)
      = FloatOps.uitofp (F := Ideal) FTy.f32 (IntOp.cmpi CmpIPredicate.slt (BitVec.ofNat 32 r.val) (aLen m c i)) := by
    blk_simp [iblk]
    entry_read
    pointwise
    blk_point [idx t]
    refine congrArg (IntOp.cmpi .slt (BitVec.ofNat 32 r.val)) ?_
    unfold aLen
    blk_ext [idx t]
  rw [e, show IntOp.cmpi .slt (BitVec.ofNat 32 r.val) (aLen m c i)
    = BitVec.ofBool (decide ((BitVec.ofNat 32 r.val).toInt < (aLen m c i).toInt)) from rfl]
  have h : (BitVec.ofNat 32 r.val).toInt = (r.val : ℤ) := by
    rw [BitVec.toInt_ofNat']
    have := r.isLt
    rw [Int.bmod_eq_of_le] <;> omega
  rw [h]
  by_cases hb : (r.val : ℤ) < (aLen m c i).toInt
  · simp [hb, FloatOps.uitofp]
  · simp [hb, FloatOps.uitofp]

theorem i1 (c : Dev nD) (t : Fin cfg0.N) : (iblk m c 1 t (ix2 0 0) : EReal) = aSx m c := by
  blk_simp [iblk]
  entry_read
  pointwise
  blk_ext [idx t]

theorem i2 (c : Dev nD) (t : Fin cfg0.N) : (iblk m c 2 t (ix2 0 0) : EReal) = aSg m c := by
  blk_simp [iblk]
  entry_read
  pointwise
  blk_ext [idx t]

theorem i3 (c : Dev nD) (t : Fin cfg0.N) : (iblk m c 3 t (ix2 0 0) : EReal) = aS1 m c := by
  blk_simp [iblk]
  entry_read
  pointwise
  blk_ext [idx t]

theorem i4 (c : Dev nD) (t : Fin cfg0.N) : (iblk m c 4 t (ix2 0 0) : EReal) = aS2 m c := by
  blk_simp [iblk]
  entry_read
  pointwise
  blk_ext [idx t]

theorem i5 (c : Dev nD) (t : Fin cfg0.N) (i : Fin 16) (r : Fin 384) (k : Fin 1024) : (iblk m c 5 t (ix3 i r k) : EReal) = aX m c i r k := by
  blk_ext [iblk, V, idx t]

theorem i6 (c : Dev nD) (t : Fin cfg0.N) (i : Fin 16) (r : Fin 384) (k : Fin 1024) : (iblk m c 6 t (ix3 i r k) : EReal) = aDy m c i r k := by
  blk_ext [iblk, V, idx t]

theorem i7 (c : Dev nD) (t : Fin cfg0.N) (k : Fin 1024) : (iblk m c 7 t (ix3 0 0 k) : EReal) = aG m c k := by
  blk_simp [iblk]
  entry_read
  pointwise
  blk_ext [idx t]

theorem i8 (c : Dev nD) (t : Fin cfg0.N) (k : Fin 1024) : (iblk m c 8 t (ix3 0 0 k) : EReal) = aB m c k := by
  blk_simp [iblk]
  entry_read
  pointwise
  blk_ext [idx t]

theorem i9 (c : Dev nD) (t : Fin cfg0.N) (k : Fin 1024) (n : Fin 2048) : (iblk m c 9 t (ix2 k n) : EReal) = aW1 m c k n := by
  blk_ext [iblk, V, idx t]

theorem i10 (c : Dev nD) (t : Fin cfg0.N) (n : Fin 2048) : (iblk m c 10 t (ix2 0 n) : EReal) = aB1 m c n := by
  blk_simp [iblk]
  entry_read
  pointwise
  blk_ext [idx t]

theorem i11 (c : Dev nD) (t : Fin cfg0.N) (n k : Fin 1024) : (iblk m c 11 t (ix2 n k) : EReal) = aW2 m c n k := by
  blk_ext [iblk, V, idx t]

theorem first11 (h) : (Shape.Idx.first h : S1x1.Idx) = ix2 0 0 := by
  funext a
  match a with
  | ⟨0, _⟩ => exact Subsingleton.elim (α := Fin 1) _ _
  | ⟨1, _⟩ => exact Subsingleton.elim (α := Fin 1) _ _

theorem final12 (c : Dev nD) : (dats m 0 c).arrAt 12 cfg0.N
    = fun j : S16x384x1024.Idx => xcode (aX m c) (aG m c) (aB m c) (aSx m c) (j 0) (j 1) (j 2) := by
  refine (dats m 0 c).arrAt_eq_of_after_last 12 t0_0 (by decide +kernel) _ fun j => ?_
  blk_simp
  rw [after0_12]
  unfold Gen.outsAt0
  frame_out
  simp only [read_unread_whole, first11]
  idx_vars j
  rw [Pay.xcode_at, Pay.xn_at]
  unfold xcode
  simp only [i1, i5, i7, i8]

theorem final13 (c : Dev nD) : (dats m 0 c).arrAt 13 cfg0.N
    = fun j : S16x384x2048.Idx => hval (aX m c) (aG m c) (aB m c) (aSx m c) (aW1 m c) (aS1 m c) (aB1 m c) (j 0) (j 1) (j 2) := by
  refine (dats m 0 c).arrAt_eq_of_after_last 13 t0_0 (by decide +kernel) _ fun j => ?_
  blk_simp
  rw [after0_13]
  unfold Gen.outsAt0
  frame_out
  simp only [read_unread_whole, first11]
  idx_vars j
  rw [Pay.h_at]
  simp only [Pay.xn_at, i1, i3, i5, i7, i8, i9, i10]
  rfl

theorem gz_at' (c : Dev nD) (i : Fin 16) (r : Fin 384) (k : Fin 1024) :
    k0_pay9 (iblk m c 6 t0_0) (iblk m c 0 t0_0) (ix3 i r k) = gzv (aDy m c) (aLen m c) i r k := by
  rw [Pay.gz_at, i0, i6]
  unfold gzv
  rw [mul_ite, mul_one, mul_zero]

theorem final14 (c : Dev nD) : (dats m 0 c).arrAt 14 cfg0.N
    = fun j : S16x384x1024.Idx => gcode (aDy m c) (aLen m c) (aSg m c) (j 0) (j 1) (j 2) := by
  refine (dats m 0 c).arrAt_eq_of_after_last 14 t0_0 (by decide +kernel) _ fun j => ?_
  blk_simp
  rw [after0_14]
  unfold Gen.outsAt0
  frame_out
  simp only [read_unread_whole, first11]
  idx_vars j
  rw [Pay.gcode_at, gz_at', i2]
  rfl

theorem final15 (c : Dev nD) : (dats m 0 c).arrAt 15 cfg0.N
    = fun j : S16x384x1024.Idx => dvval (aDy m c) (aLen m c) (aSg m c) (aW2 m c) (aS2 m c) (j 0) (j 1) (j 2) := by
  refine (dats m 0 c).arrAt_eq_of_after_last 15 t0_0 (by decide +kernel) _ fun j => ?_
  blk_simp
  rw [after0_15]
  unfold Gen.outsAt0
  frame_out
  simp only [read_unread_whole, first11]
  idx_vars j
  rw [Pay.dv_at]
  simp only [gz_at', i2, i4, i11]
  rfl

theorem final16 (c : Dev nD) : (dats m 0 c).arrAt 16 cfg0.N
    = fun j : S1x1024.Idx => db2val (aDy m c) (aLen m c) (j 1) := by
  refine (dats m 0 c).arrAt_eq_of_after_last 16 t0_0 (by decide +kernel) _ fun j => ?_
  blk_simp
  rw [after0_16]
  unfold Gen.outsAt0
  frame_out
  simp only [read_unread_whole, first11]
  idx_vars j
  rw [Subsingleton.elim j0 (0 : Fin 1), Pay.db2_at]
  simp only [gz_at']
  exact sum_rows fun i r => gzv (aDy m c) (aLen m c) i r j1

theorem final17 (c : Dev nD) : (dats m 0 c).arrAt 17 cfg0.N
    = fun j : S1x1.Idx => amaxval fun i r k => rln (aX m c i r) (aG m c) (aB m c) k := by
  refine (dats m 0 c).arrAt_eq_of_after_last 17 t0_0 (by decide +kernel) _ fun j => ?_
  blk_simp
  rw [after0_17]
  unfold Gen.outsAt0
  frame_out
  simp only [read_unread_whole, first11]
  refine eq_amaxval _ _ fun q => ?_
  rw [Pay.xmax_at]
  simp only [Pay.xn_at, i5, i7, i8]

theorem final18 (c : Dev nD) : (dats m 0 c).arrAt 18 cfg0.N
    = fun j : S1x1.Idx => amaxval (gzv (aDy m c) (aLen m c)) := by
  refine (dats m 0 c).arrAt_eq_of_after_last 18 t0_0 (by decide +kernel) _ fun j => ?_
  blk_simp
  rw [after0_18]
  unfold Gen.outsAt0
  frame_out
  simp only [read_unread_whole, first11]
  refine eq_amaxval _ _ fun q => ?_
  rw [Pay.gmax_at]
  simp only [gz_at']

end Cert.RefInIdeal.Val

end
-- ==== Proof.AlgIn.lean ====
module

public import proofs.«01_k».proof.Defs
public import proofs.«01_k».proof.Proof.InFin
public import proofs.«01_k».proof.Proof.InRefVal
public import proofs.«01_k».proof.Proof.Gen.Pre_lengths_nonneg
/-! The kernel's "rows_in" call and its reference leave the same arrays. -/

@[expose] public section

set_option maxRecDepth 16384

noncomputable section

open Idealize.ShloMosaic Idealize.ShloMosaic.TcCoe Idealize.SL.Sem

namespace Cert.Proof

/-- The two sides start from the same argument arrays. -/
def InAgree (m : (ℓ : Loc Cert.RowsInIdeal.nD Cert.RowsInIdeal.τ Cert.RowsInIdeal.sig) → Buf (Elt Ideal) ℓ) (m' : (ℓ : Loc Cert.RefInIdeal.nD Cert.RefInIdeal.τ Cert.RefInIdeal.sig) → Buf (Elt Ideal) ℓ) : Prop :=
  ∀ c : Dev Cert.RowsInIdeal.nD,
    m' ((c.tc : Thread Cert.RefInIdeal.nD Cert.RefInIdeal.τ).loc Cert.RefInIdeal.main_arg0) = m ((c.tc : Thread Cert.RowsInIdeal.nD Cert.RowsInIdeal.τ).loc Cert.RowsInIdeal.main_arg0)
    ∧ m' ((c.tc : Thread Cert.RefInIdeal.nD Cert.RefInIdeal.τ).loc Cert.RefInIdeal.main_arg1) = m ((c.tc : Thread Cert.RowsInIdeal.nD Cert.RowsInIdeal.τ).loc Cert.RowsInIdeal.main_arg1)
    ∧ m' ((c.tc : Thread Cert.RefInIdeal.nD Cert.RefInIdeal.τ).loc Cert.RefInIdeal.main_arg2) = m ((c.tc : Thread Cert.RowsInIdeal.nD Cert.RowsInIdeal.τ).loc Cert.RowsInIdeal.main_arg2)
    ∧ m' ((c.tc : Thread Cert.RefInIdeal.nD Cert.RefInIdeal.τ).loc Cert.RefInIdeal.main_arg3) = m ((c.tc : Thread Cert.RowsInIdeal.nD Cert.RowsInIdeal.τ).loc Cert.RowsInIdeal.main_arg3)
    ∧ m' ((c.tc : Thread Cert.RefInIdeal.nD Cert.RefInIdeal.τ).loc Cert.RefInIdeal.main_arg4) = m ((c.tc : Thread Cert.RowsInIdeal.nD Cert.RowsInIdeal.τ).loc Cert.RowsInIdeal.main_arg4)
    ∧ m' ((c.tc : Thread Cert.RefInIdeal.nD Cert.RefInIdeal.τ).loc Cert.RefInIdeal.main_arg5) = m ((c.tc : Thread Cert.RowsInIdeal.nD Cert.RowsInIdeal.τ).loc Cert.RowsInIdeal.main_arg5)
    ∧ m' ((c.tc : Thread Cert.RefInIdeal.nD Cert.RefInIdeal.τ).loc Cert.RefInIdeal.main_arg6) = m ((c.tc : Thread Cert.RowsInIdeal.nD Cert.RowsInIdeal.τ).loc Cert.RowsInIdeal.main_arg6)
    ∧ m' ((c.tc : Thread Cert.RefInIdeal.nD Cert.RefInIdeal.τ).loc Cert.RefInIdeal.main_arg7) = m ((c.tc : Thread Cert.RowsInIdeal.nD Cert.RowsInIdeal.τ).loc Cert.RowsInIdeal.main_arg7)
    ∧ m' ((c.tc : Thread Cert.RefInIdeal.nD Cert.RefInIdeal.τ).loc Cert.RefInIdeal.main_arg8) = m ((c.tc : Thread Cert.RowsInIdeal.nD Cert.RowsInIdeal.τ).loc Cert.RowsInIdeal.main_arg8)
    ∧ m' ((c.tc : Thread Cert.RefInIdeal.nD Cert.RefInIdeal.τ).loc Cert.RefInIdeal.main_arg9) = m ((c.tc : Thread Cert.RowsInIdeal.nD Cert.RowsInIdeal.τ).loc Cert.RowsInIdeal.main_arg9)
    ∧ m' ((c.tc : Thread Cert.RefInIdeal.nD Cert.RefInIdeal.τ).loc Cert.RefInIdeal.main_arg10) = m ((c.tc : Thread Cert.RowsInIdeal.nD Cert.RowsInIdeal.τ).loc Cert.RowsInIdeal.main_arg10)
    ∧ m' ((c.tc : Thread Cert.RefInIdeal.nD Cert.RefInIdeal.τ).loc Cert.RefInIdeal.main_arg11) = m ((c.tc : Thread Cert.RowsInIdeal.nD Cert.RowsInIdeal.τ).loc Cert.RowsInIdeal.main_arg11)

/-- The precondition, read: no length is negative. -/
theorem lengths_of_pre (m : (ℓ : Loc Cert.RowsInIdeal.nD Cert.RowsInIdeal.τ Cert.RowsInIdeal.sig) → Buf (Elt Ideal) ℓ)
    (h : Cert.Pre_RowsInIdeal_lengths_nonneg m) (c : Dev Cert.RowsInIdeal.nD) (i : Fin 16) : 0 ≤ (Cert.RowsInIdeal.Val.aLen m c i).toInt := by
  have e := congrFun (h c) (ix1 i)
  simp only [Cert.Pre_lengths_nonneg.fn, cmpi, broadcastInDim, constantI] at e
  have ho : ∀ p : Bool, (BitVec.ofBool p = 1#1) ↔ p = true := fun p => by cases p <;> decide
  simp only [IntOp.cmpi, ho, BitVec.sle_eq_decide, decide_eq_true_eq] at e
  exact (show (0 : ℤ) = (0#32 : BitVec 32).toInt from by decide) ▸ e

/-- The arguments as the value theorems read them agree. -/
theorem in_args (m : (ℓ : Loc Cert.RowsInIdeal.nD Cert.RowsInIdeal.τ Cert.RowsInIdeal.sig) → Buf (Elt Ideal) ℓ) (m' : (ℓ : Loc Cert.RefInIdeal.nD Cert.RefInIdeal.τ Cert.RefInIdeal.sig) → Buf (Elt Ideal) ℓ)
    (h : InAgree m m') (c : Dev Cert.RowsInIdeal.nD) :
    Cert.RefInIdeal.Val.aX m' c = Cert.RowsInIdeal.Val.aX m c
    ∧ Cert.RefInIdeal.Val.aDy m' c = Cert.RowsInIdeal.Val.aDy m c
    ∧ Cert.RefInIdeal.Val.aLen m' c = Cert.RowsInIdeal.Val.aLen m c
    ∧ Cert.RefInIdeal.Val.aG m' c = Cert.RowsInIdeal.Val.aG m c
    ∧ Cert.RefInIdeal.Val.aB m' c = Cert.RowsInIdeal.Val.aB m c
    ∧ Cert.RefInIdeal.Val.aW1 m' c = Cert.RowsInIdeal.Val.aW1 m c
    ∧ Cert.RefInIdeal.Val.aS1 m' c = Cert.RowsInIdeal.Val.aS1 m c
    ∧ Cert.RefInIdeal.Val.aB1 m' c = Cert.RowsInIdeal.Val.aB1 m c
    ∧ Cert.RefInIdeal.Val.aW2 m' c = Cert.RowsInIdeal.Val.aW2 m c
    ∧ Cert.RefInIdeal.Val.aS2 m' c = Cert.RowsInIdeal.Val.aS2 m c
    ∧ Cert.RefInIdeal.Val.aSx m' c = Cert.RowsInIdeal.Val.aSx m c
    ∧ Cert.RefInIdeal.Val.aSg m' c = Cert.RowsInIdeal.Val.aSg m c := by
  obtain ⟨a0, a1, a2, a3, a4, a5, a6, a7, a8, a9, a10, a11⟩ := h c
  exact ⟨funext fun i => funext fun j => funext fun k => congrFun a0 (ix3 i j k),
    funext fun i => funext fun j => funext fun k => congrFun a1 (ix3 i j k),
    funext fun i => congrFun a2 (ix1 i),
    funext fun i => congrFun a3 (ix1 i),
    funext fun i => congrFun a4 (ix1 i),
    funext fun i => funext fun j => congrFun a5 (ix2 i j),
    congrFun a6 ix0,
    funext fun i => congrFun a7 (ix1 i),
    funext fun i => funext fun j => congrFun a8 (ix2 i j),
    congrFun a9 ix0,
    congrFun a10 ix0,
    congrFun a11 ix0⟩

/-- Result 0 is the same array on both sides when the arguments agree. -/
theorem in_eq12 (m : (ℓ : Loc Cert.RowsInIdeal.nD Cert.RowsInIdeal.τ Cert.RowsInIdeal.sig) → Buf (Elt Ideal) ℓ) (m' : (ℓ : Loc Cert.RefInIdeal.nD Cert.RefInIdeal.τ Cert.RefInIdeal.sig) → Buf (Elt Ideal) ℓ)
    (h : InAgree m m') (c : Dev Cert.RowsInIdeal.nD) :
    (Cert.RefInIdeal.Gen.dats m' 0 c).arrAt 12 Cert.RefInIdeal.cfg0.N = (Cert.RowsInIdeal.Gen.dats m 0 c).arrAt 12 Cert.RowsInIdeal.cfg0.N := by
  obtain ⟨e0, e1, e2, e3, e4, e5, e6, e7, e8, e9, e10, e11⟩ := in_args m m' h c
  refine (Cert.RefInIdeal.Val.final12 m' c).trans (Eq.trans ?_ (Cert.RowsInIdeal.Val.final12 m c).symm)
  simp only [e0, e1, e2, e3, e4, e5, e6, e7, e8, e9, e10, e11]

/-- Result 1 is the same array on both sides when the arguments agree. -/
theorem in_eq13 (m : (ℓ : Loc Cert.RowsInIdeal.nD Cert.RowsInIdeal.τ Cert.RowsInIdeal.sig) → Buf (Elt Ideal) ℓ) (m' : (ℓ : Loc Cert.RefInIdeal.nD Cert.RefInIdeal.τ Cert.RefInIdeal.sig) → Buf (Elt Ideal) ℓ)
    (h : InAgree m m') (c : Dev Cert.RowsInIdeal.nD) :
    (Cert.RefInIdeal.Gen.dats m' 0 c).arrAt 13 Cert.RefInIdeal.cfg0.N = (Cert.RowsInIdeal.Gen.dats m 0 c).arrAt 13 Cert.RowsInIdeal.cfg0.N := by
  obtain ⟨e0, e1, e2, e3, e4, e5, e6, e7, e8, e9, e10, e11⟩ := in_args m m' h c
  refine (Cert.RefInIdeal.Val.final13 m' c).trans (Eq.trans ?_ (Cert.RowsInIdeal.Val.final13 m c).symm)
  simp only [e0, e1, e2, e3, e4, e5, e6, e7, e8, e9, e10, e11]

/-- Result 2 is the same array on both sides when the arguments agree. -/
theorem in_eq14 (m : (ℓ : Loc Cert.RowsInIdeal.nD Cert.RowsInIdeal.τ Cert.RowsInIdeal.sig) → Buf (Elt Ideal) ℓ) (m' : (ℓ : Loc Cert.RefInIdeal.nD Cert.RefInIdeal.τ Cert.RefInIdeal.sig) → Buf (Elt Ideal) ℓ)
    (h : InAgree m m') (c : Dev Cert.RowsInIdeal.nD) (hl : ∀ i, 0 ≤ (Cert.RowsInIdeal.Val.aLen m c i).toInt) :
    (Cert.RefInIdeal.Gen.dats m' 0 c).arrAt 14 Cert.RefInIdeal.cfg0.N = (Cert.RowsInIdeal.Gen.dats m 0 c).arrAt 14 Cert.RowsInIdeal.cfg0.N := by
  obtain ⟨e0, e1, e2, e3, e4, e5, e6, e7, e8, e9, e10, e11⟩ := in_args m m' h c
  refine (Cert.RefInIdeal.Val.final14 m' c).trans (Eq.trans ?_ (Cert.RowsInIdeal.Val.final14 m c hl).symm)
  simp only [e0, e1, e2, e3, e4, e5, e6, e7, e8, e9, e10, e11]

/-- Result 3 is the same array on both sides when the arguments agree. -/
theorem in_eq15 (m : (ℓ : Loc Cert.RowsInIdeal.nD Cert.RowsInIdeal.τ Cert.RowsInIdeal.sig) → Buf (Elt Ideal) ℓ) (m' : (ℓ : Loc Cert.RefInIdeal.nD Cert.RefInIdeal.τ Cert.RefInIdeal.sig) → Buf (Elt Ideal) ℓ)
    (h : InAgree m m') (c : Dev Cert.RowsInIdeal.nD) (hl : ∀ i, 0 ≤ (Cert.RowsInIdeal.Val.aLen m c i).toInt) :
    (Cert.RefInIdeal.Gen.dats m' 0 c).arrAt 15 Cert.RefInIdeal.cfg0.N = (Cert.RowsInIdeal.Gen.dats m 0 c).arrAt 15 Cert.RowsInIdeal.cfg0.N := by
  obtain ⟨e0, e1, e2, e3, e4, e5, e6, e7, e8, e9, e10, e11⟩ := in_args m m' h c
  refine (Cert.RefInIdeal.Val.final15 m' c).trans (Eq.trans ?_ (Cert.RowsInIdeal.Val.final15 m c hl).symm)
  simp only [e0, e1, e2, e3, e4, e5, e6, e7, e8, e9, e10, e11]

/-- Result 4 is the same array on both sides when the arguments agree. -/
theorem in_eq16 (m : (ℓ : Loc Cert.RowsInIdeal.nD Cert.RowsInIdeal.τ Cert.RowsInIdeal.sig) → Buf (Elt Ideal) ℓ) (m' : (ℓ : Loc Cert.RefInIdeal.nD Cert.RefInIdeal.τ Cert.RefInIdeal.sig) → Buf (Elt Ideal) ℓ)
    (h : InAgree m m') (c : Dev Cert.RowsInIdeal.nD) (hl : ∀ i, 0 ≤ (Cert.RowsInIdeal.Val.aLen m c i).toInt) :
    (Cert.RefInIdeal.Gen.dats m' 0 c).arrAt 16 Cert.RefInIdeal.cfg0.N = (Cert.RowsInIdeal.Gen.dats m 0 c).arrAt 16 Cert.RowsInIdeal.cfg0.N := by
  obtain ⟨e0, e1, e2, e3, e4, e5, e6, e7, e8, e9, e10, e11⟩ := in_args m m' h c
  refine (Cert.RefInIdeal.Val.final16 m' c).trans (Eq.trans ?_ (Cert.RowsInIdeal.Val.final16 m c hl).symm)
  simp only [e0, e1, e2, e3, e4, e5, e6, e7, e8, e9, e10, e11]

/-- Result 5 is the same array on both sides when the arguments agree. -/
theorem in_eq17 (m : (ℓ : Loc Cert.RowsInIdeal.nD Cert.RowsInIdeal.τ Cert.RowsInIdeal.sig) → Buf (Elt Ideal) ℓ) (m' : (ℓ : Loc Cert.RefInIdeal.nD Cert.RefInIdeal.τ Cert.RefInIdeal.sig) → Buf (Elt Ideal) ℓ)
    (h : InAgree m m') (c : Dev Cert.RowsInIdeal.nD) :
    (Cert.RefInIdeal.Gen.dats m' 0 c).arrAt 17 Cert.RefInIdeal.cfg0.N = (Cert.RowsInIdeal.Gen.dats m 0 c).arrAt 17 Cert.RowsInIdeal.cfg0.N := by
  obtain ⟨e0, e1, e2, e3, e4, e5, e6, e7, e8, e9, e10, e11⟩ := in_args m m' h c
  refine (Cert.RefInIdeal.Val.final17 m' c).trans (Eq.trans ?_ (Cert.RowsInIdeal.Val.final17 m c).symm)
  simp only [e0, e1, e2, e3, e4, e5, e6, e7, e8, e9, e10, e11]

/-- Result 6 is the same array on both sides when the arguments agree. -/
theorem in_eq18 (m : (ℓ : Loc Cert.RowsInIdeal.nD Cert.RowsInIdeal.τ Cert.RowsInIdeal.sig) → Buf (Elt Ideal) ℓ) (m' : (ℓ : Loc Cert.RefInIdeal.nD Cert.RefInIdeal.τ Cert.RefInIdeal.sig) → Buf (Elt Ideal) ℓ)
    (h : InAgree m m') (c : Dev Cert.RowsInIdeal.nD) (hl : ∀ i, 0 ≤ (Cert.RowsInIdeal.Val.aLen m c i).toInt) :
    (Cert.RefInIdeal.Gen.dats m' 0 c).arrAt 18 Cert.RefInIdeal.cfg0.N = (Cert.RowsInIdeal.Gen.dats m 0 c).arrAt 18 Cert.RowsInIdeal.cfg0.N := by
  obtain ⟨e0, e1, e2, e3, e4, e5, e6, e7, e8, e9, e10, e11⟩ := in_args m m' h c
  refine (Cert.RefInIdeal.Val.final18 m' c).trans (Eq.trans ?_ (Cert.RowsInIdeal.Val.final18 m c hl).symm)
  simp only [e0, e1, e2, e3, e4, e5, e6, e7, e8, e9, e10, e11]

theorem algebraicIn : Cert.algebraic_RowsInIdeal_RefInIdeal_pre_lengths_nonneg := by
  intro m g m' g' hp hagree
  have hl := lengths_of_pre m hp
  refine ⟨fun c => (Cert.RowsInIdeal.Gen.dats m 0 c).arrAt 12 Cert.RowsInIdeal.cfg0.N, fun c => (Cert.RowsInIdeal.Gen.dats m 0 c).arrAt 13 Cert.RowsInIdeal.cfg0.N, fun c => (Cert.RowsInIdeal.Gen.dats m 0 c).arrAt 14 Cert.RowsInIdeal.cfg0.N, fun c => (Cert.RowsInIdeal.Gen.dats m 0 c).arrAt 15 Cert.RowsInIdeal.cfg0.N, fun c => (Cert.RowsInIdeal.Gen.dats m 0 c).arrAt 16 Cert.RowsInIdeal.cfg0.N, fun c => (Cert.RowsInIdeal.Gen.dats m 0 c).arrAt 17 Cert.RowsInIdeal.cfg0.N, fun c => (Cert.RowsInIdeal.Gen.dats m 0 c).arrAt 18 Cert.RowsInIdeal.cfg0.N, Cert.RowsInIdeal.Value.run_blocks m g, ?_⟩
  refine (θ_run _ _ _).mono (fun r hr c => ?_) (Cert.RefInIdeal.Value.run_blocks m' g')
  obtain ⟨r0, r1, r2, r3, r4, r5, r6, hargs⟩ := hr c
  exact ⟨r0.trans (in_eq12 m m' hagree c), r1.trans (in_eq13 m m' hagree c), r2.trans (in_eq14 m m' hagree c (hl c)), r3.trans (in_eq15 m m' hagree c (hl c)), r4.trans (in_eq16 m m' hagree c (hl c)), r5.trans (in_eq17 m m' hagree c), r6.trans (in_eq18 m m' hagree c (hl c)), hargs⟩

end Cert.Proof

end
-- ==== Proof.OutPay.lean ====
/-
  The values the body of the call "rows_out" computes, read at an index. The body repeats one text for four column chunks
  of three products, eight of a fourth, and twelve chunks of thirty-two rows: each repeated value is one function of its
  chunk, and each function is read once.
-/
module

public import proofs.«01_k».proof.Proof.Gen.RowsOutIdeal.Skeleton
public import proofs.«01_k».proof.Proof.Spec
public import Idealize.ShloMosaic.Lib.WordArith
public import Idealize.ShloMosaic.Lib.WordCmp

@[expose] public section

set_option maxRecDepth 16384

noncomputable section

open Idealize.ShloMosaic Idealize.ShloMosaic.TcCoe Idealize.SL.Sem
open Cert.Spec

namespace Cert.RowsOutIdeal.Pay
open Cert.RowsOutIdeal Cert.RowsOutIdeal.Gen

/-! ## The functions of one chunk -/

/-- A column chunk of the second projection. -/
def zc (s t : Elt Ideal .f32) (v : Vec Ideal S1x384x1024 .fp8e4m3) (w : Vec Ideal S1024x256 .fp8e4m3) (b : Vec Ideal S1x256 .f32) : FVec Ideal S1x384x256 .f32 :=
  k0_pay12 s t v w b

/-- A column chunk of the output. -/
def yc (l : Elt Ideal .i32) (s t : Elt Ideal .f32) (v : Vec Ideal S1x384x1024 .fp8e4m3) (w : Vec Ideal S1024x256 .fp8e4m3) (b : Vec Ideal S1x256 .f32)
    (x : Vec Ideal S1x384x256 .bf16) : FVec Ideal S1x384x256 .bf16 :=
  k0_pay13 (k0_pay10 l) (k0_pay11 s t v w b) x

/-- A column chunk of the cotangent of the normalised rows. -/
def dxnc (s t : Elt Ideal .f32) (dh : Vec Ideal S1x384x2048 .fp8e5m2) (w : Vec Ideal S256x2048 .fp8e4m3) : FVec Ideal S1x384x256 .f32 :=
  k0_pay26 s t dh w

/-- A column chunk of a weight gradient, one sequence added to what was there. -/
def dwc (a : Vec Ideal S1024x256 .f32) (v : Vec Ideal S1x384x1024 .fp8e4m3) (g : Vec Ideal S1x384x256 .fp8e5m2) : FVec Ideal S1024x256 .f32 :=
  k0_pay33 a v g

/-- The running sums of eight row classes of the scale's gradient, taken over a chunk. -/
def sgc (x : Vec Ideal S1x32x1024 .bf16) (d : Vec Ideal S1x32x1024 .f32) (a : Vec Ideal S8x1024 .f32) : FVec Ideal S8x1024 .f32 :=
  k0_pay52 x d a

/-- The running sums of eight row classes of the offset's gradient, taken over a chunk. -/
def sbc (d : Vec Ideal S1x32x1024 .f32) (a : Vec Ideal S8x1024 .f32) : FVec Ideal S8x1024 .f32 :=
  k0_pay54 a (k0_pay53 d)

/-- The layer norm's gradient on a chunk. -/
def dxlnc (g : Vec Ideal S1x1024 .f32) (x : Vec Ideal S1x32x1024 .bf16) (d : Vec Ideal S1x32x1024 .f32) : FVec Ideal S1x32x1024 .f32 :=
  k0_pay56 (k0_pay47 g) (k0_pay49 x) (k0_pay50 x) (k0_pay51 d)

/-- The gradient of the input on a chunk. -/
def dxc (g : Vec Ideal S1x1024 .f32) (x : Vec Ideal S1x32x1024 .bf16) (d : Vec Ideal S1x32x1024 .f32) (y : Vec Ideal S1x32x1024 .bf16) : FVec Ideal S1x32x1024 .bf16 :=
  k0_pay57 (k0_pay47 g) (k0_pay49 x) (k0_pay50 x) (k0_pay51 d) y

/-! ## Every printed value is one of them -/

theorem z0 (v3 : Elt Ideal .f32) (v7 : Elt Ideal .f32) (v14 : Vec Ideal S1x384x1024 .fp8e4m3) (v16 : Vec Ideal S1024x256 .fp8e4m3) (v21 : Vec Ideal S1x256 .f32) :
    k0_pay12 v3 v7 v14 v16 v21 = zc v3 v7 v14 v16 v21 := rfl
theorem y0 (v1 : Elt Ideal .i32) (v3 : Elt Ideal .f32) (v7 : Elt Ideal .f32) (v14 : Vec Ideal S1x384x1024 .fp8e4m3) (v16 : Vec Ideal S1024x256 .fp8e4m3) (v21 : Vec Ideal S1x256 .f32) (v28 : Vec Ideal S1x384x256 .bf16) :
    k0_pay13 (k0_pay10 v1) (k0_pay11 v3 v7 v14 v16 v21) v28 = yc v1 v3 v7 v14 v16 v21 v28 := rfl
theorem z1 (v3 : Elt Ideal .f32) (v7 : Elt Ideal .f32) (v40 : Vec Ideal S1x384x1024 .fp8e4m3) (v42 : Vec Ideal S1024x256 .fp8e4m3) (v47 : Vec Ideal S1x256 .f32) :
    k0_pay15 v3 v7 v40 v42 v47 = zc v3 v7 v40 v42 v47 := rfl
theorem y1 (v1 : Elt Ideal .i32) (v3 : Elt Ideal .f32) (v7 : Elt Ideal .f32) (v40 : Vec Ideal S1x384x1024 .fp8e4m3) (v42 : Vec Ideal S1024x256 .fp8e4m3) (v47 : Vec Ideal S1x256 .f32) (v54 : Vec Ideal S1x384x256 .bf16) :
    k0_pay17 ((k0_pay16 v3 v7 (k0_pay10 v1) v40 v42 v47 v54)) = yc v1 v3 v7 v40 v42 v47 v54 := rfl
theorem z2 (v3 : Elt Ideal .f32) (v7 : Elt Ideal .f32) (v66 : Vec Ideal S1x384x1024 .fp8e4m3) (v68 : Vec Ideal S1024x256 .fp8e4m3) (v73 : Vec Ideal S1x256 .f32) :
    k0_pay19 v3 v7 v66 v68 v73 = zc v3 v7 v66 v68 v73 := rfl
theorem y2 (v1 : Elt Ideal .i32) (v3 : Elt Ideal .f32) (v7 : Elt Ideal .f32) (v66 : Vec Ideal S1x384x1024 .fp8e4m3) (v68 : Vec Ideal S1024x256 .fp8e4m3) (v73 : Vec Ideal S1x256 .f32) (v80 : Vec Ideal S1x384x256 .bf16) :
    k0_pay20 v3 v7 (k0_pay10 v1) v66 v68 v73 v80 = yc v1 v3 v7 v66 v68 v73 v80 := rfl
theorem z3 (v3 : Elt Ideal .f32) (v7 : Elt Ideal .f32) (v92 : Vec Ideal S1x384x1024 .fp8e4m3) (v94 : Vec Ideal S1024x256 .fp8e4m3) (v99 : Vec Ideal S1x256 .f32) :
    k0_pay24 (k0_pay21 v92 v94) (k0_pay22 v3 v7) v99 = zc v3 v7 v92 v94 v99 := rfl
theorem y3 (v1 : Elt Ideal .i32) (v3 : Elt Ideal .f32) (v7 : Elt Ideal .f32) (v92 : Vec Ideal S1x384x1024 .fp8e4m3) (v94 : Vec Ideal S1024x256 .fp8e4m3) (v99 : Vec Ideal S1x256 .f32) (v106 : Vec Ideal S1x384x256 .bf16) :
    k0_pay25 (k0_pay10 v1) (k0_pay21 v92 v94) (k0_pay22 v3 v7) v99 v106 = yc v1 v3 v7 v92 v94 v99 v106 := rfl
theorem dxn0 (v5 : Elt Ideal .f32) (v6 : Elt Ideal .f32) (v118 : Vec Ideal S1x384x2048 .fp8e5m2) (v120 : Vec Ideal S256x2048 .fp8e4m3) :
    k0_pay26 v5 v6 v118 v120 = dxnc v5 v6 v118 v120 := rfl
theorem dxn1 (v5 : Elt Ideal .f32) (v6 : Elt Ideal .f32) (v128 : Vec Ideal S1x384x2048 .fp8e5m2) (v130 : Vec Ideal S256x2048 .fp8e4m3) :
    k0_pay28 v5 v6 ((k0_pay27 v128)) v130 = dxnc v5 v6 v128 v130 := rfl
theorem dxn2 (v5 : Elt Ideal .f32) (v6 : Elt Ideal .f32) (v138 : Vec Ideal S1x384x2048 .fp8e5m2) (v140 : Vec Ideal S256x2048 .fp8e4m3) :
    k0_pay29 v5 v6 v138 v140 = dxnc v5 v6 v138 v140 := rfl
theorem dxn3 (v5 : Elt Ideal .f32) (v6 : Elt Ideal .f32) (v148 : Vec Ideal S1x384x2048 .fp8e5m2) (v150 : Vec Ideal S256x2048 .fp8e4m3) :
    k0_pay30 v5 v6 v148 v150 = dxnc v5 v6 v148 v150 := rfl
theorem dwb0 (v158 : Vec Ideal S1024x256 .f32) (v160 : Vec Ideal S1x384x1024 .fp8e4m3) (v162 : Vec Ideal S1x384x256 .fp8e5m2) :
    k0_pay32 ((k0_pay31 v158)) v160 v162 = dwc v158 v160 v162 := rfl
theorem dwb1 (v167 : Vec Ideal S1024x256 .f32) (v169 : Vec Ideal S1x384x1024 .fp8e4m3) (v171 : Vec Ideal S1x384x256 .fp8e5m2) :
    k0_pay33 v167 v169 v171 = dwc v167 v169 v171 := rfl
theorem dwb2 (v176 : Vec Ideal S1024x256 .f32) (v178 : Vec Ideal S1x384x1024 .fp8e4m3) (v180 : Vec Ideal S1x384x256 .fp8e5m2) :
    k0_pay34 v176 v178 v180 = dwc v176 v178 v180 := rfl
theorem dwb3 (v185 : Vec Ideal S1024x256 .f32) (v187 : Vec Ideal S1x384x1024 .fp8e4m3) (v189 : Vec Ideal S1x384x256 .fp8e5m2) :
    k0_pay35 v185 v187 v189 = dwc v185 v187 v189 := rfl
theorem dwa0 (v194 : Vec Ideal S1024x256 .f32) (v196 : Vec Ideal S1x384x1024 .fp8e4m3) (v198 : Vec Ideal S1x384x256 .fp8e5m2) :
    k0_pay36 v194 v196 v198 = dwc v194 v196 v198 := rfl
theorem dwa1 (v203 : Vec Ideal S1024x256 .f32) (v205 : Vec Ideal S1x384x1024 .fp8e4m3) (v207 : Vec Ideal S1x384x256 .fp8e5m2) :
    k0_pay37 v203 v205 v207 = dwc v203 v205 v207 := rfl
theorem dwa2 (v212 : Vec Ideal S1024x256 .f32) (v214 : Vec Ideal S1x384x1024 .fp8e4m3) (v216 : Vec Ideal S1x384x256 .fp8e5m2) :
    k0_pay38 v212 v214 v216 = dwc v212 v214 v216 := rfl
theorem dwa3 (v221 : Vec Ideal S1024x256 .f32) (v223 : Vec Ideal S1x384x1024 .fp8e4m3) (v225 : Vec Ideal S1x384x256 .fp8e5m2) :
    k0_pay39 v221 v223 v225 = dwc v221 v223 v225 := rfl
theorem dwa4 (v230 : Vec Ideal S1024x256 .f32) (v232 : Vec Ideal S1x384x1024 .fp8e4m3) (v234 : Vec Ideal S1x384x256 .fp8e5m2) :
    k0_pay40 v230 v232 v234 = dwc v230 v232 v234 := rfl
theorem dwa5 (v239 : Vec Ideal S1024x256 .f32) (v241 : Vec Ideal S1x384x1024 .fp8e4m3) (v243 : Vec Ideal S1x384x256 .fp8e5m2) :
    k0_pay41 v239 v241 v243 = dwc v239 v241 v243 := rfl
theorem dwa6 (v248 : Vec Ideal S1024x256 .f32) (v250 : Vec Ideal S1x384x1024 .fp8e4m3) (v252 : Vec Ideal S1x384x256 .fp8e5m2) :
    k0_pay42 v248 v250 v252 = dwc v248 v250 v252 := rfl
theorem dwa7 (v257 : Vec Ideal S1024x256 .f32) (v259 : Vec Ideal S1x384x1024 .fp8e4m3) (v261 : Vec Ideal S1x384x256 .fp8e5m2) :
    k0_pay46 (k0_pay43 v257) (k0_pay44 v259) (k0_pay45 v261) ((constant (F := Ideal) S1024x256 .f32 0x00000000#32)) = dwc v257 v259 v261 := rfl
theorem sg0 (v268 : Vec Ideal S1x32x1024 .bf16) (v287 : Vec Ideal S1x32x1024 .f32) (v289 : Vec Ideal S8x1024 .f32) :
    k0_pay52 v268 v287 v289 = sgc v268 v287 v289 := rfl
theorem sb0 (v287 : Vec Ideal S1x32x1024 .f32) (v297 : Vec Ideal S8x1024 .f32) :
    k0_pay54 v297 (k0_pay53 v287) = sbc v287 v297 := rfl
theorem dxln0 (v266 : Vec Ideal S1x1024 .f32) (v268 : Vec Ideal S1x32x1024 .bf16) (v287 : Vec Ideal S1x32x1024 .f32) :
    k0_pay56 (k0_pay47 v266) (k0_pay49 v268) (k0_pay50 v268) (k0_pay51 v287) = dxlnc v266 v268 v287 := rfl
theorem dx0 (v266 : Vec Ideal S1x1024 .f32) (v268 : Vec Ideal S1x32x1024 .bf16) (v287 : Vec Ideal S1x32x1024 .f32) (v325 : Vec Ideal S1x32x1024 .bf16) :
    k0_pay57 (k0_pay47 v266) (k0_pay49 v268) (k0_pay50 v268) (k0_pay51 v287) v325 = dxc v266 v268 v287 v325 := rfl
theorem sg1 (v333 : Vec Ideal S1x32x1024 .bf16) (v352 : Vec Ideal S1x32x1024 .f32) (v354 : Vec Ideal S8x1024 .f32) :
    k0_pay63 ((k0_pay58 v333)) v352 v354 = sgc v333 v352 v354 := rfl
theorem sb1 (v352 : Vec Ideal S1x32x1024 .f32) (v362 : Vec Ideal S8x1024 .f32) :
    k0_pay64 v352 v362 = sbc v352 v362 := rfl
theorem dxln1 (v266 : Vec Ideal S1x1024 .f32) (v333 : Vec Ideal S1x32x1024 .bf16) (v352 : Vec Ideal S1x32x1024 .f32) :
    k0_pay68 (k0_pay60 ((k0_pay58 v333))) (k0_pay61 ((k0_pay58 v333))) (k0_pay65 (k0_pay47 v266) v352) (k0_pay66 (k0_pay47 v266) v352) = dxlnc v266 v333 v352 := rfl
theorem dx1 (v266 : Vec Ideal S1x1024 .f32) (v333 : Vec Ideal S1x32x1024 .bf16) (v352 : Vec Ideal S1x32x1024 .f32) (v390 : Vec Ideal S1x32x1024 .bf16) :
    k0_pay69 (k0_pay60 ((k0_pay58 v333))) (k0_pay61 ((k0_pay58 v333))) (k0_pay65 (k0_pay47 v266) v352) (k0_pay66 (k0_pay47 v266) v352) v390 = dxc v266 v333 v352 v390 := rfl
theorem sg2 (v398 : Vec Ideal S1x32x1024 .bf16) (v417 : Vec Ideal S1x32x1024 .f32) (v419 : Vec Ideal S8x1024 .f32) :
    k0_pay75 (k0_pay70 v398) (k0_pay71 v398) v417 v419 = sgc v398 v417 v419 := rfl
theorem sb2 (v417 : Vec Ideal S1x32x1024 .f32) (v427 : Vec Ideal S8x1024 .f32) :
    k0_pay76 v417 v427 = sbc v417 v427 := rfl
theorem dxln2 (v266 : Vec Ideal S1x1024 .f32) (v398 : Vec Ideal S1x32x1024 .bf16) (v417 : Vec Ideal S1x32x1024 .f32) :
    k0_pay78 ((k0_pay77 (k0_pay47 v266) (k0_pay70 v398) (k0_pay71 v398) v417)) = dxlnc v266 v398 v417 := rfl
theorem dx2 (v266 : Vec Ideal S1x1024 .f32) (v398 : Vec Ideal S1x32x1024 .bf16) (v417 : Vec Ideal S1x32x1024 .f32) (v455 : Vec Ideal S1x32x1024 .bf16) :
    k0_pay79 ((k0_pay77 (k0_pay47 v266) (k0_pay70 v398) (k0_pay71 v398) v417)) v455 = dxc v266 v398 v417 v455 := rfl
theorem sg3 (v463 : Vec Ideal S1x32x1024 .bf16) (v482 : Vec Ideal S1x32x1024 .f32) (v484 : Vec Ideal S8x1024 .f32) :
    k0_pay85 (k0_pay84 v463 v482 v484) = sgc v463 v482 v484 := rfl
theorem sb3 (v482 : Vec Ideal S1x32x1024 .f32) (v492 : Vec Ideal S8x1024 .f32) :
    k0_pay86 (k0_pay83 v482) v492 = sbc v482 v492 := rfl
theorem dxln3 (v266 : Vec Ideal S1x1024 .f32) (v463 : Vec Ideal S1x32x1024 .bf16) (v482 : Vec Ideal S1x32x1024 .f32) :
    k0_pay88 (k0_pay47 v266) (k0_pay81 v463) (k0_pay82 v463) (k0_pay83 v482) = dxlnc v266 v463 v482 := rfl
theorem dx3 (v266 : Vec Ideal S1x1024 .f32) (v463 : Vec Ideal S1x32x1024 .bf16) (v482 : Vec Ideal S1x32x1024 .f32) (v520 : Vec Ideal S1x32x1024 .bf16) :
    k0_pay90 ((k0_pay89 (k0_pay47 v266) (k0_pay81 v463) (k0_pay82 v463) (k0_pay83 v482) v520)) = dxc v266 v463 v482 v520 := rfl
theorem sg4 (v528 : Vec Ideal S1x32x1024 .bf16) (v547 : Vec Ideal S1x32x1024 .f32) (v549 : Vec Ideal S8x1024 .f32) :
    k0_pay95 v528 v547 v549 = sgc v528 v547 v549 := rfl
theorem sb4 (v547 : Vec Ideal S1x32x1024 .f32) (v557 : Vec Ideal S8x1024 .f32) :
    k0_pay96 v547 v557 = sbc v547 v557 := rfl
theorem dxln4 (v266 : Vec Ideal S1x1024 .f32) (v528 : Vec Ideal S1x32x1024 .bf16) (v547 : Vec Ideal S1x32x1024 .f32) :
    k0_pay98 (k0_pay47 v266) (k0_pay92 v528) (k0_pay93 v528) (k0_pay94 v547) = dxlnc v266 v528 v547 := rfl
theorem dx4 (v266 : Vec Ideal S1x1024 .f32) (v528 : Vec Ideal S1x32x1024 .bf16) (v547 : Vec Ideal S1x32x1024 .f32) (v585 : Vec Ideal S1x32x1024 .bf16) :
    k0_pay99 (k0_pay47 v266) (k0_pay92 v528) (k0_pay93 v528) (k0_pay94 v547) v585 = dxc v266 v528 v547 v585 := rfl
theorem sg5 (v593 : Vec Ideal S1x32x1024 .bf16) (v612 : Vec Ideal S1x32x1024 .f32) (v614 : Vec Ideal S8x1024 .f32) :
    k0_pay105 (k0_pay100 v593) (k0_pay101 v593) v612 v614 = sgc v593 v612 v614 := rfl
theorem sb5 (v612 : Vec Ideal S1x32x1024 .f32) (v622 : Vec Ideal S8x1024 .f32) :
    k0_pay106 v612 v622 = sbc v612 v622 := rfl
theorem dxln5 (v266 : Vec Ideal S1x1024 .f32) (v593 : Vec Ideal S1x32x1024 .bf16) (v612 : Vec Ideal S1x32x1024 .f32) :
    k0_pay111 (k0_pay102 (k0_pay101 v593)) (k0_pay103 (k0_pay100 v593) (k0_pay101 v593)) (k0_pay107 (k0_pay47 v266) v612) (k0_pay108 (k0_pay47 v266) (k0_pay100 v593) (k0_pay101 v593) v612) (k0_pay109 (k0_pay47 v266) v612) = dxlnc v266 v593 v612 := rfl
theorem dx5 (v266 : Vec Ideal S1x1024 .f32) (v593 : Vec Ideal S1x32x1024 .bf16) (v612 : Vec Ideal S1x32x1024 .f32) (v650 : Vec Ideal S1x32x1024 .bf16) :
    k0_pay112 (k0_pay102 (k0_pay101 v593)) (k0_pay103 (k0_pay100 v593) (k0_pay101 v593)) (k0_pay107 (k0_pay47 v266) v612) (k0_pay108 (k0_pay47 v266) (k0_pay100 v593) (k0_pay101 v593) v612) (k0_pay109 (k0_pay47 v266) v612) v650 = dxc v266 v593 v612 v650 := rfl
theorem sg6 (v658 : Vec Ideal S1x32x1024 .bf16) (v677 : Vec Ideal S1x32x1024 .f32) (v679 : Vec Ideal S8x1024 .f32) :
    k0_pay117 (k0_pay115 v658) (k0_pay116 v677) v679 = sgc v658 v677 v679 := rfl
theorem sb6 (v677 : Vec Ideal S1x32x1024 .f32) (v687 : Vec Ideal S8x1024 .f32) :
    k0_pay118 (k0_pay116 v677) v687 = sbc v677 v687 := rfl
theorem dxln6 (v266 : Vec Ideal S1x1024 .f32) (v658 : Vec Ideal S1x32x1024 .bf16) (v677 : Vec Ideal S1x32x1024 .f32) :
    k0_pay120 (k0_pay47 v266) (k0_pay114 v658) (k0_pay115 v658) (k0_pay116 v677) = dxlnc v266 v658 v677 := rfl
theorem dx6 (v266 : Vec Ideal S1x1024 .f32) (v658 : Vec Ideal S1x32x1024 .bf16) (v677 : Vec Ideal S1x32x1024 .f32) (v715 : Vec Ideal S1x32x1024 .bf16) :
    k0_pay121 (k0_pay119 (k0_pay47 v266) (k0_pay114 v658) (k0_pay115 v658) (k0_pay116 v677)) v715 = dxc v266 v658 v677 v715 := rfl
theorem sg7 (v723 : Vec Ideal S1x32x1024 .bf16) (v742 : Vec Ideal S1x32x1024 .f32) (v744 : Vec Ideal S8x1024 .f32) :
    k0_pay126 v723 v742 v744 = sgc v723 v742 v744 := rfl
theorem sb7 (v742 : Vec Ideal S1x32x1024 .f32) (v752 : Vec Ideal S8x1024 .f32) :
    k0_pay127 (k0_pay125 v742) v752 = sbc v742 v752 := rfl
theorem dxln7 (v266 : Vec Ideal S1x1024 .f32) (v723 : Vec Ideal S1x32x1024 .bf16) (v742 : Vec Ideal S1x32x1024 .f32) :
    k0_pay129 (k0_pay47 v266) (k0_pay123 v723) (k0_pay124 v723) (k0_pay125 v742) = dxlnc v266 v723 v742 := rfl
theorem dx7 (v266 : Vec Ideal S1x1024 .f32) (v723 : Vec Ideal S1x32x1024 .bf16) (v742 : Vec Ideal S1x32x1024 .f32) (v780 : Vec Ideal S1x32x1024 .bf16) :
    k0_pay130 (k0_pay47 v266) (k0_pay123 v723) (k0_pay124 v723) (k0_pay125 v742) v780 = dxc v266 v723 v742 v780 := rfl
theorem sg8 (v788 : Vec Ideal S1x32x1024 .bf16) (v807 : Vec Ideal S1x32x1024 .f32) (v809 : Vec Ideal S8x1024 .f32) :
    k0_pay136 ((k0_pay131 v788)) v807 v809 = sgc v788 v807 v809 := rfl
theorem sb8 (v807 : Vec Ideal S1x32x1024 .f32) (v817 : Vec Ideal S8x1024 .f32) :
    k0_pay137 v807 v817 = sbc v807 v817 := rfl
theorem dxln8 (v266 : Vec Ideal S1x1024 .f32) (v788 : Vec Ideal S1x32x1024 .bf16) (v807 : Vec Ideal S1x32x1024 .f32) :
    k0_pay142 (k0_pay133 ((k0_pay131 v788))) (k0_pay134 ((k0_pay131 v788))) (k0_pay138 (k0_pay47 v266) v807) (k0_pay139 (k0_pay47 v266) v807) (k0_pay140 (F := Ideal)) = dxlnc v266 v788 v807 := rfl
theorem dx8 (v266 : Vec Ideal S1x1024 .f32) (v788 : Vec Ideal S1x32x1024 .bf16) (v807 : Vec Ideal S1x32x1024 .f32) (v845 : Vec Ideal S1x32x1024 .bf16) :
    k0_pay143 (k0_pay133 ((k0_pay131 v788))) (k0_pay134 ((k0_pay131 v788))) (k0_pay138 (k0_pay47 v266) v807) (k0_pay139 (k0_pay47 v266) v807) (k0_pay140 (F := Ideal)) v845 = dxc v266 v788 v807 v845 := rfl
theorem sg9 (v853 : Vec Ideal S1x32x1024 .bf16) (v872 : Vec Ideal S1x32x1024 .f32) (v874 : Vec Ideal S8x1024 .f32) :
    k0_pay150 (k0_pay144 v853) (k0_pay145 v853) (k0_pay146 (F := Ideal)) v872 v874 = sgc v853 v872 v874 := rfl
theorem sb9 (v872 : Vec Ideal S1x32x1024 .f32) (v882 : Vec Ideal S8x1024 .f32) :
    k0_pay151 v872 v882 = sbc v872 v882 := rfl
theorem dxln9 (v266 : Vec Ideal S1x1024 .f32) (v853 : Vec Ideal S1x32x1024 .bf16) (v872 : Vec Ideal S1x32x1024 .f32) :
    k0_pay153 ((k0_pay152 (k0_pay47 v266) (k0_pay144 v853) (k0_pay145 v853) (k0_pay146 (F := Ideal)) v872)) = dxlnc v266 v853 v872 := rfl
theorem dx9 (v266 : Vec Ideal S1x1024 .f32) (v853 : Vec Ideal S1x32x1024 .bf16) (v872 : Vec Ideal S1x32x1024 .f32) (v910 : Vec Ideal S1x32x1024 .bf16) :
    k0_pay154 ((k0_pay152 (k0_pay47 v266) (k0_pay144 v853) (k0_pay145 v853) (k0_pay146 (F := Ideal)) v872)) v910 = dxc v266 v853 v872 v910 := rfl
theorem sg10 (v918 : Vec Ideal S1x32x1024 .bf16) (v937 : Vec Ideal S1x32x1024 .f32) (v939 : Vec Ideal S8x1024 .f32) :
    k0_pay160 (k0_pay159 v918 v937 v939) = sgc v918 v937 v939 := rfl
theorem sb10 (v937 : Vec Ideal S1x32x1024 .f32) (v947 : Vec Ideal S8x1024 .f32) :
    k0_pay161 (k0_pay158 v937) v947 = sbc v937 v947 := rfl
theorem dxln10 (v266 : Vec Ideal S1x1024 .f32) (v918 : Vec Ideal S1x32x1024 .bf16) (v937 : Vec Ideal S1x32x1024 .f32) :
    k0_pay163 (k0_pay47 v266) (k0_pay156 v918) (k0_pay157 v918) (k0_pay158 v937) = dxlnc v266 v918 v937 := rfl
theorem dx10 (v266 : Vec Ideal S1x1024 .f32) (v918 : Vec Ideal S1x32x1024 .bf16) (v937 : Vec Ideal S1x32x1024 .f32) (v975 : Vec Ideal S1x32x1024 .bf16) :
    k0_pay165 (k0_pay164 (k0_pay47 v266) (k0_pay156 v918) (k0_pay157 v918) (k0_pay158 v937) v975) = dxc v266 v918 v937 v975 := rfl
theorem sg11 (v983 : Vec Ideal S1x32x1024 .bf16) (v1002 : Vec Ideal S1x32x1024 .f32) (v1004 : Vec Ideal S8x1024 .f32) :
    k0_pay170 v983 v1002 v1004 = sgc v983 v1002 v1004 := rfl
theorem sb11 (v1002 : Vec Ideal S1x32x1024 .f32) (v1012 : Vec Ideal S8x1024 .f32) :
    k0_pay172 (k0_pay171 v1002 v1012) = sbc v1002 v1012 := rfl
theorem dxln11 (v266 : Vec Ideal S1x1024 .f32) (v983 : Vec Ideal S1x32x1024 .bf16) (v1002 : Vec Ideal S1x32x1024 .f32) :
    k0_pay174 (k0_pay47 v266) (k0_pay167 v983) (k0_pay168 v983) (k0_pay169 v1002) = dxlnc v266 v983 v1002 := rfl
theorem dx11 (v266 : Vec Ideal S1x1024 .f32) (v983 : Vec Ideal S1x32x1024 .bf16) (v1002 : Vec Ideal S1x32x1024 .f32) (v1040 : Vec Ideal S1x32x1024 .bf16) :
    k0_pay1 (k0_pay173 (k0_pay47 v266) (k0_pay167 v983) (k0_pay168 v983) (k0_pay169 v1002)) v1040 = dxc v266 v983 v1002 v1040 := rfl

/-! ## The functions at an index -/

theorem zc_at (s t : Elt Ideal .f32) (v : Vec Ideal S1x384x1024 .fp8e4m3) (w : Vec Ideal S1024x256 .fp8e4m3) (b : Vec Ideal S1x256 .f32) (r : Fin 384) (n : Fin 256) :
    zc s t v w b (ix3 0 r n) = (∑ k : Fin 1024, v (ix3 0 r k) * w (ix2 k n)) * (s * t) + b (ix2 0 n) := by
  pointwise [zc, k0_pay12, k0_pay11]

theorem yc_at (l : Elt Ideal .i32) (s t : Elt Ideal .f32) (v : Vec Ideal S1x384x1024 .fp8e4m3) (w : Vec Ideal S1024x256 .fp8e4m3) (b : Vec Ideal S1x256 .f32)
    (x : Vec Ideal S1x384x256 .bf16) (r : Fin 384) (n : Fin 256) :
    yc l s t v w b x (ix3 0 r n) = x (ix3 0 r n) + if (r.val : ℤ) < BitVec.toInt l then zc s t v w b (ix3 0 r n) else 0 := by
  rw [zc_at]
  pointwise [yc, k0_pay13, k0_pay11, k0_pay10]
  have h2 : (BitVec.ofNat 32 r.val).toInt = r.val := by
    rw [BitVec.toInt_eq_toNat_of_lt (by rw [BitVec.toNat_ofNat]; omega), BitVec.toNat_ofNat]; omega
  rw [show ∀ a b : BitVec 32, IntOp.cmpi .slt a b = BitVec.ofBool (decide (a.toInt < b.toInt)) from fun _ _ => rfl, h2]
  refine congrArg _ ?_
  by_cases h : (r.val : ℤ) < BitVec.toInt l
  · rw [if_pos h, decide_eq_true h]; rfl
  · rw [if_neg h, decide_eq_false h]; rfl

theorem dxnc_at (s t : Elt Ideal .f32) (dh : Vec Ideal S1x384x2048 .fp8e5m2) (w : Vec Ideal S256x2048 .fp8e4m3) (r : Fin 384) (k : Fin 256) :
    dxnc s t dh w (ix3 0 r k) = (∑ n : Fin 2048, dh (ix3 0 r n) * w (ix2 k n)) * (s * t) := by
  pointwise [dxnc, k0_pay26]

theorem dwc_at (a : Vec Ideal S1024x256 .f32) (v : Vec Ideal S1x384x1024 .fp8e4m3) (g : Vec Ideal S1x384x256 .fp8e5m2) (k : Fin 1024) (n : Fin 256) :
    dwc a v g (ix2 k n) = a (ix2 k n) + ∑ r : Fin 384, v (ix3 0 r k) * g (ix3 0 r n) := by
  pointwise [dwc, k0_pay33]

theorem rstdc_at (x : Vec Ideal S1x32x1024 .bf16) (i : Fin 32) :
    k0_pay49 x (ix2 i 0) = rstd (fun q => x (ix3 0 i q)) := by
  pointwise [k0_pay49, k0_pay48, rstd, rvar, rcen, rmean]

theorem xhatc_at (x : Vec Ideal S1x32x1024 .bf16) (i : Fin 32) (k : Fin 1024) :
    k0_pay50 x (ix2 i k) = rhat (fun q => x (ix3 0 i q)) k := by
  unfold rhat
  rw [← rstdc_at]
  pointwise [k0_pay50, k0_pay48, rcen, rmean]

theorem sgc_at (x : Vec Ideal S1x32x1024 .bf16) (d : Vec Ideal S1x32x1024 .f32) (a : Vec Ideal S8x1024 .f32) (s : Fin 8) (k : Fin 1024) :
    sgc x d a (ix2 s k) = a (ix2 s k) + ∑ i : Fin 4, d (ix3 0 ⟨i.val * 8 + s.val, by omega⟩ k)
      * rhat (fun q => x (ix3 0 ⟨i.val * 8 + s.val, by omega⟩ q)) k := by
  simp only [← xhatc_at]
  pointwise [sgc, k0_pay52, k0_pay51]

theorem sbc_at (d : Vec Ideal S1x32x1024 .f32) (a : Vec Ideal S8x1024 .f32) (s : Fin 8) (k : Fin 1024) :
    sbc d a (ix2 s k) = a (ix2 s k) + ∑ i : Fin 4, d (ix3 0 ⟨i.val * 8 + s.val, by omega⟩ k) := by
  pointwise [sbc, k0_pay54, k0_pay53, k0_pay51]

theorem dxlnc_at (g : Vec Ideal S1x1024 .f32) (x : Vec Ideal S1x32x1024 .bf16) (d : Vec Ideal S1x32x1024 .f32) (i : Fin 32) (k : Fin 1024) :
    dxlnc g x d (ix3 0 i k) = lngrad (fun q => x (ix3 0 i q)) (fun q => d (ix3 0 i q)) (fun q => g (ix2 0 q)) k := by
  unfold lngrad rmean
  simp only [← xhatc_at, ← rstdc_at]
  pointwise [dxlnc, k0_pay56, k0_pay55, k0_pay51, k0_pay47]

theorem dxc_at (g : Vec Ideal S1x1024 .f32) (x : Vec Ideal S1x32x1024 .bf16) (d : Vec Ideal S1x32x1024 .f32) (y : Vec Ideal S1x32x1024 .bf16) (i : Fin 32) (k : Fin 1024) :
    dxc g x d y (ix3 0 i k) = dxlnc g x d (ix3 0 i k) + y (ix3 0 i k) := by
  pointwise [dxc, dxlnc, k0_pay57, k0_pay56]

theorem zero6_at (j : S8x1024.Idx) : k0_pay6 (F := Ideal) j = (0 : EReal) := by
  idx_vars j
  pointwise [k0_pay6]

theorem zero7_at (j : S8x1024.Idx) : k0_pay7 (F := Ideal) j = (0 : EReal) := by
  idx_vars j
  pointwise [k0_pay7]

theorem zero8_at (j : S1024x2048.Idx) : k0_pay8 (F := Ideal) j = (0 : EReal) := by
  idx_vars j
  pointwise [k0_pay8]

theorem zero9_at (j : S1024x1024.Idx) : k0_pay9 (F := Ideal) j = (0 : EReal) := by
  idx_vars j
  pointwise [k0_pay9]

theorem sum2_at (v : Vec Ideal S8x1024 .f32) (k : Fin 1024) : k0_pay2 v (ix2 0 k) = ∑ s : Fin 8, v (ix2 s k) := by
  pointwise [k0_pay2]

theorem sum3_at (v : Vec Ideal S8x1024 .f32) (k : Fin 1024) : k0_pay3 v (ix2 0 k) = ∑ s : Fin 8, v (ix2 s k) := by
  pointwise [k0_pay3]

theorem scale4_at (s t : Elt Ideal .f32) (v : Vec Ideal S1024x2048 .f32) (a : Fin 1024) (n : Fin 2048) : k0_pay4 s t v (ix2 a n) = v (ix2 a n) * (s * t) := by
  pointwise [k0_pay4]

theorem scale5_at (s t : Elt Ideal .f32) (v : Vec Ideal S1024x1024 .f32) (a : Fin 1024) (n : Fin 1024) : k0_pay5 s t v (ix2 a n) = v (ix2 a n) * (s * t) := by
  pointwise [k0_pay5]

end Cert.RowsOutIdeal.Pay

end
-- ==== Proof.OutBlk.lean ====
module

public import proofs.«01_k».proof.Proof.Gen.RowsOutIdeal.Value
public import proofs.«01_k».proof.Proof.OutPay
public import proofs.«01_k».proof.Proof.Rows
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.Spec

namespace Cert.RowsOutIdeal.Val
open Cert.RowsOutIdeal Cert.RowsOutIdeal.Gen
variable (m : (ℓ : Loc nD τ sig) → Buf (Elt Ideal) ℓ)

theorem ld11 (x : Vec Ideal S1x1 .f32) (inb) (j) : View.ld (S := S1x1) x (Rect.unit ![0, 0] ![1, 1] inb) j = x (ix2 0 0) := by
  refine congrArg (f := x) (funext fun a => ?_)
  match a with
  | ⟨0, _⟩ => exact Subsingleton.elim (α := Fin 1) _ _
  | ⟨1, _⟩ => exact Subsingleton.elim (α := Fin 1) _ _

/-- A load of one chunk of rows, read at an index. -/
theorem ldrow {e : EltTy} (x : Vec Ideal S1x384x1024 e) (o : ℕ) (inb) (i : Fin 32) (q : Fin 1024) (r : Fin 384)
    (hr : r.val = o + i.val) :
    View.ld (S := S1x384x1024) x (Rect.unit ![0, o, 0] ![1, 32, 1024] inb) (ix3 0 i q) = x (ix3 0 r q) := by
  refine congrArg (f := x) (funext fun a => Fin.ext ?_)
  match a with
  | ⟨0, _⟩ => rfl
  | ⟨1, _⟩ => exact (by simp [hr] : o + 1 * i.val = r.val)
  | ⟨2, _⟩ => exact (by simp : 0 + 1 * q.val = q.val)

/-- A load of one chunk of columns of a block, read at an index. -/
theorem ldbcol {N : ℕ} {e : EltTy} (x : Vec Ideal ⟨3, ![1, 384, N]⟩ e) (o : ℕ) (inb) (r : Fin 384) (n : Fin 256) (q : Fin N)
    (hq : q.val = o + n.val) :
    View.ld (S := ⟨3, ![1, 384, N]⟩) x (Rect.unit ![0, 0, o] ![1, 384, 256] inb) (ix3 0 r n) = x (ix3 0 r q) := by
  refine congrArg (f := x) (funext fun a => Fin.ext ?_)
  match a with
  | ⟨0, _⟩ => rfl
  | ⟨1, _⟩ => exact (by simp : 0 + 1 * r.val = r.val)
  | ⟨2, _⟩ => exact (by simp [hq] : o + 1 * n.val = q.val)

/-- A load of columns of a matrix, read at an index. -/
theorem ldcol {R N C : ℕ} {e : EltTy} (x : Vec Ideal ⟨2, ![R, N]⟩ e) (o : ℕ) (inb) (k : Fin R) (n : Fin C) (q : Fin N) (hq : q.val = o + n.val) :
    View.ld (S := ⟨2, ![R, N]⟩) x (Rect.unit ![0, o] ![R, C] inb) (ix2 k n) = x (ix2 k q) := by
  refine congrArg (f := x) (funext fun a => Fin.ext ?_)
  match a with
  | ⟨0, _⟩ => exact (by simp : 0 + 1 * k.val = k.val)
  | ⟨1, _⟩ => exact (by simp [hq] : o + 1 * n.val = q.val)

/-- A load of rows of a matrix, read at an index. -/
theorem ldmrow {R N C : ℕ} {e : EltTy} (x : Vec Ideal ⟨2, ![N, R]⟩ e) (o : ℕ) (inb) (n : Fin C) (k : Fin R) (q : Fin N) (hq : q.val = o + n.val) :
    View.ld (S := ⟨2, ![N, R]⟩) x (Rect.unit ![o, 0] ![C, R] inb) (ix2 n k) = x (ix2 q k) := by
  refine congrArg (f := x) (funext fun a => Fin.ext ?_)
  match a with
  | ⟨0, _⟩ => exact (by simp [hq] : o + 1 * n.val = q.val)
  | ⟨1, _⟩ => exact (by simp : 0 + 1 * k.val = k.val)

/-! ## One chunk at an index of the block -/

theorem z_piece (s t : Elt Ideal .f32) (v : Vec Ideal S1x384x1024 .fp8e4m3) (w : Vec Ideal S1024x1024 .fp8e4m3) (b : Vec Ideal S1x1024 .f32)
    (o : ℕ) (inb inb') (u : S1x384x256.Idx) (j : S1x384x1024.Idx) (h1 : (j 1).val = (u 1).val) (h2 : (j 2).val = o + (u 2).val) :
    Pay.zc s t v (View.ld (S := S1024x1024) w (Rect.unit ![0, o] ![1024, 256] inb)) (View.ld (S := S1x1024) b (Rect.unit ![0, o] ![1, 256] inb')) u
      = (∑ k : Fin 1024, v (ix3 0 (j 1) k) * w (ix2 k (j 2))) * (s * t) + b (ix2 0 (j 2)) := by
  idx_vars u
  idx_vars j
  obtain rfl := Subsingleton.elim u0 (0 : Fin 1)
  obtain rfl : j1 = u1 := Fin.ext h1
  rw [Pay.zc_at]
  simp only [fun k => ldcol w o inb k u2 j2 h2, ldcol b o inb' 0 u2 j2 h2]

theorem y_piece (l : Elt Ideal .i32) (s t : Elt Ideal .f32) (v : Vec Ideal S1x384x1024 .fp8e4m3) (w : Vec Ideal S1024x1024 .fp8e4m3) (b : Vec Ideal S1x1024 .f32)
    (x : Vec Ideal S1x384x1024 .bf16)
    (o : ℕ) (inb inb' inb'') (u : S1x384x256.Idx) (j : S1x384x1024.Idx) (h1 : (j 1).val = (u 1).val) (h2 : (j 2).val = o + (u 2).val) :
    Pay.yc l s t v (View.ld (S := S1024x1024) w (Rect.unit ![0, o] ![1024, 256] inb)) (View.ld (S := S1x1024) b (Rect.unit ![0, o] ![1, 256] inb'))
      (View.ld (S := S1x384x1024) x (Rect.unit ![0, 0, o] ![1, 384, 256] inb'')) u
      = x (ix3 0 (j 1) (j 2)) + if (((j 1).val : ℕ) : ℤ) < BitVec.toInt l then (∑ k : Fin 1024, v (ix3 0 (j 1) k) * w (ix2 k (j 2))) * (s * t) + b (ix2 0 (j 2)) else 0 := by
  have e := z_piece s t v w b o inb inb' u j h1 h2
  idx_vars u
  idx_vars j
  obtain rfl := Subsingleton.elim u0 (0 : Fin 1)
  obtain rfl : j1 = u1 := Fin.ext h1
  rw [Pay.yc_at, e, ldbcol x o inb'' j1 u2 j2 h2]
  rfl

theorem dxn_piece (s t : Elt Ideal .f32) (d : Vec Ideal S1x384x2048 .fp8e5m2) (w : Vec Ideal S1024x2048 .fp8e4m3)
    (o : ℕ) (inb) (u : S1x384x256.Idx) (j : S1x384x1024.Idx) (h1 : (j 1).val = (u 1).val) (h2 : (j 2).val = o + (u 2).val) :
    Pay.dxnc s t d (View.ld (S := S1024x2048) w (Rect.unit ![o, 0] ![256, 2048] inb)) u
      = (∑ n : Fin 2048, d (ix3 0 (j 1) n) * w (ix2 (j 2) n)) * (s * t) := by
  idx_vars u
  idx_vars j
  obtain rfl := Subsingleton.elim u0 (0 : Fin 1)
  obtain rfl : j1 = u1 := Fin.ext h1
  rw [Pay.dxnc_at]
  simp only [fun k => ldmrow w o inb u2 k j2 h2]

theorem dw2_piece (p : Vec Ideal S1024x1024 .f32) (v : Vec Ideal S1x384x1024 .fp8e4m3) (g : Vec Ideal S1x384x1024 .fp8e5m2)
    (o : ℕ) (inb inb') (u : S1024x256.Idx) (j : S1024x1024.Idx) (h1 : (j 0).val = (u 0).val) (h2 : (j 1).val = o + (u 1).val) :
    Pay.dwc (View.ld (S := S1024x1024) p (Rect.unit ![0, o] ![1024, 256] inb)) v (View.ld (S := S1x384x1024) g (Rect.unit ![0, 0, o] ![1, 384, 256] inb')) u
      = p (ix2 (j 0) (j 1)) + ∑ r : Fin 384, v (ix3 0 r (j 0)) * g (ix3 0 r (j 1)) := by
  idx_vars u
  idx_vars j
  obtain rfl : j0 = u0 := Fin.ext h1
  rw [Pay.dwc_at, ldcol p o inb j0 u1 j1 h2]
  simp only [fun r => ldbcol g o inb' r u1 j1 h2]

theorem dw1_piece (p : Vec Ideal S1024x2048 .f32) (v : Vec Ideal S1x384x1024 .fp8e4m3) (g : Vec Ideal S1x384x2048 .fp8e5m2)
    (o : ℕ) (inb inb') (u : S1024x256.Idx) (j : S1024x2048.Idx) (h1 : (j 0).val = (u 0).val) (h2 : (j 1).val = o + (u 1).val) :
    Pay.dwc (View.ld (S := S1024x2048) p (Rect.unit ![0, o] ![1024, 256] inb)) v (View.ld (S := S1x384x2048) g (Rect.unit ![0, 0, o] ![1, 384, 256] inb')) u
      = p (ix2 (j 0) (j 1)) + ∑ r : Fin 384, v (ix3 0 r (j 0)) * g (ix3 0 r (j 1)) := by
  idx_vars u
  idx_vars j
  obtain rfl : j0 = u0 := Fin.ext h1
  rw [Pay.dwc_at, ldcol p o inb j0 u1 j1 h2]
  simp only [fun r => ldbcol g o inb' r u1 j1 h2]

theorem dxln_piece (g : Vec Ideal S1x1024 .f32) (x : Vec Ideal S1x384x1024 .bf16) (d : Vec Ideal S1x384x1024 .f32)
    (o : ℕ) (inb inb') (u : S1x32x1024.Idx) (j : S1x384x1024.Idx) (h1 : (j 1).val = o + (u 1).val) (h2 : (j 2).val = (u 2).val) :
    Pay.dxlnc g (View.ld (S := S1x384x1024) x (Rect.unit ![0, o, 0] ![1, 32, 1024] inb)) (View.ld (S := S1x384x1024) d (Rect.unit ![0, o, 0] ![1, 32, 1024] inb')) u
      = lngrad (fun q => x (ix3 0 (j 1) q)) (fun q => d (ix3 0 (j 1) q)) (fun q => g (ix2 0 q)) (j 2) := by
  idx_vars u
  idx_vars j
  obtain rfl := Subsingleton.elim u0 (0 : Fin 1)
  obtain rfl : j2 = u2 := Fin.ext h2
  rw [Pay.dxlnc_at]
  simp only [fun q => ldrow x o inb u1 q j1 h1, fun q => ldrow d o inb' u1 q j1 h1]

theorem dx_piece (g : Vec Ideal S1x1024 .f32) (x : Vec Ideal S1x384x1024 .bf16) (d : Vec Ideal S1x384x1024 .f32) (y : Vec Ideal S1x384x1024 .bf16)
    (o : ℕ) (inb inb' inb'') (u : S1x32x1024.Idx) (j : S1x384x1024.Idx) (h1 : (j 1).val = o + (u 1).val) (h2 : (j 2).val = (u 2).val) :
    Pay.dxc g (View.ld (S := S1x384x1024) x (Rect.unit ![0, o, 0] ![1, 32, 1024] inb)) (View.ld (S := S1x384x1024) d (Rect.unit ![0, o, 0] ![1, 32, 1024] inb'))
      (View.ld (S := S1x384x1024) y (Rect.unit ![0, o, 0] ![1, 32, 1024] inb'')) u
      = lngrad (fun q => x (ix3 0 (j 1) q)) (fun q => d (ix3 0 (j 1) q)) (fun q => g (ix2 0 q)) (j 2) + y (ix3 0 (j 1) (j 2)) := by
  have e := dxln_piece g x d o inb inb' u j h1 h2
  idx_vars u
  idx_vars j
  obtain rfl := Subsingleton.elim u0 (0 : Fin 1)
  obtain rfl : j2 = u2 := Fin.ext h2
  rw [Pay.dxc_at, e, ldrow y o inb'' u1 j2 j1 h1]

/-! ## The chunks together -/

/-- The cotangent of the normalised rows of one block. -/
def DXN (s t : Elt Ideal .f32) (d : Vec Ideal S1x384x2048 .fp8e5m2) (w : Vec Ideal S1024x2048 .fp8e4m3) : Vec Ideal S1x384x1024 .f32 :=
  fun y => (∑ n : Fin 2048, d (ix3 0 (y 1) n) * w (ix2 (y 2) n)) * (s * t)

/-- A load of a buffer just written reads the stores there. -/
theorem rdc {κ : _} {sp : _} {S : Shape} {e : EltTy} (v : View sig κ sp S e) (L : List (View.Piece (Elt Ideal) S e)) (r : Rect S) :
    v.readCov L r.toLoadRect = View.ld (View.canon L) r := by
  rw [View.readCov_eq_canon']

theorem canon_z (s t : Elt Ideal .f32) (v : Vec Ideal S1x384x1024 .fp8e4m3) (w : Vec Ideal S1024x1024 .fp8e4m3) (b : Vec Ideal S1x1024 .f32) :
    View.canon (Val := Elt Ideal) (s := S1x384x1024) (e := .f32)
      ([⟨Rect.unit ![0, 0, 768] ![1, 384, 256] inb_S1x384x1024_S1x384x256_0_0_768, Pay.zc s t v (View.ld w (Rect.unit ![0, 768] ![1024, 256] inb_S1024x1024_S1024x256_0_768)) (View.ld b (Rect.unit ![0, 768] ![1, 256] inb_S1x1024_S1x256_0_768))⟩,
        ⟨Rect.unit ![0, 0, 512] ![1, 384, 256] inb_S1x384x1024_S1x384x256_0_0_512, Pay.zc s t v (View.ld w (Rect.unit ![0, 512] ![1024, 256] inb_S1024x1024_S1024x256_0_512)) (View.ld b (Rect.unit ![0, 512] ![1, 256] inb_S1x1024_S1x256_0_512))⟩,
        ⟨Rect.unit ![0, 0, 256] ![1, 384, 256] inb_S1x384x1024_S1x384x256_0_0_256, Pay.zc s t v (View.ld w (Rect.unit ![0, 256] ![1024, 256] inb_S1024x1024_S1024x256_0_256)) (View.ld b (Rect.unit ![0, 256] ![1, 256] inb_S1x1024_S1x256_0_256))⟩,
        ⟨Rect.unit ![0, 0, 0] ![1, 384, 256] inb_S1x384x1024_S1x384x256_0_0_0, Pay.zc s t v (View.ld w (Rect.unit ![0, 0] ![1024, 256] inb_S1024x1024_S1024x256_0_0)) (View.ld b (Rect.unit ![0, 0] ![1, 256] inb_S1x1024_S1x256_0_0))⟩])
      = fun y => (∑ k : Fin 1024, v (ix3 0 (y 1) k) * w (ix2 k (y 2))) * (s * t) + b (ix2 0 (y 2)) := by
  funext j
  canon_tiles u h
  all_goals exact z_piece s t v w b _ _ _ u j h1 (by omega)

theorem canon_y (l : Elt Ideal .i32) (s t : Elt Ideal .f32) (v : Vec Ideal S1x384x1024 .fp8e4m3) (w : Vec Ideal S1024x1024 .fp8e4m3) (b : Vec Ideal S1x1024 .f32) (x : Vec Ideal S1x384x1024 .bf16) :
    View.canon (Val := Elt Ideal) (s := S1x384x1024) (e := .bf16)
      ([⟨Rect.unit ![0, 0, 768] ![1, 384, 256] inb_S1x384x1024_S1x384x256_0_0_768, Pay.yc l s t v (View.ld w (Rect.unit ![0, 768] ![1024, 256] inb_S1024x1024_S1024x256_0_768)) (View.ld b (Rect.unit ![0, 768] ![1, 256] inb_S1x1024_S1x256_0_768)) (View.ld x (Rect.unit ![0, 0, 768] ![1, 384, 256] inb_S1x384x1024_S1x384x256_0_0_768))⟩,
        ⟨Rect.unit ![0, 0, 512] ![1, 384, 256] inb_S1x384x1024_S1x384x256_0_0_512, Pay.yc l s t v (View.ld w (Rect.unit ![0, 512] ![1024, 256] inb_S1024x1024_S1024x256_0_512)) (View.ld b (Rect.unit ![0, 512] ![1, 256] inb_S1x1024_S1x256_0_512)) (View.ld x (Rect.unit ![0, 0, 512] ![1, 384, 256] inb_S1x384x1024_S1x384x256_0_0_512))⟩,
        ⟨Rect.unit ![0, 0, 256] ![1, 384, 256] inb_S1x384x1024_S1x384x256_0_0_256, Pay.yc l s t v (View.ld w (Rect.unit ![0, 256] ![1024, 256] inb_S1024x1024_S1024x256_0_256)) (View.ld b (Rect.unit ![0, 256] ![1, 256] inb_S1x1024_S1x256_0_256)) (View.ld x (Rect.unit ![0, 0, 256] ![1, 384, 256] inb_S1x384x1024_S1x384x256_0_0_256))⟩,
        ⟨Rect.unit ![0, 0, 0] ![1, 384, 256] inb_S1x384x1024_S1x384x256_0_0_0, Pay.yc l s t v (View.ld w (Rect.unit ![0, 0] ![1024, 256] inb_S1024x1024_S1024x256_0_0)) (View.ld b (Rect.unit ![0, 0] ![1, 256] inb_S1x1024_S1x256_0_0)) (View.ld x (Rect.unit ![0, 0, 0] ![1, 384, 256] inb_S1x384x1024_S1x384x256_0_0_0))⟩])
      = fun y => x (ix3 0 (y 1) (y 2)) + if (((y 1).val : ℕ) : ℤ) < BitVec.toInt l then (∑ k : Fin 1024, v (ix3 0 (y 1) k) * w (ix2 k (y 2))) * (s * t) + b (ix2 0 (y 2)) else 0 := by
  funext j
  canon_tiles u h
  all_goals exact y_piece l s t v w b x _ _ _ _ u j h1 (by omega)

theorem canon_dxn (s t : Elt Ideal .f32) (d : Vec Ideal S1x384x2048 .fp8e5m2) (w : Vec Ideal S1024x2048 .fp8e4m3) :
    View.canon (Val := Elt Ideal) (s := S1x384x1024) (e := .f32)
      ([⟨Rect.unit ![0, 0, 768] ![1, 384, 256] inb_S1x384x1024_S1x384x256_0_0_768, Pay.dxnc s t d (View.ld w (Rect.unit ![768, 0] ![256, 2048] inb_S1024x2048_S256x2048_768_0))⟩,
        ⟨Rect.unit ![0, 0, 512] ![1, 384, 256] inb_S1x384x1024_S1x384x256_0_0_512, Pay.dxnc s t d (View.ld w (Rect.unit ![512, 0] ![256, 2048] inb_S1024x2048_S256x2048_512_0))⟩,
        ⟨Rect.unit ![0, 0, 256] ![1, 384, 256] inb_S1x384x1024_S1x384x256_0_0_256, Pay.dxnc s t d (View.ld w (Rect.unit ![256, 0] ![256, 2048] inb_S1024x2048_S256x2048_256_0))⟩,
        ⟨Rect.unit ![0, 0, 0] ![1, 384, 256] inb_S1x384x1024_S1x384x256_0_0_0, Pay.dxnc s t d (View.ld w (Rect.unit ![0, 0] ![256, 2048] inb_S1024x2048_S256x2048_0_0))⟩])
      = DXN s t d w := by
  funext j
  canon_tiles u h
  all_goals exact dxn_piece s t d w _ _ u j h1 (by omega)

theorem canon_dxln (g : Vec Ideal S1x1024 .f32) (x : Vec Ideal S1x384x1024 .bf16) (d : Vec Ideal S1x384x1024 .f32) :
    View.canon (Val := Elt Ideal) (s := S1x384x1024) (e := .f32)
      ([⟨Rect.unit ![0, 352, 0] ![1, 32, 1024] inb_S1x384x1024_S1x32x1024_0_352_0, Pay.dxlnc g (View.ld x (Rect.unit ![0, 352, 0] ![1, 32, 1024] inb_S1x384x1024_S1x32x1024_0_352_0)) (View.ld d (Rect.unit ![0, 352, 0] ![1, 32, 1024] inb_S1x384x1024_S1x32x1024_0_352_0))⟩,
        ⟨Rect.unit ![0, 320, 0] ![1, 32, 1024] inb_S1x384x1024_S1x32x1024_0_320_0, Pay.dxlnc g (View.ld x (Rect.unit ![0, 320, 0] ![1, 32, 1024] inb_S1x384x1024_S1x32x1024_0_320_0)) (View.ld d (Rect.unit ![0, 320, 0] ![1, 32, 1024] inb_S1x384x1024_S1x32x1024_0_320_0))⟩,
        ⟨Rect.unit ![0, 288, 0] ![1, 32, 1024] inb_S1x384x1024_S1x32x1024_0_288_0, Pay.dxlnc g (View.ld x (Rect.unit ![0, 288, 0] ![1, 32, 1024] inb_S1x384x1024_S1x32x1024_0_288_0)) (View.ld d (Rect.unit ![0, 288, 0] ![1, 32, 1024] inb_S1x384x1024_S1x32x1024_0_288_0))⟩,
        ⟨Rect.unit ![0, 256, 0] ![1, 32, 1024] inb_S1x384x1024_S1x32x1024_0_256_0, Pay.dxlnc g (View.ld x (Rect.unit ![0, 256, 0] ![1, 32, 1024] inb_S1x384x1024_S1x32x1024_0_256_0)) (View.ld d (Rect.unit ![0, 256, 0] ![1, 32, 1024] inb_S1x384x1024_S1x32x1024_0_256_0))⟩,
        ⟨Rect.unit ![0, 224, 0] ![1, 32, 1024] inb_S1x384x1024_S1x32x1024_0_224_0, Pay.dxlnc g (View.ld x (Rect.unit ![0, 224, 0] ![1, 32, 1024] inb_S1x384x1024_S1x32x1024_0_224_0)) (View.ld d (Rect.unit ![0, 224, 0] ![1, 32, 1024] inb_S1x384x1024_S1x32x1024_0_224_0))⟩,
        ⟨Rect.unit ![0, 192, 0] ![1, 32, 1024] inb_S1x384x1024_S1x32x1024_0_192_0, Pay.dxlnc g (View.ld x (Rect.unit ![0, 192, 0] ![1, 32, 1024] inb_S1x384x1024_S1x32x1024_0_192_0)) (View.ld d (Rect.unit ![0, 192, 0] ![1, 32, 1024] inb_S1x384x1024_S1x32x1024_0_192_0))⟩,
        ⟨Rect.unit ![0, 160, 0] ![1, 32, 1024] inb_S1x384x1024_S1x32x1024_0_160_0, Pay.dxlnc g (View.ld x (Rect.unit ![0, 160, 0] ![1, 32, 1024] inb_S1x384x1024_S1x32x1024_0_160_0)) (View.ld d (Rect.unit ![0, 160, 0] ![1, 32, 1024] inb_S1x384x1024_S1x32x1024_0_160_0))⟩,
        ⟨Rect.unit ![0, 128, 0] ![1, 32, 1024] inb_S1x384x1024_S1x32x1024_0_128_0, Pay.dxlnc g (View.ld x (Rect.unit ![0, 128, 0] ![1, 32, 1024] inb_S1x384x1024_S1x32x1024_0_128_0)) (View.ld d (Rect.unit ![0, 128, 0] ![1, 32, 1024] inb_S1x384x1024_S1x32x1024_0_128_0))⟩,
        ⟨Rect.unit ![0, 96, 0] ![1, 32, 1024] inb_S1x384x1024_S1x32x1024_0_96_0, Pay.dxlnc g (View.ld x (Rect.unit ![0, 96, 0] ![1, 32, 1024] inb_S1x384x1024_S1x32x1024_0_96_0)) (View.ld d (Rect.unit ![0, 96, 0] ![1, 32, 1024] inb_S1x384x1024_S1x32x1024_0_96_0))⟩,
        ⟨Rect.unit ![0, 64, 0] ![1, 32, 1024] inb_S1x384x1024_S1x32x1024_0_64_0, Pay.dxlnc g (View.ld x (Rect.unit ![0, 64, 0] ![1, 32, 1024] inb_S1x384x1024_S1x32x1024_0_64_0)) (View.ld d (Rect.unit ![0, 64, 0] ![1, 32, 1024] inb_S1x384x1024_S1x32x1024_0_64_0))⟩,
        ⟨Rect.unit ![0, 32, 0] ![1, 32, 1024] inb_S1x384x1024_S1x32x1024_0_32_0, Pay.dxlnc g (View.ld x (Rect.unit ![0, 32, 0] ![1, 32, 1024] inb_S1x384x1024_S1x32x1024_0_32_0)) (View.ld d (Rect.unit ![0, 32, 0] ![1, 32, 1024] inb_S1x384x1024_S1x32x1024_0_32_0))⟩,
        ⟨Rect.unit ![0, 0, 0] ![1, 32, 1024] inb_S1x384x1024_S1x32x1024_0_0_0, Pay.dxlnc g (View.ld x (Rect.unit ![0, 0, 0] ![1, 32, 1024] inb_S1x384x1024_S1x32x1024_0_0_0)) (View.ld d (Rect.unit ![0, 0, 0] ![1, 32, 1024] inb_S1x384x1024_S1x32x1024_0_0_0))⟩])
      = fun y => lngrad (fun q => x (ix3 0 (y 1) q)) (fun q => d (ix3 0 (y 1) q)) (fun q => g (ix2 0 q)) (y 2) := by
  funext j
  canon_tiles u h
  all_goals exact dxln_piece g x d _ _ _ u j (by omega) h2

theorem canon_dx (g : Vec Ideal S1x1024 .f32) (x : Vec Ideal S1x384x1024 .bf16) (d : Vec Ideal S1x384x1024 .f32) (z : Vec Ideal S1x384x1024 .bf16) :
    View.canon (Val := Elt Ideal) (s := S1x384x1024) (e := .bf16)
      ([⟨Rect.unit ![0, 352, 0] ![1, 32, 1024] inb_S1x384x1024_S1x32x1024_0_352_0, Pay.dxc g (View.ld x (Rect.unit ![0, 352, 0] ![1, 32, 1024] inb_S1x384x1024_S1x32x1024_0_352_0)) (View.ld d (Rect.unit ![0, 352, 0] ![1, 32, 1024] inb_S1x384x1024_S1x32x1024_0_352_0)) (View.ld z (Rect.unit ![0, 352, 0] ![1, 32, 1024] inb_S1x384x1024_S1x32x1024_0_352_0))⟩,
        ⟨Rect.unit ![0, 320, 0] ![1, 32, 1024] inb_S1x384x1024_S1x32x1024_0_320_0, Pay.dxc g (View.ld x (Rect.unit ![0, 320, 0] ![1, 32, 1024] inb_S1x384x1024_S1x32x1024_0_320_0)) (View.ld d (Rect.unit ![0, 320, 0] ![1, 32, 1024] inb_S1x384x1024_S1x32x1024_0_320_0)) (View.ld z (Rect.unit ![0, 320, 0] ![1, 32, 1024] inb_S1x384x1024_S1x32x1024_0_320_0))⟩,
        ⟨Rect.unit ![0, 288, 0] ![1, 32, 1024] inb_S1x384x1024_S1x32x1024_0_288_0, Pay.dxc g (View.ld x (Rect.unit ![0, 288, 0] ![1, 32, 1024] inb_S1x384x1024_S1x32x1024_0_288_0)) (View.ld d (Rect.unit ![0, 288, 0] ![1, 32, 1024] inb_S1x384x1024_S1x32x1024_0_288_0)) (View.ld z (Rect.unit ![0, 288, 0] ![1, 32, 1024] inb_S1x384x1024_S1x32x1024_0_288_0))⟩,
        ⟨Rect.unit ![0, 256, 0] ![1, 32, 1024] inb_S1x384x1024_S1x32x1024_0_256_0, Pay.dxc g (View.ld x (Rect.unit ![0, 256, 0] ![1, 32, 1024] inb_S1x384x1024_S1x32x1024_0_256_0)) (View.ld d (Rect.unit ![0, 256, 0] ![1, 32, 1024] inb_S1x384x1024_S1x32x1024_0_256_0)) (View.ld z (Rect.unit ![0, 256, 0] ![1, 32, 1024] inb_S1x384x1024_S1x32x1024_0_256_0))⟩,
        ⟨Rect.unit ![0, 224, 0] ![1, 32, 1024] inb_S1x384x1024_S1x32x1024_0_224_0, Pay.dxc g (View.ld x (Rect.unit ![0, 224, 0] ![1, 32, 1024] inb_S1x384x1024_S1x32x1024_0_224_0)) (View.ld d (Rect.unit ![0, 224, 0] ![1, 32, 1024] inb_S1x384x1024_S1x32x1024_0_224_0)) (View.ld z (Rect.unit ![0, 224, 0] ![1, 32, 1024] inb_S1x384x1024_S1x32x1024_0_224_0))⟩,
        ⟨Rect.unit ![0, 192, 0] ![1, 32, 1024] inb_S1x384x1024_S1x32x1024_0_192_0, Pay.dxc g (View.ld x (Rect.unit ![0, 192, 0] ![1, 32, 1024] inb_S1x384x1024_S1x32x1024_0_192_0)) (View.ld d (Rect.unit ![0, 192, 0] ![1, 32, 1024] inb_S1x384x1024_S1x32x1024_0_192_0)) (View.ld z (Rect.unit ![0, 192, 0] ![1, 32, 1024] inb_S1x384x1024_S1x32x1024_0_192_0))⟩,
        ⟨Rect.unit ![0, 160, 0] ![1, 32, 1024] inb_S1x384x1024_S1x32x1024_0_160_0, Pay.dxc g (View.ld x (Rect.unit ![0, 160, 0] ![1, 32, 1024] inb_S1x384x1024_S1x32x1024_0_160_0)) (View.ld d (Rect.unit ![0, 160, 0] ![1, 32, 1024] inb_S1x384x1024_S1x32x1024_0_160_0)) (View.ld z (Rect.unit ![0, 160, 0] ![1, 32, 1024] inb_S1x384x1024_S1x32x1024_0_160_0))⟩,
        ⟨Rect.unit ![0, 128, 0] ![1, 32, 1024] inb_S1x384x1024_S1x32x1024_0_128_0, Pay.dxc g (View.ld x (Rect.unit ![0, 128, 0] ![1, 32, 1024] inb_S1x384x1024_S1x32x1024_0_128_0)) (View.ld d (Rect.unit ![0, 128, 0] ![1, 32, 1024] inb_S1x384x1024_S1x32x1024_0_128_0)) (View.ld z (Rect.unit ![0, 128, 0] ![1, 32, 1024] inb_S1x384x1024_S1x32x1024_0_128_0))⟩,
        ⟨Rect.unit ![0, 96, 0] ![1, 32, 1024] inb_S1x384x1024_S1x32x1024_0_96_0, Pay.dxc g (View.ld x (Rect.unit ![0, 96, 0] ![1, 32, 1024] inb_S1x384x1024_S1x32x1024_0_96_0)) (View.ld d (Rect.unit ![0, 96, 0] ![1, 32, 1024] inb_S1x384x1024_S1x32x1024_0_96_0)) (View.ld z (Rect.unit ![0, 96, 0] ![1, 32, 1024] inb_S1x384x1024_S1x32x1024_0_96_0))⟩,
        ⟨Rect.unit ![0, 64, 0] ![1, 32, 1024] inb_S1x384x1024_S1x32x1024_0_64_0, Pay.dxc g (View.ld x (Rect.unit ![0, 64, 0] ![1, 32, 1024] inb_S1x384x1024_S1x32x1024_0_64_0)) (View.ld d (Rect.unit ![0, 64, 0] ![1, 32, 1024] inb_S1x384x1024_S1x32x1024_0_64_0)) (View.ld z (Rect.unit ![0, 64, 0] ![1, 32, 1024] inb_S1x384x1024_S1x32x1024_0_64_0))⟩,
        ⟨Rect.unit ![0, 32, 0] ![1, 32, 1024] inb_S1x384x1024_S1x32x1024_0_32_0, Pay.dxc g (View.ld x (Rect.unit ![0, 32, 0] ![1, 32, 1024] inb_S1x384x1024_S1x32x1024_0_32_0)) (View.ld d (Rect.unit ![0, 32, 0] ![1, 32, 1024] inb_S1x384x1024_S1x32x1024_0_32_0)) (View.ld z (Rect.unit ![0, 32, 0] ![1, 32, 1024] inb_S1x384x1024_S1x32x1024_0_32_0))⟩,
        ⟨Rect.unit ![0, 0, 0] ![1, 32, 1024] inb_S1x384x1024_S1x32x1024_0_0_0, Pay.dxc g (View.ld x (Rect.unit ![0, 0, 0] ![1, 32, 1024] inb_S1x384x1024_S1x32x1024_0_0_0)) (View.ld d (Rect.unit ![0, 0, 0] ![1, 32, 1024] inb_S1x384x1024_S1x32x1024_0_0_0)) (View.ld z (Rect.unit ![0, 0, 0] ![1, 32, 1024] inb_S1x384x1024_S1x32x1024_0_0_0))⟩])
      = fun y => lngrad (fun q => x (ix3 0 (y 1) q)) (fun q => d (ix3 0 (y 1) q)) (fun q => g (ix2 0 q)) (y 2) + z (ix3 0 (y 1) (y 2)) := by
  funext j
  canon_tiles u h
  all_goals exact dx_piece g x d z _ _ _ _ u j (by omega) h2

theorem canon_dw2 (p : Vec Ideal S1024x1024 .f32) (v : Vec Ideal S1x384x1024 .fp8e4m3) (g : Vec Ideal S1x384x1024 .fp8e5m2) :
    View.canon (Val := Elt Ideal) (s := S1024x1024) (e := .f32)
      ([⟨Rect.unit ![0, 768] ![1024, 256] inb_S1024x1024_S1024x256_0_768, Pay.dwc (View.ld p (Rect.unit ![0, 768] ![1024, 256] inb_S1024x1024_S1024x256_0_768)) v (View.ld g (Rect.unit ![0, 0, 768] ![1, 384, 256] inb_S1x384x1024_S1x384x256_0_0_768))⟩,
        ⟨Rect.unit ![0, 512] ![1024, 256] inb_S1024x1024_S1024x256_0_512, Pay.dwc (View.ld p (Rect.unit ![0, 512] ![1024, 256] inb_S1024x1024_S1024x256_0_512)) v (View.ld g (Rect.unit ![0, 0, 512] ![1, 384, 256] inb_S1x384x1024_S1x384x256_0_0_512))⟩,
        ⟨Rect.unit ![0, 256] ![1024, 256] inb_S1024x1024_S1024x256_0_256, Pay.dwc (View.ld p (Rect.unit ![0, 256] ![1024, 256] inb_S1024x1024_S1024x256_0_256)) v (View.ld g (Rect.unit ![0, 0, 256] ![1, 384, 256] inb_S1x384x1024_S1x384x256_0_0_256))⟩,
        ⟨Rect.unit ![0, 0] ![1024, 256] inb_S1024x1024_S1024x256_0_0, Pay.dwc (View.ld p (Rect.unit ![0, 0] ![1024, 256] inb_S1024x1024_S1024x256_0_0)) v (View.ld g (Rect.unit ![0, 0, 0] ![1, 384, 256] inb_S1x384x1024_S1x384x256_0_0_0))⟩])
      = fun y => p (ix2 (y 0) (y 1)) + ∑ r : Fin 384, v (ix3 0 r (y 0)) * g (ix3 0 r (y 1)) := by
  funext j
  canon_tiles u h
  all_goals exact dw2_piece p v g _ _ _ u j h0 (by omega)

theorem canon_dw2' (p : Vec Ideal S1024x1024 .f32) (v : Vec Ideal S1x384x1024 .fp8e4m3) (g : Vec Ideal S1x384x1024 .fp8e5m2) (q : Vec Ideal S1024x1024 .f32) :
    View.canon (Val := Elt Ideal) (s := S1024x1024) (e := .f32)
      [⟨Rect.unit ![0, 768] ![1024, 256] inb_S1024x1024_S1024x256_0_768, Pay.dwc (View.ld p (Rect.unit ![0, 768] ![1024, 256] inb_S1024x1024_S1024x256_0_768)) v (View.ld g (Rect.unit ![0, 0, 768] ![1, 384, 256] inb_S1x384x1024_S1x384x256_0_0_768))⟩,
        ⟨Rect.unit ![0, 512] ![1024, 256] inb_S1024x1024_S1024x256_0_512, Pay.dwc (View.ld p (Rect.unit ![0, 512] ![1024, 256] inb_S1024x1024_S1024x256_0_512)) v (View.ld g (Rect.unit ![0, 0, 512] ![1, 384, 256] inb_S1x384x1024_S1x384x256_0_0_512))⟩,
        ⟨Rect.unit ![0, 256] ![1024, 256] inb_S1024x1024_S1024x256_0_256, Pay.dwc (View.ld p (Rect.unit ![0, 256] ![1024, 256] inb_S1024x1024_S1024x256_0_256)) v (View.ld g (Rect.unit ![0, 0, 256] ![1, 384, 256] inb_S1x384x1024_S1x384x256_0_0_256))⟩,
        ⟨Rect.unit ![0, 0] ![1024, 256] inb_S1024x1024_S1024x256_0_0, Pay.dwc (View.ld p (Rect.unit ![0, 0] ![1024, 256] inb_S1024x1024_S1024x256_0_0)) v (View.ld g (Rect.unit ![0, 0, 0] ![1, 384, 256] inb_S1x384x1024_S1x384x256_0_0_0))⟩,
        ⟨Rect.unit ![0, 0] ![1024, 1024] inb_S1024x1024_S1024x1024_0_0, q⟩]
      = fun y => p (ix2 (y 0) (y 1)) + ∑ r : Fin 384, v (ix3 0 r (y 0)) * g (ix3 0 r (y 1)) := by
  funext j
  refine View.canon_append_of_piecesOf (Val := Elt Ideal) (s := S1024x1024) (e := .f32) (fun y => p (ix2 (y 0) (y 1)) + ∑ r : Fin 384, v (ix3 0 r (y 0)) * g (ix3 0 r (y 1))) [⟨Rect.unit ![0, 0] ![1024, 1024] inb_S1024x1024_S1024x1024_0_0, q⟩]
    [⟨Rect.unit ![0, 768] ![1024, 256] inb_S1024x1024_S1024x256_0_768, Pay.dwc (View.ld p (Rect.unit ![0, 768] ![1024, 256] inb_S1024x1024_S1024x256_0_768)) v (View.ld g (Rect.unit ![0, 0, 768] ![1, 384, 256] inb_S1x384x1024_S1x384x256_0_0_768))⟩,
        ⟨Rect.unit ![0, 512] ![1024, 256] inb_S1024x1024_S1024x256_0_512, Pay.dwc (View.ld p (Rect.unit ![0, 512] ![1024, 256] inb_S1024x1024_S1024x256_0_512)) v (View.ld g (Rect.unit ![0, 0, 512] ![1, 384, 256] inb_S1x384x1024_S1x384x256_0_0_512))⟩,
        ⟨Rect.unit ![0, 256] ![1024, 256] inb_S1024x1024_S1024x256_0_256, Pay.dwc (View.ld p (Rect.unit ![0, 256] ![1024, 256] inb_S1024x1024_S1024x256_0_256)) v (View.ld g (Rect.unit ![0, 0, 256] ![1, 384, 256] inb_S1x384x1024_S1x384x256_0_0_256))⟩,
        ⟨Rect.unit ![0, 0] ![1024, 256] inb_S1024x1024_S1024x256_0_0, Pay.dwc (View.ld p (Rect.unit ![0, 0] ![1024, 256] inb_S1024x1024_S1024x256_0_0)) v (View.ld g (Rect.unit ![0, 0, 0] ![1, 384, 256] inb_S1x384x1024_S1x384x256_0_0_0))⟩]
    ⟨?_, ?_, ?_, ?_, trivial⟩ j (View.cover_of_tiledL _ ![1024, 256] (by sl_kernel_rfl) j)
  all_goals
    intro u
    refine dw2_piece p v g _ _ _ u _ ?_ ?_
    · exact (by omega : 0 + 1 * (u 0).val = (u 0).val)
    · exact congrArg _ (Nat.one_mul _)

theorem canon_dw1 (p : Vec Ideal S1024x2048 .f32) (v : Vec Ideal S1x384x1024 .fp8e4m3) (g : Vec Ideal S1x384x2048 .fp8e5m2) :
    View.canon (Val := Elt Ideal) (s := S1024x2048) (e := .f32)
      ([⟨Rect.unit ![0, 1792] ![1024, 256] inb_S1024x2048_S1024x256_0_1792, Pay.dwc (View.ld p (Rect.unit ![0, 1792] ![1024, 256] inb_S1024x2048_S1024x256_0_1792)) v (View.ld g (Rect.unit ![0, 0, 1792] ![1, 384, 256] inb_S1x384x2048_S1x384x256_0_0_1792))⟩,
        ⟨Rect.unit ![0, 1536] ![1024, 256] inb_S1024x2048_S1024x256_0_1536, Pay.dwc (View.ld p (Rect.unit ![0, 1536] ![1024, 256] inb_S1024x2048_S1024x256_0_1536)) v (View.ld g (Rect.unit ![0, 0, 1536] ![1, 384, 256] inb_S1x384x2048_S1x384x256_0_0_1536))⟩,
        ⟨Rect.unit ![0, 1280] ![1024, 256] inb_S1024x2048_S1024x256_0_1280, Pay.dwc (View.ld p (Rect.unit ![0, 1280] ![1024, 256] inb_S1024x2048_S1024x256_0_1280)) v (View.ld g (Rect.unit ![0, 0, 1280] ![1, 384, 256] inb_S1x384x2048_S1x384x256_0_0_1280))⟩,
        ⟨Rect.unit ![0, 1024] ![1024, 256] inb_S1024x2048_S1024x256_0_1024, Pay.dwc (View.ld p (Rect.unit ![0, 1024] ![1024, 256] inb_S1024x2048_S1024x256_0_1024)) v (View.ld g (Rect.unit ![0, 0, 1024] ![1, 384, 256] inb_S1x384x2048_S1x384x256_0_0_1024))⟩,
        ⟨Rect.unit ![0, 768] ![1024, 256] inb_S1024x2048_S1024x256_0_768, Pay.dwc (View.ld p (Rect.unit ![0, 768] ![1024, 256] inb_S1024x2048_S1024x256_0_768)) v (View.ld g (Rect.unit ![0, 0, 768] ![1, 384, 256] inb_S1x384x2048_S1x384x256_0_0_768))⟩,
        ⟨Rect.unit ![0, 512] ![1024, 256] inb_S1024x2048_S1024x256_0_512, Pay.dwc (View.ld p (Rect.unit ![0, 512] ![1024, 256] inb_S1024x2048_S1024x256_0_512)) v (View.ld g (Rect.unit ![0, 0, 512] ![1, 384, 256] inb_S1x384x2048_S1x384x256_0_0_512))⟩,
        ⟨Rect.unit ![0, 256] ![1024, 256] inb_S1024x2048_S1024x256_0_256, Pay.dwc (View.ld p (Rect.unit ![0, 256] ![1024, 256] inb_S1024x2048_S1024x256_0_256)) v (View.ld g (Rect.unit ![0, 0, 256] ![1, 384, 256] inb_S1x384x2048_S1x384x256_0_0_256))⟩,
        ⟨Rect.unit ![0, 0] ![1024, 256] inb_S1024x2048_S1024x256_0_0, Pay.dwc (View.ld p (Rect.unit ![0, 0] ![1024, 256] inb_S1024x2048_S1024x256_0_0)) v (View.ld g (Rect.unit ![0, 0, 0] ![1, 384, 256] inb_S1x384x2048_S1x384x256_0_0_0))⟩])
      = fun y => p (ix2 (y 0) (y 1)) + ∑ r : Fin 384, v (ix3 0 r (y 0)) * g (ix3 0 r (y 1)) := by
  funext j
  canon_tiles u h
  all_goals exact dw1_piece p v g _ _ _ u j h0 (by omega)

theorem canon_dw1' (p : Vec Ideal S1024x2048 .f32) (v : Vec Ideal S1x384x1024 .fp8e4m3) (g : Vec Ideal S1x384x2048 .fp8e5m2) (q : Vec Ideal S1024x2048 .f32) :
    View.canon (Val := Elt Ideal) (s := S1024x2048) (e := .f32)
      [⟨Rect.unit ![0, 1792] ![1024, 256] inb_S1024x2048_S1024x256_0_1792, Pay.dwc (View.ld p (Rect.unit ![0, 1792] ![1024, 256] inb_S1024x2048_S1024x256_0_1792)) v (View.ld g (Rect.unit ![0, 0, 1792] ![1, 384, 256] inb_S1x384x2048_S1x384x256_0_0_1792))⟩,
        ⟨Rect.unit ![0, 1536] ![1024, 256] inb_S1024x2048_S1024x256_0_1536, Pay.dwc (View.ld p (Rect.unit ![0, 1536] ![1024, 256] inb_S1024x2048_S1024x256_0_1536)) v (View.ld g (Rect.unit ![0, 0, 1536] ![1, 384, 256] inb_S1x384x2048_S1x384x256_0_0_1536))⟩,
        ⟨Rect.unit ![0, 1280] ![1024, 256] inb_S1024x2048_S1024x256_0_1280, Pay.dwc (View.ld p (Rect.unit ![0, 1280] ![1024, 256] inb_S1024x2048_S1024x256_0_1280)) v (View.ld g (Rect.unit ![0, 0, 1280] ![1, 384, 256] inb_S1x384x2048_S1x384x256_0_0_1280))⟩,
        ⟨Rect.unit ![0, 1024] ![1024, 256] inb_S1024x2048_S1024x256_0_1024, Pay.dwc (View.ld p (Rect.unit ![0, 1024] ![1024, 256] inb_S1024x2048_S1024x256_0_1024)) v (View.ld g (Rect.unit ![0, 0, 1024] ![1, 384, 256] inb_S1x384x2048_S1x384x256_0_0_1024))⟩,
        ⟨Rect.unit ![0, 768] ![1024, 256] inb_S1024x2048_S1024x256_0_768, Pay.dwc (View.ld p (Rect.unit ![0, 768] ![1024, 256] inb_S1024x2048_S1024x256_0_768)) v (View.ld g (Rect.unit ![0, 0, 768] ![1, 384, 256] inb_S1x384x2048_S1x384x256_0_0_768))⟩,
        ⟨Rect.unit ![0, 512] ![1024, 256] inb_S1024x2048_S1024x256_0_512, Pay.dwc (View.ld p (Rect.unit ![0, 512] ![1024, 256] inb_S1024x2048_S1024x256_0_512)) v (View.ld g (Rect.unit ![0, 0, 512] ![1, 384, 256] inb_S1x384x2048_S1x384x256_0_0_512))⟩,
        ⟨Rect.unit ![0, 256] ![1024, 256] inb_S1024x2048_S1024x256_0_256, Pay.dwc (View.ld p (Rect.unit ![0, 256] ![1024, 256] inb_S1024x2048_S1024x256_0_256)) v (View.ld g (Rect.unit ![0, 0, 256] ![1, 384, 256] inb_S1x384x2048_S1x384x256_0_0_256))⟩,
        ⟨Rect.unit ![0, 0] ![1024, 256] inb_S1024x2048_S1024x256_0_0, Pay.dwc (View.ld p (Rect.unit ![0, 0] ![1024, 256] inb_S1024x2048_S1024x256_0_0)) v (View.ld g (Rect.unit ![0, 0, 0] ![1, 384, 256] inb_S1x384x2048_S1x384x256_0_0_0))⟩,
        ⟨Rect.unit ![0, 0] ![1024, 2048] inb_S1024x2048_S1024x2048_0_0, q⟩]
      = fun y => p (ix2 (y 0) (y 1)) + ∑ r : Fin 384, v (ix3 0 r (y 0)) * g (ix3 0 r (y 1)) := by
  funext j
  refine View.canon_append_of_piecesOf (Val := Elt Ideal) (s := S1024x2048) (e := .f32) (fun y => p (ix2 (y 0) (y 1)) + ∑ r : Fin 384, v (ix3 0 r (y 0)) * g (ix3 0 r (y 1))) [⟨Rect.unit ![0, 0] ![1024, 2048] inb_S1024x2048_S1024x2048_0_0, q⟩]
    [⟨Rect.unit ![0, 1792] ![1024, 256] inb_S1024x2048_S1024x256_0_1792, Pay.dwc (View.ld p (Rect.unit ![0, 1792] ![1024, 256] inb_S1024x2048_S1024x256_0_1792)) v (View.ld g (Rect.unit ![0, 0, 1792] ![1, 384, 256] inb_S1x384x2048_S1x384x256_0_0_1792))⟩,
        ⟨Rect.unit ![0, 1536] ![1024, 256] inb_S1024x2048_S1024x256_0_1536, Pay.dwc (View.ld p (Rect.unit ![0, 1536] ![1024, 256] inb_S1024x2048_S1024x256_0_1536)) v (View.ld g (Rect.unit ![0, 0, 1536] ![1, 384, 256] inb_S1x384x2048_S1x384x256_0_0_1536))⟩,
        ⟨Rect.unit ![0, 1280] ![1024, 256] inb_S1024x2048_S1024x256_0_1280, Pay.dwc (View.ld p (Rect.unit ![0, 1280] ![1024, 256] inb_S1024x2048_S1024x256_0_1280)) v (View.ld g (Rect.unit ![0, 0, 1280] ![1, 384, 256] inb_S1x384x2048_S1x384x256_0_0_1280))⟩,
        ⟨Rect.unit ![0, 1024] ![1024, 256] inb_S1024x2048_S1024x256_0_1024, Pay.dwc (View.ld p (Rect.unit ![0, 1024] ![1024, 256] inb_S1024x2048_S1024x256_0_1024)) v (View.ld g (Rect.unit ![0, 0, 1024] ![1, 384, 256] inb_S1x384x2048_S1x384x256_0_0_1024))⟩,
        ⟨Rect.unit ![0, 768] ![1024, 256] inb_S1024x2048_S1024x256_0_768, Pay.dwc (View.ld p (Rect.unit ![0, 768] ![1024, 256] inb_S1024x2048_S1024x256_0_768)) v (View.ld g (Rect.unit ![0, 0, 768] ![1, 384, 256] inb_S1x384x2048_S1x384x256_0_0_768))⟩,
        ⟨Rect.unit ![0, 512] ![1024, 256] inb_S1024x2048_S1024x256_0_512, Pay.dwc (View.ld p (Rect.unit ![0, 512] ![1024, 256] inb_S1024x2048_S1024x256_0_512)) v (View.ld g (Rect.unit ![0, 0, 512] ![1, 384, 256] inb_S1x384x2048_S1x384x256_0_0_512))⟩,
        ⟨Rect.unit ![0, 256] ![1024, 256] inb_S1024x2048_S1024x256_0_256, Pay.dwc (View.ld p (Rect.unit ![0, 256] ![1024, 256] inb_S1024x2048_S1024x256_0_256)) v (View.ld g (Rect.unit ![0, 0, 256] ![1, 384, 256] inb_S1x384x2048_S1x384x256_0_0_256))⟩,
        ⟨Rect.unit ![0, 0] ![1024, 256] inb_S1024x2048_S1024x256_0_0, Pay.dwc (View.ld p (Rect.unit ![0, 0] ![1024, 256] inb_S1024x2048_S1024x256_0_0)) v (View.ld g (Rect.unit ![0, 0, 0] ![1, 384, 256] inb_S1x384x2048_S1x384x256_0_0_0))⟩]
    ⟨?_, ?_, ?_, ?_, ?_, ?_, ?_, ?_, trivial⟩ j (View.cover_of_tiledL _ ![1024, 256] (by sl_kernel_rfl) j)
  all_goals
    intro u
    refine dw1_piece p v g _ _ _ u _ ?_ ?_
    · exact (by omega : 0 + 1 * (u 0).val = (u 0).val)
    · exact congrArg _ (Nat.one_mul _)

/-! The arguments, as plain functions of their coordinates. -/
abbrev aX (c : Dev nD) (i : Fin 16) (r : Fin 384) (k : Fin 1024) : EReal := m ((c : Thread nD τ).loc main_arg0) (ix3 i r k)
abbrev aDy (c : Dev nD) (i : Fin 16) (r : Fin 384) (k : Fin 1024) : EReal := m ((c : Thread nD τ).loc main_arg1) (ix3 i r k)
abbrev aLen (c : Dev nD) (i : Fin 16) : BitVec 32 := m ((c : Thread nD τ).loc main_arg2) (ix1 i)
abbrev aXc (c : Dev nD) (i : Fin 16) (r : Fin 384) (k : Fin 1024) : EReal := m ((c : Thread nD τ).loc main_arg3) (ix3 i r k)
abbrev aVc (c : Dev nD) (i : Fin 16) (r : Fin 384) (k : Fin 1024) : EReal := m ((c : Thread nD τ).loc main_arg4) (ix3 i r k)
abbrev aGc (c : Dev nD) (i : Fin 16) (r : Fin 384) (k : Fin 1024) : EReal := m ((c : Thread nD τ).loc main_arg5) (ix3 i r k)
abbrev aDh (c : Dev nD) (i : Fin 16) (r : Fin 384) (k : Fin 2048) : EReal := m ((c : Thread nD τ).loc main_arg6) (ix3 i r k)
abbrev aG (c : Dev nD) (k : Fin 1024) : EReal := m ((c : Thread nD τ).loc main_arg7) (ix1 k)
abbrev aW1 (c : Dev nD) (k : Fin 1024) (n : Fin 2048) : EReal := m ((c : Thread nD τ).loc main_arg8) (ix2 k n)
abbrev aS1 (c : Dev nD) : EReal := m ((c : Thread nD τ).loc main_arg9) ix0
abbrev aW2 (c : Dev nD) (k n : Fin 1024) : EReal := m ((c : Thread nD τ).loc main_arg10) (ix2 k n)
abbrev aS2 (c : Dev nD) : EReal := m ((c : Thread nD τ).loc main_arg11) ix0
abbrev aB2 (c : Dev nD) (n : Fin 1024) : EReal := m ((c : Thread nD τ).loc main_arg12) (ix1 n)
abbrev aSx (c : Dev nD) : EReal := m ((c : Thread nD τ).loc main_arg13) ix0
abbrev aSv (c : Dev nD) : EReal := m ((c : Thread nD τ).loc main_arg14) ix0
abbrev aSg (c : Dev nD) : EReal := m ((c : Thread nD τ).loc main_arg15) ix0
abbrev aSd (c : Dev nD) : EReal := m ((c : Thread nD τ).loc main_arg16) ix0

theorem idx : ∀ t : Fin cfg0.N, win0_0.index t = ![0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0, 0]
    ∧ win0_8.index t = ![t.val, 0, 0]
    ∧ win0_9.index t = ![t.val, 0, 0]
    ∧ win0_10.index t = ![t.val, 0, 0]
    ∧ win0_11.index t = ![t.val, 0, 0]
    ∧ win0_12.index t = ![t.val, 0, 0]
    ∧ win0_13.index t = ![0, 0]
    ∧ win0_14.index t = ![0, 0]
    ∧ win0_15.index t = ![0, 0]
    ∧ win0_16.index t = ![0, 0]
    ∧ win0_17.index t = ![t.val, 0, 0]
    ∧ win0_18.index t = ![t.val, 0, 0]
    ∧ win0_19.index t = ![t.val, 0, 0]
    ∧ win0_20.index t = ![t.val, 0, 0]
    ∧ win0_21.index t = ![t.val, 0, 0] :=
  (by decide +kernel : ∀ t : Fin grid0.N, _)

/-- The sequence a grid point works on. -/
abbrev sq (t : Fin cfg0.N) : Fin 16 := ⟨t.val, lt_of_lt_of_eq t.isLt (show cfg0.N = 16 from N_0)⟩

/-! The blocks, read at coordinates. -/

theorem i0 (c : Dev nD) (t : Fin cfg0.N) (i : Fin 16) : (iblk m c 0 t (ix1 i) : BitVec 32) = aLen m c i := by
  blk_ext [iblk, V, idx t]

theorem i1 (c : Dev nD) (t : Fin cfg0.N) : (iblk m c 1 t (ix2 0 0) : EReal) = aSx m c := by
  blk_simp [iblk]
  entry_read
  pointwise
  blk_ext [idx t]

theorem i2 (c : Dev nD) (t : Fin cfg0.N) : (iblk m c 2 t (ix2 0 0) : EReal) = aSv m c := by
  blk_simp [iblk]
  entry_read
  pointwise
  blk_ext [idx t]

theorem i3 (c : Dev nD) (t : Fin cfg0.N) : (iblk m c 3 t (ix2 0 0) : EReal) = aSg m c := by
  blk_simp [iblk]
  entry_read
  pointwise
  blk_ext [idx t]

theorem i4 (c : Dev nD) (t : Fin cfg0.N) : (iblk m c 4 t (ix2 0 0) : EReal) = aSd m c := by
  blk_simp [iblk]
  entry_read
  pointwise
  blk_ext [idx t]

theorem i5 (c : Dev nD) (t : Fin cfg0.N) : (iblk m c 5 t (ix2 0 0) : EReal) = aS1 m c := by
  blk_simp [iblk]
  entry_read
  pointwise
  blk_ext [idx t]

theorem i6 (c : Dev nD) (t : Fin cfg0.N) : (iblk m c 6 t (ix2 0 0) : EReal) = aS2 m c := by
  blk_simp [iblk]
  entry_read
  pointwise
  blk_ext [idx t]

theorem i7 (c : Dev nD) (t : Fin cfg0.N) (r : Fin 384) (k : Fin 1024) : (iblk m c 7 t (ix3 0 r k) : EReal) = aX m c (sq t) r k := by
  blk_ext [iblk, V, idx t]

theorem i8 (c : Dev nD) (t : Fin cfg0.N) (r : Fin 384) (k : Fin 1024) : (iblk m c 8 t (ix3 0 r k) : EReal) = aDy m c (sq t) r k := by
  blk_ext [iblk, V, idx t]

theorem i9 (c : Dev nD) (t : Fin cfg0.N) (r : Fin 384) (k : Fin 1024) : (iblk m c 9 t (ix3 0 r k) : EReal) = aXc m c (sq t) r k := by
  blk_ext [iblk, V, idx t]

theorem i10 (c : Dev nD) (t : Fin cfg0.N) (r : Fin 384) (k : Fin 1024) : (iblk m c 10 t (ix3 0 r k) : EReal) = aVc m c (sq t) r k := by
  blk_ext [iblk, V, idx t]

theorem i11 (c : Dev nD) (t : Fin cfg0.N) (r : Fin 384) (k : Fin 1024) : (iblk m c 11 t (ix3 0 r k) : EReal) = aGc m c (sq t) r k := by
  blk_ext [iblk, V, idx t]

theorem i12 (c : Dev nD) (t : Fin cfg0.N) (r : Fin 384) (k : Fin 2048) : (iblk m c 12 t (ix3 0 r k) : EReal) = aDh m c (sq t) r k := by
  blk_ext [iblk, V, idx t]

theorem i13 (c : Dev nD) (t : Fin cfg0.N) (k : Fin 1024) (n : Fin 2048) : (iblk m c 13 t (ix2 k n) : EReal) = aW1 m c k n := by
  blk_ext [iblk, V, idx t]

theorem i14 (c : Dev nD) (t : Fin cfg0.N) (k n : Fin 1024) : (iblk m c 14 t (ix2 k n) : EReal) = aW2 m c k n := by
  blk_ext [iblk, V, idx t]

theorem i15 (c : Dev nD) (t : Fin cfg0.N) (n : Fin 1024) : (iblk m c 15 t (ix2 0 n) : EReal) = aB2 m c n := by
  blk_simp [iblk]
  entry_read
  pointwise
  blk_ext [idx t]

theorem i16 (c : Dev nD) (t : Fin cfg0.N) (n : Fin 1024) : (iblk m c 16 t (ix2 0 n) : EReal) = aG m c n := by
  blk_simp [iblk]
  entry_read
  pointwise
  blk_ext [idx t]

theorem off1 : ∀ t : Fin cfg0.N, k0_off1 (grid0.coords t) = ![t.val] :=
  (by decide +kernel : ∀ t : Fin grid0.N, _)

theorem ldlen (c : Dev nD) (t : Fin cfg0.N) (inb) (j) :
    View.ld (iblk m c 0 t) (Rect.unit (k0_off1 (grid0.coords t)) ![1] inb) j = aLen m c (sq t) := by
  rw [← i0 m c t (sq t)]
  refine congrArg (f := iblk m c 0 t) (funext fun a => Fin.ext ?_)
  match a with
  | ⟨0, _⟩ =>
    have h : k0_off1 (grid0.coords t) 0 = t.val := by rw [off1]; rfl
    have hj : (j 0).val = 0 := Nat.lt_one_iff.mp (j 0).isLt
    exact (by rw [h, hj]; omega : k0_off1 (grid0.coords t) 0 + 1 * (j 0).val = t.val)

end Cert.RowsOutIdeal.Val

end
-- ==== Proof.OutVal.lean ====
module

public import proofs.«01_k».proof.Proof.OutBlk

/-! What one grid point of the kernel's "rows_out" call leaves in each output block and in its two running sums, case by case. -/

@[expose] public section

set_option maxRecDepth 16384

noncomputable section

open Idealize.ShloMosaic Idealize.ShloMosaic.TcCoe Idealize.SL.Sem
open Cert.Spec

namespace Cert.RowsOutIdeal.Val
open Cert.RowsOutIdeal Cert.RowsOutIdeal.Gen
variable (m : (ℓ : Loc nD τ sig) → Buf (Elt Ideal) ℓ)

/-! ## The running sums over the twelve chunks -/

theorem sgc_ld (x : Vec Ideal S1x384x1024 .bf16) (d : Vec Ideal S1x384x1024 .f32) (o : ℕ) (inb inb') (ho : o + 32 ≤ 384) (a : Vec Ideal S8x1024 .f32)
    (s : Fin 8) (k : Fin 1024) :
    Pay.sgc (View.ld (S := S1x384x1024) x (Rect.unit ![0, o, 0] ![1, 32, 1024] inb)) (View.ld (S := S1x384x1024) d (Rect.unit ![0, o, 0] ![1, 32, 1024] inb')) a (ix2 s k)
      = a (ix2 s k) + ∑ i : Fin 4, d (ix3 0 ⟨o + (i.val * 8 + s.val), by omega⟩ k) * rhat (fun q => x (ix3 0 ⟨o + (i.val * 8 + s.val), by omega⟩ q)) k := by
  rw [Pay.sgc_at]
  simp only [fun (i : Fin 32) q => ldrow x o inb i q ⟨o + i.val, by omega⟩ rfl, fun (i : Fin 32) q => ldrow d o inb' i q ⟨o + i.val, by omega⟩ rfl]

theorem sbc_ld (d : Vec Ideal S1x384x1024 .f32) (o : ℕ) (inb) (ho : o + 32 ≤ 384) (a : Vec Ideal S8x1024 .f32) (s : Fin 8) (k : Fin 1024) :
    Pay.sbc (View.ld (S := S1x384x1024) d (Rect.unit ![0, o, 0] ![1, 32, 1024] inb)) a (ix2 s k)
      = a (ix2 s k) + ∑ i : Fin 4, d (ix3 0 ⟨o + (i.val * 8 + s.val), by omega⟩ k) := by
  rw [Pay.sbc_at]
  simp only [fun (i : Fin 32) q => ldrow d o inb i q ⟨o + i.val, by omega⟩ rfl]

theorem sg_chain (x : Vec Ideal S1x384x1024 .bf16) (d : Vec Ideal S1x384x1024 .f32) (v : Vec Ideal S8x1024 .f32) (s : Fin 8) (k : Fin 1024) :
    Pay.sgc (View.ld x (Rect.unit ![0, 352, 0] ![1, 32, 1024] inb_S1x384x1024_S1x32x1024_0_352_0)) (View.ld d (Rect.unit ![0, 352, 0] ![1, 32, 1024] inb_S1x384x1024_S1x32x1024_0_352_0))
      (Pay.sgc (View.ld x (Rect.unit ![0, 320, 0] ![1, 32, 1024] inb_S1x384x1024_S1x32x1024_0_320_0)) (View.ld d (Rect.unit ![0, 320, 0] ![1, 32, 1024] inb_S1x384x1024_S1x32x1024_0_320_0))
      (Pay.sgc (View.ld x (Rect.unit ![0, 288, 0] ![1, 32, 1024] inb_S1x384x1024_S1x32x1024_0_288_0)) (View.ld d (Rect.unit ![0, 288, 0] ![1, 32, 1024] inb_S1x384x1024_S1x32x1024_0_288_0))
      (Pay.sgc (View.ld x (Rect.unit ![0, 256, 0] ![1, 32, 1024] inb_S1x384x1024_S1x32x1024_0_256_0)) (View.ld d (Rect.unit ![0, 256, 0] ![1, 32, 1024] inb_S1x384x1024_S1x32x1024_0_256_0))
      (Pay.sgc (View.ld x (Rect.unit ![0, 224, 0] ![1, 32, 1024] inb_S1x384x1024_S1x32x1024_0_224_0)) (View.ld d (Rect.unit ![0, 224, 0] ![1, 32, 1024] inb_S1x384x1024_S1x32x1024_0_224_0))
      (Pay.sgc (View.ld x (Rect.unit ![0, 192, 0] ![1, 32, 1024] inb_S1x384x1024_S1x32x1024_0_192_0)) (View.ld d (Rect.unit ![0, 192, 0] ![1, 32, 1024] inb_S1x384x1024_S1x32x1024_0_192_0))
      (Pay.sgc (View.ld x (Rect.unit ![0, 160, 0] ![1, 32, 1024] inb_S1x384x1024_S1x32x1024_0_160_0)) (View.ld d (Rect.unit ![0, 160, 0] ![1, 32, 1024] inb_S1x384x1024_S1x32x1024_0_160_0))
      (Pay.sgc (View.ld x (Rect.unit ![0, 128, 0] ![1, 32, 1024] inb_S1x384x1024_S1x32x1024_0_128_0)) (View.ld d (Rect.unit ![0, 128, 0] ![1, 32, 1024] inb_S1x384x1024_S1x32x1024_0_128_0))
      (Pay.sgc (View.ld x (Rect.unit ![0, 96, 0] ![1, 32, 1024] inb_S1x384x1024_S1x32x1024_0_96_0)) (View.ld d (Rect.unit ![0, 96, 0] ![1, 32, 1024] inb_S1x384x1024_S1x32x1024_0_96_0))
      (Pay.sgc (View.ld x (Rect.unit ![0, 64, 0] ![1, 32, 1024] inb_S1x384x1024_S1x32x1024_0_64_0)) (View.ld d (Rect.unit ![0, 64, 0] ![1, 32, 1024] inb_S1x384x1024_S1x32x1024_0_64_0))
      (Pay.sgc (View.ld x (Rect.unit ![0, 32, 0] ![1, 32, 1024] inb_S1x384x1024_S1x32x1024_0_32_0)) (View.ld d (Rect.unit ![0, 32, 0] ![1, 32, 1024] inb_S1x384x1024_S1x32x1024_0_32_0))
      (Pay.sgc (View.ld x (Rect.unit ![0, 0, 0] ![1, 32, 1024] inb_S1x384x1024_S1x32x1024_0_0_0)) (View.ld d (Rect.unit ![0, 0, 0] ![1, 32, 1024] inb_S1x384x1024_S1x32x1024_0_0_0))
      (v)))))))))))) (ix2 s k)
      = v (ix2 s k) + rowsum (fun r => d (ix3 0 r k) * rhat (fun q => x (ix3 0 r q)) k) s := by
  rw [sgc_ld x d 352 _ _ (by omega), sgc_ld x d 320 _ _ (by omega), sgc_ld x d 288 _ _ (by omega), sgc_ld x d 256 _ _ (by omega), sgc_ld x d 224 _ _ (by omega), sgc_ld x d 192 _ _ (by omega), sgc_ld x d 160 _ _ (by omega), sgc_ld x d 128 _ _ (by omega), sgc_ld x d 96 _ _ (by omega), sgc_ld x d 64 _ _ (by omega), sgc_ld x d 32 _ _ (by omega), sgc_ld x d 0 _ _ (by omega)]
  exact rowsum_eq (fun r => d (ix3 0 r k) * rhat (fun q => x (ix3 0 r q)) k) s _

theorem sb_chain (d : Vec Ideal S1x384x1024 .f32) (v : Vec Ideal S8x1024 .f32) (s : Fin 8) (k : Fin 1024) :
    Pay.sbc (View.ld d (Rect.unit ![0, 352, 0] ![1, 32, 1024] inb_S1x384x1024_S1x32x1024_0_352_0))
      (Pay.sbc (View.ld d (Rect.unit ![0, 320, 0] ![1, 32, 1024] inb_S1x384x1024_S1x32x1024_0_320_0))
      (Pay.sbc (View.ld d (Rect.unit ![0, 288, 0] ![1, 32, 1024] inb_S1x384x1024_S1x32x1024_0_288_0))
      (Pay.sbc (View.ld d (Rect.unit ![0, 256, 0] ![1, 32, 1024] inb_S1x384x1024_S1x32x1024_0_256_0))
      (Pay.sbc (View.ld d (Rect.unit ![0, 224, 0] ![1, 32, 1024] inb_S1x384x1024_S1x32x1024_0_224_0))
      (Pay.sbc (View.ld d (Rect.unit ![0, 192, 0] ![1, 32, 1024] inb_S1x384x1024_S1x32x1024_0_192_0))
      (Pay.sbc (View.ld d (Rect.unit ![0, 160, 0] ![1, 32, 1024] inb_S1x384x1024_S1x32x1024_0_160_0))
      (Pay.sbc (View.ld d (Rect.unit ![0, 128, 0] ![1, 32, 1024] inb_S1x384x1024_S1x32x1024_0_128_0))
      (Pay.sbc (View.ld d (Rect.unit ![0, 96, 0] ![1, 32, 1024] inb_S1x384x1024_S1x32x1024_0_96_0))
      (Pay.sbc (View.ld d (Rect.unit ![0, 64, 0] ![1, 32, 1024] inb_S1x384x1024_S1x32x1024_0_64_0))
      (Pay.sbc (View.ld d (Rect.unit ![0, 32, 0] ![1, 32, 1024] inb_S1x384x1024_S1x32x1024_0_32_0))
      (Pay.sbc (View.ld d (Rect.unit ![0, 0, 0] ![1, 32, 1024] inb_S1x384x1024_S1x32x1024_0_0_0))
      (v)))))))))))) (ix2 s k)
      = v (ix2 s k) + rowsum (fun r => d (ix3 0 r k)) s := by
  rw [sbc_ld d 352 _ (by omega), sbc_ld d 320 _ (by omega), sbc_ld d 288 _ (by omega), sbc_ld d 256 _ (by omega), sbc_ld d 224 _ (by omega), sbc_ld d 192 _ (by omega), sbc_ld d 160 _ (by omega), sbc_ld d 128 _ (by omega), sbc_ld d 96 _ (by omega), sbc_ld d 64 _ (by omega), sbc_ld d 32 _ (by omega), sbc_ld d 0 _ (by omega)]
  exact rowsum_eq (fun r => d (ix3 0 r k)) s _

/-- The cotangent of the normalised rows, from the arguments. -/
abbrev DX (c : Dev nD) (i : Fin 16) (r : Fin 384) (k : Fin 1024) : EReal := dxnval (aDh m c) (aW1 m c) (aSd m c) (aS1 m c) i r k

theorem dxn_blk (c : Dev nD) (t : Fin cfg0.N) (r : Fin 384) (k : Fin 1024) :
    (DXN (iblk m c 4 t (ix2 0 0)) (iblk m c 5 t (ix2 0 0)) (iblk m c 12 t) (iblk m c 13 t) (ix3 0 r k) : EReal) = DX m c (sq t) r k := by
  change (∑ n : Fin 2048, @HMul.hMul EReal EReal EReal instHMul (iblk m c 12 t (ix3 0 r n)) (iblk m c 13 t (ix2 k n)))
    * (@HMul.hMul EReal EReal EReal instHMul (iblk m c 4 t (ix2 0 0)) (iblk m c 5 t (ix2 0 0))) = _
  unfold DX dxnval
  simp only [i4, i5, i12, i13]

/-! ## Case A -/

theorem w17A (c : Dev nD) (t : Fin cfg0.N) (h : t.val % 16 = 0) (h1 : ¬ t.val % 16 = 15) (r : Fin 384) (n : Fin 1024) :
    (outsAt0 m c t.val t.isLt).1 (ix3 0 r n)
      = yval (aX m c) (aLen m c) (aVc m c) (aW2 m c) (aSv m c) (aS2 m c) (aB2 m c) (sq t) r n := by
  rw [outsAt0_A m c t h h1]
  frame_out
  simp only [Pay.y0, Pay.y1, Pay.y2, Pay.y3, Pay.z0, Pay.z1, Pay.z2, Pay.z3, ldlen]
  rw [canon_y, ld11, ld11]
  change @HAdd.hAdd EReal EReal EReal instHAdd (iblk m c 7 t (ix3 0 r n)) (if ((r.val : ℕ) : ℤ) < BitVec.toInt (aLen m c (sq t)) then
    (∑ k : Fin 1024, @HMul.hMul EReal EReal EReal instHMul (iblk m c 10 t (ix3 0 r k)) (iblk m c 14 t (ix2 k n)))
      * (@HMul.hMul EReal EReal EReal instHMul (iblk m c 2 t (ix2 0 0)) (iblk m c 6 t (ix2 0 0))) + iblk m c 15 t (ix2 0 n) else 0) = _
  unfold yval zval
  simp only [i2, i6, i7, i10, i14, i15]

theorem w18A (c : Dev nD) (t : Fin cfg0.N) (h : t.val % 16 = 0) (h1 : ¬ t.val % 16 = 15) (r : Fin 384) (n : Fin 1024) :
    (outsAt0 m c t.val t.isLt).2.1 (ix3 0 r n)
      = zval (aVc m c) (aW2 m c) (aSv m c) (aS2 m c) (aB2 m c) (sq t) r n := by
  rw [outsAt0_A m c t h h1]
  frame_out
  simp only [Pay.z0, Pay.z1, Pay.z2, Pay.z3]
  rw [canon_z, ld11, ld11]
  change (∑ k : Fin 1024, @HMul.hMul EReal EReal EReal instHMul (iblk m c 10 t (ix3 0 r k)) (iblk m c 14 t (ix2 k n)))
      * (@HMul.hMul EReal EReal EReal instHMul (iblk m c 2 t (ix2 0 0)) (iblk m c 6 t (ix2 0 0))) + iblk m c 15 t (ix2 0 n) = _
  unfold zval
  simp only [i2, i6, i10, i14, i15]

theorem w19A (c : Dev nD) (t : Fin cfg0.N) (h : t.val % 16 = 0) (h1 : ¬ t.val % 16 = 15) (r : Fin 384) (k : Fin 1024) :
    (outsAt0 m c t.val t.isLt).2.2.1 (ix3 0 r k) = DX m c (sq t) r k := by
  rw [outsAt0_A m c t h h1]
  frame_out
  simp only [Pay.dxn0, Pay.dxn1, Pay.dxn2, Pay.dxn3]
  rw [canon_dxn, ld11, ld11]
  exact dxn_blk m c t r k

theorem w20A (c : Dev nD) (t : Fin cfg0.N) (h : t.val % 16 = 0) (h1 : ¬ t.val % 16 = 15) (r : Fin 384) (k : Fin 1024) :
    (outsAt0 m c t.val t.isLt).2.2.2.1 (ix3 0 r k) = lngrad (aX m c (sq t) r) (DX m c (sq t) r) (aG m c) k := by
  rw [outsAt0_A m c t h h1]
  frame_out
  simp only [Pay.dxn0, Pay.dxn1, Pay.dxn2, Pay.dxn3, Pay.dxln0, Pay.dxln1, Pay.dxln2, Pay.dxln3, Pay.dxln4, Pay.dxln5, Pay.dxln6, Pay.dxln7, Pay.dxln8, Pay.dxln9, Pay.dxln10, Pay.dxln11, rdc, canon_dxn]
  rw [canon_dxln, ld11, ld11]
  change lngrad (fun q => iblk m c 7 t (ix3 0 r q)) (fun q => DXN (iblk m c 4 t (ix2 0 0)) (iblk m c 5 t (ix2 0 0)) (iblk m c 12 t) (iblk m c 13 t) (ix3 0 r q))
    (fun q => iblk m c 16 t (ix2 0 q)) k = _
  simp only [dxn_blk, i7, i16]

theorem w21A (c : Dev nD) (t : Fin cfg0.N) (h : t.val % 16 = 0) (h1 : ¬ t.val % 16 = 15) (r : Fin 384) (k : Fin 1024) :
    (outsAt0 m c t.val t.isLt).2.2.2.2.1 (ix3 0 r k) = lngrad (aX m c (sq t) r) (DX m c (sq t) r) (aG m c) k + aDy m c (sq t) r k := by
  rw [outsAt0_A m c t h h1]
  frame_out
  simp only [Pay.dxn0, Pay.dxn1, Pay.dxn2, Pay.dxn3, Pay.dxln0, Pay.dxln1, Pay.dxln2, Pay.dxln3, Pay.dxln4, Pay.dxln5, Pay.dxln6, Pay.dxln7, Pay.dxln8, Pay.dxln9, Pay.dxln10, Pay.dxln11, Pay.dx0, Pay.dx1, Pay.dx2, Pay.dx3, Pay.dx4, Pay.dx5, Pay.dx6, Pay.dx7, Pay.dx8, Pay.dx9, Pay.dx10, Pay.dx11, rdc, canon_dxn]
  rw [canon_dx, ld11, ld11]
  change lngrad (fun q => iblk m c 7 t (ix3 0 r q)) (fun q => DXN (iblk m c 4 t (ix2 0 0)) (iblk m c 5 t (ix2 0 0)) (iblk m c 12 t) (iblk m c 13 t) (ix3 0 r q))
    (fun q => iblk m c 16 t (ix2 0 q)) k + iblk m c 8 t (ix3 0 r k) = _
  simp only [dxn_blk, i7, i8, i16]

theorem w22A (c : Dev nD) (t : Fin cfg0.N) (h : t.val % 16 = 0) (h1 : ¬ t.val % 16 = 15) (a : Fin 1024) (n : Fin 2048) :
    ((outsAt0 m c t.val t.isLt).2.2.2.2.2.1 (ix2 a n) : EReal)
      = (0 : EReal) + ∑ r : Fin 384, aXc m c (sq t) r a * aDh m c (sq t) r n := by
  rw [outsAt0_A m c t h h1]
  frame_out
  simp only [Pay.dwa0, Pay.dwa1, Pay.dwa2, Pay.dwa3, Pay.dwa4, Pay.dwa5, Pay.dwa6, Pay.dwa7]
  simp (discharger := decide) only [↓View.readCov_skip]
  simp (discharger := decide) only [View.readCov_fill]
  rw [canon_dw1']
  change (@HAdd.hAdd EReal EReal EReal instHAdd (k0_pay8 (F := Ideal) (ix2 a n)) (∑ r : Fin 384, @HMul.hMul EReal EReal EReal instHMul (iblk m c 9 t (ix3 0 r a)) (iblk m c 12 t (ix3 0 r n)))) = _
  rw [Pay.zero8_at]
  simp only [i9, i12]

theorem w23A (c : Dev nD) (t : Fin cfg0.N) (h : t.val % 16 = 0) (h1 : ¬ t.val % 16 = 15) (a : Fin 1024) (n : Fin 1024) :
    ((outsAt0 m c t.val t.isLt).2.2.2.2.2.2.1 (ix2 a n) : EReal)
      = (0 : EReal) + ∑ r : Fin 384, aVc m c (sq t) r a * aGc m c (sq t) r n := by
  rw [outsAt0_A m c t h h1]
  frame_out
  simp only [Pay.dwb0, Pay.dwb1, Pay.dwb2, Pay.dwb3]
  simp (discharger := decide) only [↓View.readCov_skip]
  simp (discharger := decide) only [View.readCov_fill]
  rw [canon_dw2']
  change (@HAdd.hAdd EReal EReal EReal instHAdd (k0_pay9 (F := Ideal) (ix2 a n)) (∑ r : Fin 384, @HMul.hMul EReal EReal EReal instHMul (iblk m c 10 t (ix3 0 r a)) (iblk m c 11 t (ix3 0 r n)))) = _
  rw [Pay.zero9_at]
  simp only [i10, i11]

theorem sgA (c : Dev nD) (t : Fin cfg0.N) (h : t.val % 16 = 0) (h1 : ¬ t.val % 16 = 15) (s : Fin 8) (k : Fin 1024) :
    ((outsAt0 m c t.val t.isLt).2.2.2.2.2.2.2.2.2.1 (ix2 s k) : EReal)
      = (0 : EReal) + rowsum (fun r => DX m c (sq t) r k * rhat (aX m c (sq t) r) k) s := by
  rw [outsAt0_A m c t h h1]
  frame_out
  simp only [Pay.dxn0, Pay.dxn1, Pay.dxn2, Pay.dxn3, Pay.sg0, Pay.sg1, Pay.sg2, Pay.sg3, Pay.sg4, Pay.sg5, Pay.sg6, Pay.sg7, Pay.sg8, Pay.sg9, Pay.sg10, Pay.sg11, rdc, canon_dxn, read_unread_whole]
  rw [sg_chain, ld11, ld11]
  simp only [dxn_blk, i7, Pay.zero6_at]

theorem sbA (c : Dev nD) (t : Fin cfg0.N) (h : t.val % 16 = 0) (h1 : ¬ t.val % 16 = 15) (s : Fin 8) (k : Fin 1024) :
    ((outsAt0 m c t.val t.isLt).2.2.2.2.2.2.2.2.2.2 (ix2 s k) : EReal)
      = (0 : EReal) + rowsum (fun r => DX m c (sq t) r k) s := by
  rw [outsAt0_A m c t h h1]
  frame_out
  simp only [Pay.dxn0, Pay.dxn1, Pay.dxn2, Pay.dxn3, Pay.sb0, Pay.sb1, Pay.sb2, Pay.sb3, Pay.sb4, Pay.sb5, Pay.sb6, Pay.sb7, Pay.sb8, Pay.sb9, Pay.sb10, Pay.sb11, rdc, canon_dxn, read_unread_whole]
  rw [sb_chain, ld11, ld11]
  simp only [dxn_blk, Pay.zero7_at]

/-! ## Case B -/

theorem w17B (c : Dev nD) (t : Fin cfg0.N) (h : ¬ t.val % 16 = 0) (h1 : ¬ t.val % 16 = 15) (r : Fin 384) (n : Fin 1024) :
    (outsAt0 m c t.val t.isLt).1 (ix3 0 r n)
      = yval (aX m c) (aLen m c) (aVc m c) (aW2 m c) (aSv m c) (aS2 m c) (aB2 m c) (sq t) r n := by
  rw [outsAt0_B m c t h h1]
  frame_out
  simp only [Pay.y0, Pay.y1, Pay.y2, Pay.y3, Pay.z0, Pay.z1, Pay.z2, Pay.z3, ldlen]
  rw [canon_y, ld11, ld11]
  change @HAdd.hAdd EReal EReal EReal instHAdd (iblk m c 7 t (ix3 0 r n)) (if ((r.val : ℕ) : ℤ) < BitVec.toInt (aLen m c (sq t)) then
    (∑ k : Fin 1024, @HMul.hMul EReal EReal EReal instHMul (iblk m c 10 t (ix3 0 r k)) (iblk m c 14 t (ix2 k n)))
      * (@HMul.hMul EReal EReal EReal instHMul (iblk m c 2 t (ix2 0 0)) (iblk m c 6 t (ix2 0 0))) + iblk m c 15 t (ix2 0 n) else 0) = _
  unfold yval zval
  simp only [i2, i6, i7, i10, i14, i15]

theorem w18B (c : Dev nD) (t : Fin cfg0.N) (h : ¬ t.val % 16 = 0) (h1 : ¬ t.val % 16 = 15) (r : Fin 384) (n : Fin 1024) :
    (outsAt0 m c t.val t.isLt).2.1 (ix3 0 r n)
      = zval (aVc m c) (aW2 m c) (aSv m c) (aS2 m c) (aB2 m c) (sq t) r n := by
  rw [outsAt0_B m c t h h1]
  frame_out
  simp only [Pay.z0, Pay.z1, Pay.z2, Pay.z3]
  rw [canon_z, ld11, ld11]
  change (∑ k : Fin 1024, @HMul.hMul EReal EReal EReal instHMul (iblk m c 10 t (ix3 0 r k)) (iblk m c 14 t (ix2 k n)))
      * (@HMul.hMul EReal EReal EReal instHMul (iblk m c 2 t (ix2 0 0)) (iblk m c 6 t (ix2 0 0))) + iblk m c 15 t (ix2 0 n) = _
  unfold zval
  simp only [i2, i6, i10, i14, i15]

theorem w19B (c : Dev nD) (t : Fin cfg0.N) (h : ¬ t.val % 16 = 0) (h1 : ¬ t.val % 16 = 15) (r : Fin 384) (k : Fin 1024) :
    (outsAt0 m c t.val t.isLt).2.2.1 (ix3 0 r k) = DX m c (sq t) r k := by
  rw [outsAt0_B m c t h h1]
  frame_out
  simp only [Pay.dxn0, Pay.dxn1, Pay.dxn2, Pay.dxn3]
  rw [canon_dxn, ld11, ld11]
  exact dxn_blk m c t r k

theorem w20B (c : Dev nD) (t : Fin cfg0.N) (h : ¬ t.val % 16 = 0) (h1 : ¬ t.val % 16 = 15) (r : Fin 384) (k : Fin 1024) :
    (outsAt0 m c t.val t.isLt).2.2.2.1 (ix3 0 r k) = lngrad (aX m c (sq t) r) (DX m c (sq t) r) (aG m c) k := by
  rw [outsAt0_B m c t h h1]
  frame_out
  simp only [Pay.dxn0, Pay.dxn1, Pay.dxn2, Pay.dxn3, Pay.dxln0, Pay.dxln1, Pay.dxln2, Pay.dxln3, Pay.dxln4, Pay.dxln5, Pay.dxln6, Pay.dxln7, Pay.dxln8, Pay.dxln9, Pay.dxln10, Pay.dxln11, rdc, canon_dxn]
  rw [canon_dxln, ld11, ld11]
  change lngrad (fun q => iblk m c 7 t (ix3 0 r q)) (fun q => DXN (iblk m c 4 t (ix2 0 0)) (iblk m c 5 t (ix2 0 0)) (iblk m c 12 t) (iblk m c 13 t) (ix3 0 r q))
    (fun q => iblk m c 16 t (ix2 0 q)) k = _
  simp only [dxn_blk, i7, i16]

theorem w21B (c : Dev nD) (t : Fin cfg0.N) (h : ¬ t.val % 16 = 0) (h1 : ¬ t.val % 16 = 15) (r : Fin 384) (k : Fin 1024) :
    (outsAt0 m c t.val t.isLt).2.2.2.2.1 (ix3 0 r k) = lngrad (aX m c (sq t) r) (DX m c (sq t) r) (aG m c) k + aDy m c (sq t) r k := by
  rw [outsAt0_B m c t h h1]
  frame_out
  simp only [Pay.dxn0, Pay.dxn1, Pay.dxn2, Pay.dxn3, Pay.dxln0, Pay.dxln1, Pay.dxln2, Pay.dxln3, Pay.dxln4, Pay.dxln5, Pay.dxln6, Pay.dxln7, Pay.dxln8, Pay.dxln9, Pay.dxln10, Pay.dxln11, Pay.dx0, Pay.dx1, Pay.dx2, Pay.dx3, Pay.dx4, Pay.dx5, Pay.dx6, Pay.dx7, Pay.dx8, Pay.dx9, Pay.dx10, Pay.dx11, rdc, canon_dxn]
  rw [canon_dx, ld11, ld11]
  change lngrad (fun q => iblk m c 7 t (ix3 0 r q)) (fun q => DXN (iblk m c 4 t (ix2 0 0)) (iblk m c 5 t (ix2 0 0)) (iblk m c 12 t) (iblk m c 13 t) (ix3 0 r q))
    (fun q => iblk m c 16 t (ix2 0 q)) k + iblk m c 8 t (ix3 0 r k) = _
  simp only [dxn_blk, i7, i8, i16]

theorem w22B (c : Dev nD) (t : Fin cfg0.N) (h : ¬ t.val % 16 = 0) (h1 : ¬ t.val % 16 = 15) (a : Fin 1024) (n : Fin 2048) :
    ((outsAt0 m c t.val t.isLt).2.2.2.2.2.1 (ix2 a n) : EReal)
      = (outsAt0 m c (t.val - 1) (by omega)).2.2.2.2.2.1 (ix2 a n) + ∑ r : Fin 384, aXc m c (sq t) r a * aDh m c (sq t) r n := by
  rw [outsAt0_B m c t h h1]
  frame_out
  simp only [Pay.dwa0, Pay.dwa1, Pay.dwa2, Pay.dwa3, Pay.dwa4, Pay.dwa5, Pay.dwa6, Pay.dwa7]
  rw [canon_dw1]
  change @HAdd.hAdd EReal EReal EReal instHAdd ((outsAt0 m c (t.val - 1) (by omega)).2.2.2.2.2.1 (ix2 a n)) (∑ r : Fin 384, @HMul.hMul EReal EReal EReal instHMul (iblk m c 9 t (ix3 0 r a)) (iblk m c 12 t (ix3 0 r n))) = _
  simp only [i9, i12]

theorem w23B (c : Dev nD) (t : Fin cfg0.N) (h : ¬ t.val % 16 = 0) (h1 : ¬ t.val % 16 = 15) (a : Fin 1024) (n : Fin 1024) :
    ((outsAt0 m c t.val t.isLt).2.2.2.2.2.2.1 (ix2 a n) : EReal)
      = (outsAt0 m c (t.val - 1) (by omega)).2.2.2.2.2.2.1 (ix2 a n) + ∑ r : Fin 384, aVc m c (sq t) r a * aGc m c (sq t) r n := by
  rw [outsAt0_B m c t h h1]
  frame_out
  simp only [Pay.dwb0, Pay.dwb1, Pay.dwb2, Pay.dwb3]
  rw [canon_dw2]
  change @HAdd.hAdd EReal EReal EReal instHAdd ((outsAt0 m c (t.val - 1) (by omega)).2.2.2.2.2.2.1 (ix2 a n)) (∑ r : Fin 384, @HMul.hMul EReal EReal EReal instHMul (iblk m c 10 t (ix3 0 r a)) (iblk m c 11 t (ix3 0 r n))) = _
  simp only [i10, i11]

theorem sgB (c : Dev nD) (t : Fin cfg0.N) (h : ¬ t.val % 16 = 0) (h1 : ¬ t.val % 16 = 15) (s : Fin 8) (k : Fin 1024) :
    ((outsAt0 m c t.val t.isLt).2.2.2.2.2.2.2.2.2.1 (ix2 s k) : EReal)
      = (outsAt0 m c (t.val - 1) (by omega)).2.2.2.2.2.2.2.2.2.1 (ix2 s k) + rowsum (fun r => DX m c (sq t) r k * rhat (aX m c (sq t) r) k) s := by
  rw [outsAt0_B m c t h h1]
  frame_out
  simp only [Pay.dxn0, Pay.dxn1, Pay.dxn2, Pay.dxn3, Pay.sg0, Pay.sg1, Pay.sg2, Pay.sg3, Pay.sg4, Pay.sg5, Pay.sg6, Pay.sg7, Pay.sg8, Pay.sg9, Pay.sg10, Pay.sg11, rdc, canon_dxn, read_unread_whole]
  rw [sg_chain, ld11, ld11]
  simp only [dxn_blk, i7]

theorem sbB (c : Dev nD) (t : Fin cfg0.N) (h : ¬ t.val % 16 = 0) (h1 : ¬ t.val % 16 = 15) (s : Fin 8) (k : Fin 1024) :
    ((outsAt0 m c t.val t.isLt).2.2.2.2.2.2.2.2.2.2 (ix2 s k) : EReal)
      = (outsAt0 m c (t.val - 1) (by omega)).2.2.2.2.2.2.2.2.2.2 (ix2 s k) + rowsum (fun r => DX m c (sq t) r k) s := by
  rw [outsAt0_B m c t h h1]
  frame_out
  simp only [Pay.dxn0, Pay.dxn1, Pay.dxn2, Pay.dxn3, Pay.sb0, Pay.sb1, Pay.sb2, Pay.sb3, Pay.sb4, Pay.sb5, Pay.sb6, Pay.sb7, Pay.sb8, Pay.sb9, Pay.sb10, Pay.sb11, rdc, canon_dxn, read_unread_whole]
  rw [sb_chain, ld11, ld11]
  simp only [dxn_blk]

/-! ## Case C -/

theorem w17C (c : Dev nD) (t : Fin cfg0.N) (h : ¬ t.val % 16 = 0) (h1 : t.val % 16 = 15) (r : Fin 384) (n : Fin 1024) :
    (outsAt0 m c t.val t.isLt).1 (ix3 0 r n)
      = yval (aX m c) (aLen m c) (aVc m c) (aW2 m c) (aSv m c) (aS2 m c) (aB2 m c) (sq t) r n := by
  rw [outsAt0_C m c t h h1]
  frame_out
  simp only [Pay.y0, Pay.y1, Pay.y2, Pay.y3, Pay.z0, Pay.z1, Pay.z2, Pay.z3, ldlen]
  rw [canon_y, ld11, ld11]
  change @HAdd.hAdd EReal EReal EReal instHAdd (iblk m c 7 t (ix3 0 r n)) (if ((r.val : ℕ) : ℤ) < BitVec.toInt (aLen m c (sq t)) then
    (∑ k : Fin 1024, @HMul.hMul EReal EReal EReal instHMul (iblk m c 10 t (ix3 0 r k)) (iblk m c 14 t (ix2 k n)))
      * (@HMul.hMul EReal EReal EReal instHMul (iblk m c 2 t (ix2 0 0)) (iblk m c 6 t (ix2 0 0))) + iblk m c 15 t (ix2 0 n) else 0) = _
  unfold yval zval
  simp only [i2, i6, i7, i10, i14, i15]

theorem w18C (c : Dev nD) (t : Fin cfg0.N) (h : ¬ t.val % 16 = 0) (h1 : t.val % 16 = 15) (r : Fin 384) (n : Fin 1024) :
    (outsAt0 m c t.val t.isLt).2.1 (ix3 0 r n)
      = zval (aVc m c) (aW2 m c) (aSv m c) (aS2 m c) (aB2 m c) (sq t) r n := by
  rw [outsAt0_C m c t h h1]
  frame_out
  simp only [Pay.z0, Pay.z1, Pay.z2, Pay.z3]
  rw [canon_z, ld11, ld11]
  change (∑ k : Fin 1024, @HMul.hMul EReal EReal EReal instHMul (iblk m c 10 t (ix3 0 r k)) (iblk m c 14 t (ix2 k n)))
      * (@HMul.hMul EReal EReal EReal instHMul (iblk m c 2 t (ix2 0 0)) (iblk m c 6 t (ix2 0 0))) + iblk m c 15 t (ix2 0 n) = _
  unfold zval
  simp only [i2, i6, i10, i14, i15]

theorem w19C (c : Dev nD) (t : Fin cfg0.N) (h : ¬ t.val % 16 = 0) (h1 : t.val % 16 = 15) (r : Fin 384) (k : Fin 1024) :
    (outsAt0 m c t.val t.isLt).2.2.1 (ix3 0 r k) = DX m c (sq t) r k := by
  rw [outsAt0_C m c t h h1]
  frame_out
  simp only [Pay.dxn0, Pay.dxn1, Pay.dxn2, Pay.dxn3]
  rw [canon_dxn, ld11, ld11]
  exact dxn_blk m c t r k

theorem w20C (c : Dev nD) (t : Fin cfg0.N) (h : ¬ t.val % 16 = 0) (h1 : t.val % 16 = 15) (r : Fin 384) (k : Fin 1024) :
    (outsAt0 m c t.val t.isLt).2.2.2.1 (ix3 0 r k) = lngrad (aX m c (sq t) r) (DX m c (sq t) r) (aG m c) k := by
  rw [outsAt0_C m c t h h1]
  frame_out
  simp only [Pay.dxn0, Pay.dxn1, Pay.dxn2, Pay.dxn3, Pay.dxln0, Pay.dxln1, Pay.dxln2, Pay.dxln3, Pay.dxln4, Pay.dxln5, Pay.dxln6, Pay.dxln7, Pay.dxln8, Pay.dxln9, Pay.dxln10, Pay.dxln11, rdc, canon_dxn]
  rw [canon_dxln, ld11, ld11]
  change lngrad (fun q => iblk m c 7 t (ix3 0 r q)) (fun q => DXN (iblk m c 4 t (ix2 0 0)) (iblk m c 5 t (ix2 0 0)) (iblk m c 12 t) (iblk m c 13 t) (ix3 0 r q))
    (fun q => iblk m c 16 t (ix2 0 q)) k = _
  simp only [dxn_blk, i7, i16]

theorem w21C (c : Dev nD) (t : Fin cfg0.N) (h : ¬ t.val % 16 = 0) (h1 : t.val % 16 = 15) (r : Fin 384) (k : Fin 1024) :
    (outsAt0 m c t.val t.isLt).2.2.2.2.1 (ix3 0 r k) = lngrad (aX m c (sq t) r) (DX m c (sq t) r) (aG m c) k + aDy m c (sq t) r k := by
  rw [outsAt0_C m c t h h1]
  frame_out
  simp only [Pay.dxn0, Pay.dxn1, Pay.dxn2, Pay.dxn3, Pay.dxln0, Pay.dxln1, Pay.dxln2, Pay.dxln3, Pay.dxln4, Pay.dxln5, Pay.dxln6, Pay.dxln7, Pay.dxln8, Pay.dxln9, Pay.dxln10, Pay.dxln11, Pay.dx0, Pay.dx1, Pay.dx2, Pay.dx3, Pay.dx4, Pay.dx5, Pay.dx6, Pay.dx7, Pay.dx8, Pay.dx9, Pay.dx10, Pay.dx11, rdc, canon_dxn]
  rw [canon_dx, ld11, ld11]
  change lngrad (fun q => iblk m c 7 t (ix3 0 r q)) (fun q => DXN (iblk m c 4 t (ix2 0 0)) (iblk m c 5 t (ix2 0 0)) (iblk m c 12 t) (iblk m c 13 t) (ix3 0 r q))
    (fun q => iblk m c 16 t (ix2 0 q)) k + iblk m c 8 t (ix3 0 r k) = _
  simp only [dxn_blk, i7, i8, i16]

theorem w22C (c : Dev nD) (t : Fin cfg0.N) (h : ¬ t.val % 16 = 0) (h1 : t.val % 16 = 15) (a : Fin 1024) (n : Fin 2048) :
    ((outsAt0 m c t.val t.isLt).2.2.2.2.2.1 (ix2 a n) : EReal)
      = ((outsAt0 m c (t.val - 1) (by omega)).2.2.2.2.2.1 (ix2 a n) + ∑ r : Fin 384, aXc m c (sq t) r a * aDh m c (sq t) r n) * (aSx m c * aSd m c) := by
  rw [outsAt0_C m c t h h1]
  frame_out
  simp only [Pay.dwa0, Pay.dwa1, Pay.dwa2, Pay.dwa3, Pay.dwa4, Pay.dwa5, Pay.dwa6, Pay.dwa7]
  rw [Pay.scale4_at, rdc, canon_dw1, ld11, ld11, ldcol _ 0 _ a n n (by omega)]
  change (@HAdd.hAdd EReal EReal EReal instHAdd ((outsAt0 m c (t.val - 1) (by omega)).2.2.2.2.2.1 (ix2 a n)) (∑ r : Fin 384, @HMul.hMul EReal EReal EReal instHMul (iblk m c 9 t (ix3 0 r a)) (iblk m c 12 t (ix3 0 r n))))
    * (@HMul.hMul EReal EReal EReal instHMul (iblk m c 1 t (ix2 0 0)) (iblk m c 4 t (ix2 0 0))) = _
  simp only [i1, i4, i9, i12]

theorem w23C (c : Dev nD) (t : Fin cfg0.N) (h : ¬ t.val % 16 = 0) (h1 : t.val % 16 = 15) (a : Fin 1024) (n : Fin 1024) :
    ((outsAt0 m c t.val t.isLt).2.2.2.2.2.2.1 (ix2 a n) : EReal)
      = ((outsAt0 m c (t.val - 1) (by omega)).2.2.2.2.2.2.1 (ix2 a n) + ∑ r : Fin 384, aVc m c (sq t) r a * aGc m c (sq t) r n) * (aSv m c * aSg m c) := by
  rw [outsAt0_C m c t h h1]
  frame_out
  simp only [Pay.dwb0, Pay.dwb1, Pay.dwb2, Pay.dwb3]
  rw [Pay.scale5_at, rdc, canon_dw2, ld11, ld11, ldcol _ 0 _ a n n (by omega)]
  change (@HAdd.hAdd EReal EReal EReal instHAdd ((outsAt0 m c (t.val - 1) (by omega)).2.2.2.2.2.2.1 (ix2 a n)) (∑ r : Fin 384, @HMul.hMul EReal EReal EReal instHMul (iblk m c 10 t (ix3 0 r a)) (iblk m c 11 t (ix3 0 r n))))
    * (@HMul.hMul EReal EReal EReal instHMul (iblk m c 2 t (ix2 0 0)) (iblk m c 3 t (ix2 0 0))) = _
  simp only [i2, i3, i10, i11]

theorem sgC (c : Dev nD) (t : Fin cfg0.N) (h : ¬ t.val % 16 = 0) (h1 : t.val % 16 = 15) (s : Fin 8) (k : Fin 1024) :
    ((outsAt0 m c t.val t.isLt).2.2.2.2.2.2.2.2.2.1 (ix2 s k) : EReal)
      = (outsAt0 m c (t.val - 1) (by omega)).2.2.2.2.2.2.2.2.2.1 (ix2 s k) + rowsum (fun r => DX m c (sq t) r k * rhat (aX m c (sq t) r) k) s := by
  rw [outsAt0_C m c t h h1]
  frame_out
  simp only [Pay.dxn0, Pay.dxn1, Pay.dxn2, Pay.dxn3, Pay.sg0, Pay.sg1, Pay.sg2, Pay.sg3, Pay.sg4, Pay.sg5, Pay.sg6, Pay.sg7, Pay.sg8, Pay.sg9, Pay.sg10, Pay.sg11, rdc, canon_dxn, read_unread_whole]
  rw [sg_chain, ld11, ld11]
  simp only [dxn_blk, i7]

theorem sbC (c : Dev nD) (t : Fin cfg0.N) (h : ¬ t.val % 16 = 0) (h1 : t.val % 16 = 15) (s : Fin 8) (k : Fin 1024) :
    ((outsAt0 m c t.val t.isLt).2.2.2.2.2.2.2.2.2.2 (ix2 s k) : EReal)
      = (outsAt0 m c (t.val - 1) (by omega)).2.2.2.2.2.2.2.2.2.2 (ix2 s k) + rowsum (fun r => DX m c (sq t) r k) s := by
  rw [outsAt0_C m c t h h1]
  frame_out
  simp only [Pay.dxn0, Pay.dxn1, Pay.dxn2, Pay.dxn3, Pay.sb0, Pay.sb1, Pay.sb2, Pay.sb3, Pay.sb4, Pay.sb5, Pay.sb6, Pay.sb7, Pay.sb8, Pay.sb9, Pay.sb10, Pay.sb11, rdc, canon_dxn, read_unread_whole]
  rw [sb_chain, ld11, ld11]
  simp only [dxn_blk]

/-- At the last point the scale's gradient is read off the running sums. -/
theorem o24 (c : Dev nD) (t : Fin cfg0.N) (h : ¬ t.val % 16 = 0) (h1 : t.val % 16 = 15) (j) :
    (outsAt0 m c t.val t.isLt).2.2.2.2.2.2.2.1 j = k0_pay2 (outsAt0 m c t.val t.isLt).2.2.2.2.2.2.2.2.2.1 j := by
  rw [outsAt0_C m c t h h1]
  frame_out

/-- At the last point the offset's gradient is read off the running sums. -/
theorem o25 (c : Dev nD) (t : Fin cfg0.N) (h : ¬ t.val % 16 = 0) (h1 : t.val % 16 = 15) (j) :
    (outsAt0 m c t.val t.isLt).2.2.2.2.2.2.2.2.1 j = k0_pay3 (outsAt0 m c t.val t.isLt).2.2.2.2.2.2.2.2.2.2 j := by
  rw [outsAt0_C m c t h h1]
  frame_out

end Cert.RowsOutIdeal.Val

end
-- ==== Proof.OutFin.lean ====
module

public import proofs.«01_k».proof.Proof.OutVal

/-! The nine result arrays of the kernel's "rows_out" call over the extended reals, as functions of the arguments. -/

@[expose] public section

set_option maxRecDepth 16384

noncomputable section

open Idealize.ShloMosaic Idealize.ShloMosaic.TcCoe Idealize.SL.Sem
open Cert.Spec

namespace Cert.RowsOutIdeal.Val
open Cert.RowsOutIdeal Cert.RowsOutIdeal.Gen
variable (m : (ℓ : Loc nD τ sig) → Buf (Elt Ideal) ℓ)

theorem lt16 (t : Fin cfg0.N) : t.val < 16 := lt_of_lt_of_eq t.isLt (show cfg0.N = 16 from N_0)

/-! ## What every point leaves in the blocks it writes whole -/

theorem w17 (c : Dev nD) (t : Fin cfg0.N) (r : Fin 384) (k : Fin 1024) :
    ((outsAt0 m c t.val t.isLt).1 (ix3 0 r k) : EReal)
      = yval (aX m c) (aLen m c) (aVc m c) (aW2 m c) (aSv m c) (aS2 m c) (aB2 m c) (sq t) r k := by
  have := lt16 t
  by_cases h : t.val % 16 = 0
  · exact w17A m c t h (by omega) r k
  · by_cases h1 : t.val % 16 = 15
    · exact w17C m c t h h1 r k
    · exact w17B m c t h h1 r k

theorem w18 (c : Dev nD) (t : Fin cfg0.N) (r : Fin 384) (k : Fin 1024) :
    ((outsAt0 m c t.val t.isLt).2.1 (ix3 0 r k) : EReal)
      = zval (aVc m c) (aW2 m c) (aSv m c) (aS2 m c) (aB2 m c) (sq t) r k := by
  have := lt16 t
  by_cases h : t.val % 16 = 0
  · exact w18A m c t h (by omega) r k
  · by_cases h1 : t.val % 16 = 15
    · exact w18C m c t h h1 r k
    · exact w18B m c t h h1 r k

theorem w19 (c : Dev nD) (t : Fin cfg0.N) (r : Fin 384) (k : Fin 1024) :
    ((outsAt0 m c t.val t.isLt).2.2.1 (ix3 0 r k) : EReal)
      = dxnval (aDh m c) (aW1 m c) (aSd m c) (aS1 m c) (sq t) r k := by
  have := lt16 t
  by_cases h : t.val % 16 = 0
  · exact w19A m c t h (by omega) r k
  · by_cases h1 : t.val % 16 = 15
    · exact w19C m c t h h1 r k
    · exact w19B m c t h h1 r k

theorem w20 (c : Dev nD) (t : Fin cfg0.N) (r : Fin 384) (k : Fin 1024) :
    ((outsAt0 m c t.val t.isLt).2.2.2.1 (ix3 0 r k) : EReal)
      = lngrad (aX m c (sq t) r) ((dxnval (aDh m c) (aW1 m c) (aSd m c) (aS1 m c)) (sq t) r) (aG m c) k := by
  have := lt16 t
  by_cases h : t.val % 16 = 0
  · exact w20A m c t h (by omega) r k
  · by_cases h1 : t.val % 16 = 15
    · exact w20C m c t h h1 r k
    · exact w20B m c t h h1 r k

theorem w21 (c : Dev nD) (t : Fin cfg0.N) (r : Fin 384) (k : Fin 1024) :
    ((outsAt0 m c t.val t.isLt).2.2.2.2.1 (ix3 0 r k) : EReal)
      = lngrad (aX m c (sq t) r) ((dxnval (aDh m c) (aW1 m c) (aSd m c) (aS1 m c)) (sq t) r) (aG m c) k + aDy m c (sq t) r k := by
  have := lt16 t
  by_cases h : t.val % 16 = 0
  · exact w21A m c t h (by omega) r k
  · by_cases h1 : t.val % 16 = 15
    · exact w21C m c t h h1 r k
    · exact w21B m c t h h1 r k

/-! ## The running results after every point -/

theorem dw1acc (c : Dev nD) (a : Fin 1024) (b : Fin 2048) : ∀ (n : ℕ) (hn : n < cfg0.N), n < 15 →
    ((outsAt0 m c n hn).2.2.2.2.2.1 (ix2 a b) : EReal) = upto (fun i => ∑ r : Fin 384, aXc m c i r a * aDh m c i r b) n
  | 0, hn, _ => by
    rw [w22A m c ⟨0, hn⟩ rfl (by simp) a b, upto_zero, zero_add]
    rfl
  | n + 1, hn, h15 => by
    have h16 : n + 1 < 16 := by omega
    rw [upto_succ _ n h16, ← dw1acc c a b n (by omega) (by omega)]
    exact w22B m c ⟨n + 1, hn⟩ (by simp; omega) (by simp; omega) a b

theorem dw2acc (c : Dev nD) (a : Fin 1024) (b : Fin 1024) : ∀ (n : ℕ) (hn : n < cfg0.N), n < 15 →
    ((outsAt0 m c n hn).2.2.2.2.2.2.1 (ix2 a b) : EReal) = upto (fun i => ∑ r : Fin 384, aVc m c i r a * aGc m c i r b) n
  | 0, hn, _ => by
    rw [w23A m c ⟨0, hn⟩ rfl (by simp) a b, upto_zero, zero_add]
    rfl
  | n + 1, hn, h15 => by
    have h16 : n + 1 < 16 := by omega
    rw [upto_succ _ n h16, ← dw2acc c a b n (by omega) (by omega)]
    exact w23B m c ⟨n + 1, hn⟩ (by simp; omega) (by simp; omega) a b

theorem sgacc (c : Dev nD) (s : Fin 8) (k : Fin 1024) : ∀ (n : ℕ) (hn : n < cfg0.N),
    ((outsAt0 m c n hn).2.2.2.2.2.2.2.2.2.1 (ix2 s k) : EReal) = upto (fun i => rowsum (fun r => DX m c i r k * rhat (aX m c i r) k) s) n
  | 0, hn => by
    rw [sgA m c ⟨0, hn⟩ rfl (by simp) s k, upto_zero, zero_add]
    rfl
  | n + 1, hn => by
    have h16 : n + 1 < 16 := lt16 ⟨n + 1, hn⟩
    have ih := sgacc c s k n (by omega)
    rw [upto_succ _ n h16, ← ih]
    by_cases h1 : (n + 1) % 16 = 15
    · exact sgC m c ⟨n + 1, hn⟩ (by simp; omega) h1 s k
    · exact sgB m c ⟨n + 1, hn⟩ (by simp; omega) h1 s k

theorem sbacc (c : Dev nD) (s : Fin 8) (k : Fin 1024) : ∀ (n : ℕ) (hn : n < cfg0.N),
    ((outsAt0 m c n hn).2.2.2.2.2.2.2.2.2.2 (ix2 s k) : EReal) = upto (fun i => rowsum (fun r => DX m c i r k) s) n
  | 0, hn => by
    rw [sbA m c ⟨0, hn⟩ rfl (by simp) s k, upto_zero, zero_add]
    rfl
  | n + 1, hn => by
    have h16 : n + 1 < 16 := lt16 ⟨n + 1, hn⟩
    have ih := sbacc c s k n (by omega)
    rw [upto_succ _ n h16, ← ih]
    by_cases h1 : (n + 1) % 16 = 15
    · exact sbC m c ⟨n + 1, hn⟩ (by simp; omega) h1 s k
    · exact sbB m c ⟨n + 1, hn⟩ (by simp; omega) h1 s k

/-! ## The result arrays -/

theorem final17 (c : Dev nD) : (dats m 0 c).arrAt 17 cfg0.N
    = fun j : S16x384x1024.Idx => yval (aX m c) (aLen m c) (aVc m c) (aW2 m c) (aSv m c) (aS2 m c) (aB2 m c) (j 0) (j 1) (j 2) := by
  refine (dats m 0 c).arrAt_eq_of_covers 17 _ (by decide +kernel) fun t hf y => ?_
  blk_simp
  rw [after0_17]
  idx_vars y
  obtain rfl := Subsingleton.elim y0 (0 : Fin 1)
  refine (w17 m c t y1 y2).trans ?_
  have e : ∀ F : S16x384x1024.Idx → EReal, F (ix3 (sq t) y1 y2)
      = F (((View.whole main_v8_0).slice (win0_17.rect t)).emb (ix3 0 y1 y2)) := fun F => by blk_ext [idx t]
  exact e fun j => yval (aX m c) (aLen m c) (aVc m c) (aW2 m c) (aSv m c) (aS2 m c) (aB2 m c) (j 0) (j 1) (j 2)

theorem final18 (c : Dev nD) : (dats m 0 c).arrAt 18 cfg0.N
    = fun j : S16x384x1024.Idx => zval (aVc m c) (aW2 m c) (aSv m c) (aS2 m c) (aB2 m c) (j 0) (j 1) (j 2) := by
  refine (dats m 0 c).arrAt_eq_of_covers 18 _ (by decide +kernel) fun t hf y => ?_
  blk_simp
  rw [after0_18]
  idx_vars y
  obtain rfl := Subsingleton.elim y0 (0 : Fin 1)
  refine (w18 m c t y1 y2).trans ?_
  have e : ∀ F : S16x384x1024.Idx → EReal, F (ix3 (sq t) y1 y2)
      = F (((View.whole main_v8_1).slice (win0_18.rect t)).emb (ix3 0 y1 y2)) := fun F => by blk_ext [idx t]
  exact e fun j => zval (aVc m c) (aW2 m c) (aSv m c) (aS2 m c) (aB2 m c) (j 0) (j 1) (j 2)

theorem final19 (c : Dev nD) : (dats m 0 c).arrAt 19 cfg0.N
    = fun j : S16x384x1024.Idx => dxnval (aDh m c) (aW1 m c) (aSd m c) (aS1 m c) (j 0) (j 1) (j 2) := by
  refine (dats m 0 c).arrAt_eq_of_covers 19 _ (by decide +kernel) fun t hf y => ?_
  blk_simp
  rw [after0_19]
  idx_vars y
  obtain rfl := Subsingleton.elim y0 (0 : Fin 1)
  refine (w19 m c t y1 y2).trans ?_
  have e : ∀ F : S16x384x1024.Idx → EReal, F (ix3 (sq t) y1 y2)
      = F (((View.whole main_v8_2).slice (win0_19.rect t)).emb (ix3 0 y1 y2)) := fun F => by blk_ext [idx t]
  exact e fun j => dxnval (aDh m c) (aW1 m c) (aSd m c) (aS1 m c) (j 0) (j 1) (j 2)

theorem final20 (c : Dev nD) : (dats m 0 c).arrAt 20 cfg0.N
    = fun j : S16x384x1024.Idx => lngrad (aX m c (j 0) (j 1)) ((dxnval (aDh m c) (aW1 m c) (aSd m c) (aS1 m c)) (j 0) (j 1)) (aG m c) (j 2) := by
  refine (dats m 0 c).arrAt_eq_of_covers 20 _ (by decide +kernel) fun t hf y => ?_
  blk_simp
  rw [after0_20]
  idx_vars y
  obtain rfl := Subsingleton.elim y0 (0 : Fin 1)
  refine (w20 m c t y1 y2).trans ?_
  have e : ∀ F : S16x384x1024.Idx → EReal, F (ix3 (sq t) y1 y2)
      = F (((View.whole main_v8_3).slice (win0_20.rect t)).emb (ix3 0 y1 y2)) := fun F => by blk_ext [idx t]
  exact e fun j => lngrad (aX m c (j 0) (j 1)) ((dxnval (aDh m c) (aW1 m c) (aSd m c) (aS1 m c)) (j 0) (j 1)) (aG m c) (j 2)

theorem final21 (c : Dev nD) : (dats m 0 c).arrAt 21 cfg0.N
    = fun j : S16x384x1024.Idx => lngrad (aX m c (j 0) (j 1)) ((dxnval (aDh m c) (aW1 m c) (aSd m c) (aS1 m c)) (j 0) (j 1)) (aG m c) (j 2) + aDy m c (j 0) (j 1) (j 2) := by
  refine (dats m 0 c).arrAt_eq_of_covers 21 _ (by decide +kernel) fun t hf y => ?_
  blk_simp
  rw [after0_21]
  idx_vars y
  obtain rfl := Subsingleton.elim y0 (0 : Fin 1)
  refine (w21 m c t y1 y2).trans ?_
  have e : ∀ F : S16x384x1024.Idx → EReal, F (ix3 (sq t) y1 y2)
      = F (((View.whole main_v8_4).slice (win0_21.rect t)).emb (ix3 0 y1 y2)) := fun F => by blk_ext [idx t]
  exact e fun j => lngrad (aX m c (j 0) (j 1)) ((dxnval (aDh m c) (aW1 m c) (aSd m c) (aS1 m c)) (j 0) (j 1)) (aG m c) (j 2) + aDy m c (j 0) (j 1) (j 2)

theorem final22 (c : Dev nD) : (dats m 0 c).arrAt 22 cfg0.N
    = fun j : S1024x2048.Idx => dw1val (aXc m c) (aDh m c) (aSx m c) (aSd m c) (j 0) (j 1) := by
  refine (dats m 0 c).arrAt_eq_of_after_last 22 t0_15 (by decide +kernel) _ fun j => ?_
  blk_simp
  rw [after0_22]
  idx_vars j
  refine (w22C m c t0_15 (by decide) (by decide) j0 j1).trans ?_
  rw [show ((outsAt0 m c (t0_15.val - 1) (by decide)).2.2.2.2.2.1 (ix2 j0 j1) : EReal) = _ from dw1acc m c j0 j1 14 (by decide) (by decide)]
  have e := upto_succ (fun i => ∑ r : Fin 384, aXc m c i r j0 * aDh m c i r j1) 14 (by decide)
  rw [upto_last] at e
  exact congrArg (· * _) e.symm

theorem final23 (c : Dev nD) : (dats m 0 c).arrAt 23 cfg0.N
    = fun j : S1024x1024.Idx => dw2val (aVc m c) (aGc m c) (aSv m c) (aSg m c) (j 0) (j 1) := by
  refine (dats m 0 c).arrAt_eq_of_after_last 23 t0_15 (by decide +kernel) _ fun j => ?_
  blk_simp
  rw [after0_23]
  idx_vars j
  refine (w23C m c t0_15 (by decide) (by decide) j0 j1).trans ?_
  rw [show ((outsAt0 m c (t0_15.val - 1) (by decide)).2.2.2.2.2.2.1 (ix2 j0 j1) : EReal) = _ from dw2acc m c j0 j1 14 (by decide) (by decide)]
  have e := upto_succ (fun i => ∑ r : Fin 384, aVc m c i r j0 * aGc m c i r j1) 14 (by decide)
  rw [upto_last] at e
  exact congrArg (· * _) e.symm

theorem final24 (c : Dev nD) : (dats m 0 c).arrAt 24 cfg0.N
    = fun j : S1x1024.Idx => dlngval (aX m c) (dxnval (aDh m c) (aW1 m c) (aSd m c) (aS1 m c)) (j 1) := by
  refine (dats m 0 c).arrAt_eq_of_after_last 24 t0_15 (by decide +kernel) _ fun j => ?_
  blk_simp
  rw [after0_24, o24 m c t0_15 (by decide) (by decide)]
  idx_vars j
  obtain rfl := Subsingleton.elim j0 (0 : Fin 1)
  rw [Pay.sum2_at]
  refine (Finset.sum_congr rfl fun s _ => sgacc m c s j1 15 t0_15.isLt).trans ?_
  simp only [upto_last]
  rw [Finset.sum_comm]
  simp only [sum_rowsum]
  rfl

theorem final25 (c : Dev nD) : (dats m 0 c).arrAt 25 cfg0.N
    = fun j : S1x1024.Idx => dlnbval (dxnval (aDh m c) (aW1 m c) (aSd m c) (aS1 m c)) (j 1) := by
  refine (dats m 0 c).arrAt_eq_of_after_last 25 t0_15 (by decide +kernel) _ fun j => ?_
  blk_simp
  rw [after0_25, o25 m c t0_15 (by decide) (by decide)]
  idx_vars j
  obtain rfl := Subsingleton.elim j0 (0 : Fin 1)
  rw [Pay.sum3_at]
  refine (Finset.sum_congr rfl fun s _ => sbacc m c s j1 15 t0_15.isLt).trans ?_
  simp only [upto_last]
  rw [Finset.sum_comm]
  simp only [sum_rowsum]
  rfl

end Cert.RowsOutIdeal.Val

end
-- ==== Proof.OutRefPay.lean ====
/-
  The values the body of the reference of "rows_out" computes, read at an index.
-/
module

public import proofs.«01_k».proof.Proof.Gen.RefOutIdeal.Skeleton
public import proofs.«01_k».proof.Proof.Spec

@[expose] public section

set_option maxRecDepth 16384

noncomputable section

open Idealize.ShloMosaic Idealize.ShloMosaic.TcCoe Idealize.SL.Sem
open Cert.Spec

namespace Cert.RefOutIdeal.Pay
open Cert.RefOutIdeal Cert.RefOutIdeal.Gen

/-- A row of the array flattened to 6144 rows. -/
def row (i : Fin 16) (r : Fin 384) : Fin 6144 := ⟨i.val * 384 + r.val, by omega⟩

theorem f32_at (x : Vec Ideal S16x384x1024 .bf16) (j : S16x384x1024.Idx) : k0_pay3 x j = x j := rfl
theorem f32_at' (x : Vec Ideal S16x384x1024 .bf16) (j : S16x384x1024.Idx) : k0_pay13 x j = x j := rfl

theorem rstd_at (x : Vec Ideal S16x384x1024 .bf16) (i : Fin 16) (r : Fin 384) :
    k0_pay5 x (ix3 i r 0) = rstd (fun q => x (ix3 i r q)) := by
  rw [← rstd_eq]
  pointwise [k0_pay5, k0_pay4, k0_pay3, rvar, rcen, rmean]

theorem xhat_at (x : Vec Ideal S16x384x1024 .bf16) (i : Fin 16) (r : Fin 384) (k : Fin 1024) :
    k0_pay6 x (ix3 i r k) = rhat (fun q => x (ix3 i r q)) k := by
  unfold rhat
  rw [← rstd_at]
  pointwise [k0_pay6, k0_pay4, k0_pay3, rcen, rmean]

theorem rstdb_at (v : FVec Ideal S16x384x1 .f32) (i : Fin 16) (r : Fin 384) (k : Fin 1024) :
    k0_pay20 v (ix3 i r k) = v (ix3 i r 0) := by
  pointwise [k0_pay20]

theorem z_at (s t : Elt Ideal .f32) (v : Vec Ideal S16x384x1024 .fp8e4m3) (w : Vec Ideal S1024x1024 .fp8e4m3)
    (b : Vec Ideal S1x1024 .f32) (i : Fin 16) (r : Fin 384) (n : Fin 1024) :
    k0_pay10 s t (k0_pay8 v) w b (ix3 i r n)
      = (∑ k : Fin 1024, v (ix3 i r k) * w (ix2 k n)) * (s * t) + b (ix2 0 n) := by
  pointwise [k0_pay10, k0_pay8]

theorem y_at (s t : Elt Ideal .f32) (x : FVec Ideal S16x384x1024 .f32) (v : FVec Ideal S6144x1024 .fp8e4m3) (w : Vec Ideal S1024x1024 .fp8e4m3)
    (b : Vec Ideal S1x1024 .f32) (mm : Vec Ideal S16x384x1 .f32) (i : Fin 16) (r : Fin 384) (n : Fin 1024) :
    k0_pay11 s t x v w b mm (ix3 i r n) = x (ix3 i r n) + mm (ix3 i r 0) * k0_pay10 s t v w b (ix3 i r n) := by
  pointwise [k0_pay11]

theorem dw2_at (s t : Elt Ideal .f32) (v : Vec Ideal S16x384x1024 .fp8e4m3) (g : Vec Ideal S16x384x1024 .fp8e5m2) (a n : Fin 1024) :
    k0_pay12 s t (k0_pay8 v) g (ix2 a n)
      = (∑ q : Fin 6144, v (ix3 ⟨q.val / 384, by omega⟩ ⟨q.val % 384, by omega⟩ a) * g (ix3 ⟨q.val / 384, by omega⟩ ⟨q.val % 384, by omega⟩ n)) * (s * t) := by
  pointwise [k0_pay12, k0_pay8]

theorem dw1_at (s t : Elt Ideal .f32) (v : Vec Ideal S16x384x1024 .fp8e4m3) (g : Vec Ideal S16x384x2048 .fp8e5m2) (a : Fin 1024) (n : Fin 2048) :
    k0_pay14 s t (k0_pay7 v) g (ix2 a n)
      = (∑ q : Fin 6144, v (ix3 ⟨q.val / 384, by omega⟩ ⟨q.val % 384, by omega⟩ a) * g (ix3 ⟨q.val / 384, by omega⟩ ⟨q.val % 384, by omega⟩ n)) * (s * t) := by
  pointwise [k0_pay14, k0_pay7, k0_pay9]

theorem dxn_at (s t : Elt Ideal .f32) (dh : Vec Ideal S16x384x2048 .fp8e5m2) (w : Vec Ideal S1024x2048 .fp8e4m3) (i : Fin 16) (r : Fin 384) (k : Fin 1024) :
    k0_pay17 s t (k0_pay9 dh) w (ix3 i r k) = (∑ n : Fin 2048, dh (ix3 i r n) * w (ix2 k n)) * (s * t) := by
  pointwise [k0_pay17, k0_pay15, k0_pay9]

theorem dlnb_at (s t : Elt Ideal .f32) (dh : Vec Ideal S16x384x2048 .fp8e5m2) (w : Vec Ideal S1024x2048 .fp8e4m3) (k : Fin 1024) :
    k0_pay16 s t (k0_pay9 dh) w (ix2 0 k)
      = ∑ q : Fin 6144, k0_pay17 s t (k0_pay9 dh) w (ix3 ⟨q.val / 384, by omega⟩ ⟨q.val % 384, by omega⟩ k) := by
  simp only [dxn_at]
  pointwise [k0_pay16, k0_pay15, k0_pay9]

theorem dlng_at (s t : Elt Ideal .f32) (h : FVec Ideal S16x384x1024 .f32) (dh : FVec Ideal S6144x2048 .fp8e5m2) (w : Vec Ideal S1024x2048 .fp8e4m3) (k : Fin 1024) :
    k0_pay18 s t h dh w (ix2 0 k)
      = ∑ q : Fin 6144, k0_pay17 s t dh w (ix3 ⟨q.val / 384, by omega⟩ ⟨q.val % 384, by omega⟩ k) * h (ix3 ⟨q.val / 384, by omega⟩ ⟨q.val % 384, by omega⟩ k) := by
  pointwise [k0_pay18]

theorem dxln_at (s t : Elt Ideal .f32) (x : Vec Ideal S16x384x1024 .bf16) (dh : FVec Ideal S6144x2048 .fp8e5m2) (w : Vec Ideal S1024x2048 .fp8e4m3)
    (g : Vec Ideal S1x1x1024 .f32) (i : Fin 16) (r : Fin 384) (k : Fin 1024) :
    k0_pay1 (k0_pay19 s t (k0_pay6 x) dh w g) (k0_pay20 (k0_pay5 x)) (ix3 i r k)
      = lngrad (fun q => x (ix3 i r q)) (fun q => k0_pay17 s t dh w (ix3 i r q)) (fun q => g (ix3 0 0 q)) k := by
  unfold lngrad rmean
  simp only [← xhat_at, ← rstd_at]
  pointwise [k0_pay1, k0_pay19, k0_pay20]

theorem dx_at (u v y : FVec Ideal S16x384x1024 .f32) (j : S16x384x1024.Idx) : k0_pay2 y u v j = k0_pay1 u v j + y j := rfl

end Cert.RefOutIdeal.Pay

end
-- ==== Proof.OutRefVal.lean ====
/-
  The arrays the reference of "rows_out" leaves, as functions of its arguments.
-/
module

public import proofs.«01_k».proof.Proof.Gen.RefOutIdeal.Value
public import proofs.«01_k».proof.Proof.OutRefPay
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Spec

namespace Cert.RefOutIdeal.Val
open Cert.RefOutIdeal Cert.RefOutIdeal.Gen
variable (m : (ℓ : Loc nD τ sig) → Buf (Elt Ideal) ℓ)

/-! The arguments, as plain functions of their coordinates. -/
abbrev aX (c : Dev nD) (i : Fin 16) (r : Fin 384) (k : Fin 1024) : EReal := m ((c : Thread nD τ).loc main_arg0) (ix3 i r k)
abbrev aDy (c : Dev nD) (i : Fin 16) (r : Fin 384) (k : Fin 1024) : EReal := m ((c : Thread nD τ).loc main_arg1) (ix3 i r k)
abbrev aLen (c : Dev nD) (i : Fin 16) : BitVec 32 := m ((c : Thread nD τ).loc main_arg2) (ix1 i)
abbrev aXc (c : Dev nD) (i : Fin 16) (r : Fin 384) (k : Fin 1024) : EReal := m ((c : Thread nD τ).loc main_arg3) (ix3 i r k)
abbrev aVc (c : Dev nD) (i : Fin 16) (r : Fin 384) (k : Fin 1024) : EReal := m ((c : Thread nD τ).loc main_arg4) (ix3 i r k)
abbrev aGc (c : Dev nD) (i : Fin 16) (r : Fin 384) (k : Fin 1024) : EReal := m ((c : Thread nD τ).loc main_arg5) (ix3 i r k)
abbrev aDh (c : Dev nD) (i : Fin 16) (r : Fin 384) (k : Fin 2048) : EReal := m ((c : Thread nD τ).loc main_arg6) (ix3 i r k)
abbrev aG (c : Dev nD) (k : Fin 1024) : EReal := m ((c : Thread nD τ).loc main_arg7) (ix1 k)
abbrev aW1 (c : Dev nD) (k : Fin 1024) (n : Fin 2048) : EReal := m ((c : Thread nD τ).loc main_arg8) (ix2 k n)
abbrev aS1 (c : Dev nD) : EReal := m ((c : Thread nD τ).loc main_arg9) ix0
abbrev aW2 (c : Dev nD) (n k : Fin 1024) : EReal := m ((c : Thread nD τ).loc main_arg10) (ix2 n k)
abbrev aS2 (c : Dev nD) : EReal := m ((c : Thread nD τ).loc main_arg11) ix0
abbrev aB2 (c : Dev nD) (k : Fin 1024) : EReal := m ((c : Thread nD τ).loc main_arg12) (ix1 k)
abbrev aSx (c : Dev nD) : EReal := m ((c : Thread nD τ).loc main_arg13) ix0
abbrev aSv (c : Dev nD) : EReal := m ((c : Thread nD τ).loc main_arg14) ix0
abbrev aSg (c : Dev nD) : EReal := m ((c : Thread nD τ).loc main_arg15) ix0
abbrev aSd (c : Dev nD) : EReal := m ((c : Thread nD τ).loc main_arg16) ix0

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0, 0] ∧ win0_8.index t = ![0, 0, 0] ∧ win0_9.index t = ![0, 0, 0] ∧ win0_10.index t = ![0, 0, 0] ∧ win0_11.index t = ![0, 0, 0] ∧ win0_12.index t = ![0, 0, 0] ∧ win0_13.index t = ![0, 0, 0] ∧ win0_14.index t = ![0, 0] ∧ win0_15.index t = ![0, 0] ∧ win0_16.index t = ![0, 0] :=
  (by decide +kernel : ∀ t : Fin grid0.N, _)

/-! The blocks, read at coordinates. -/

theorem i0 (c : Dev nD) (t : Fin cfg0.N) (i : Fin 16) (r : Fin 384) :
    (iblk m c 0 t (ix3 i r 0) : EReal) = if (r.val : ℤ) < (aLen m c i).toInt then (1 : EReal) else (0 : EReal) := by
  have e : (iblk m c 0 t (ix3 i r 0) : EReal)
      = FloatOps.uitofp (F := Ideal) FTy.f32 (IntOp.cmpi CmpIPredicate.slt (BitVec.ofNat 32 r.val) (aLen m c i)) := by
    blk_simp [iblk]
    entry_read
    pointwise
    blk_point [idx t]
    refine congrArg (IntOp.cmpi .slt (BitVec.ofNat 32 r.val)) ?_
    unfold aLen
    blk_ext [idx t]
  rw [e, show IntOp.cmpi .slt (BitVec.ofNat 32 r.val) (aLen m c i)
    = BitVec.ofBool (decide ((BitVec.ofNat 32 r.val).toInt < (aLen m c i).toInt)) from rfl]
  have h : (BitVec.ofNat 32 r.val).toInt = (r.val : ℤ) := by
    rw [BitVec.toInt_ofNat']
    have := r.isLt
    rw [Int.bmod_eq_of_le] <;> omega
  rw [h]
  by_cases hb : (r.val : ℤ) < (aLen m c i).toInt
  · simp [hb, FloatOps.uitofp]
  · simp [hb, FloatOps.uitofp]

theorem i1 (c : Dev nD) (t : Fin cfg0.N) : (iblk m c 1 t (ix2 0 0) : EReal) = aSx m c := by
  blk_simp [iblk]
  entry_read
  pointwise
  blk_ext [idx t]

theorem i2 (c : Dev nD) (t : Fin cfg0.N) : (iblk m c 2 t (ix2 0 0) : EReal) = aSv m c := by
  blk_simp [iblk]
  entry_read
  pointwise
  blk_ext [idx t]

theorem i3 (c : Dev nD) (t : Fin cfg0.N) : (iblk m c 3 t (ix2 0 0) : EReal) = aSg m c := by
  blk_simp [iblk]
  entry_read
  pointwise
  blk_ext [idx t]

theorem i4 (c : Dev nD) (t : Fin cfg0.N) : (iblk m c 4 t (ix2 0 0) : EReal) = aSd m c := by
  blk_simp [iblk]
  entry_read
  pointwise
  blk_ext [idx t]

theorem i5 (c : Dev nD) (t : Fin cfg0.N) : (iblk m c 5 t (ix2 0 0) : EReal) = aS1 m c := by
  blk_simp [iblk]
  entry_read
  pointwise
  blk_ext [idx t]

theorem i6 (c : Dev nD) (t : Fin cfg0.N) : (iblk m c 6 t (ix2 0 0) : EReal) = aS2 m c := by
  blk_simp [iblk]
  entry_read
  pointwise
  blk_ext [idx t]

theorem i7 (c : Dev nD) (t : Fin cfg0.N) (i : Fin 16) (r : Fin 384) (k : Fin 1024) : (iblk m c 7 t (ix3 i r k) : EReal) = aX m c i r k := by
  blk_ext [iblk, V, idx t]

theorem i8 (c : Dev nD) (t : Fin cfg0.N) (i : Fin 16) (r : Fin 384) (k : Fin 1024) : (iblk m c 8 t (ix3 i r k) : EReal) = aDy m c i r k := by
  blk_ext [iblk, V, idx t]

theorem i9 (c : Dev nD) (t : Fin cfg0.N) (i : Fin 16) (r : Fin 384) (k : Fin 1024) : (iblk m c 9 t (ix3 i r k) : EReal) = aXc m c i r k := by
  blk_ext [iblk, V, idx t]

theorem i10 (c : Dev nD) (t : Fin cfg0.N) (i : Fin 16) (r : Fin 384) (k : Fin 1024) : (iblk m c 10 t (ix3 i r k) : EReal) = aVc m c i r k := by
  blk_ext [iblk, V, idx t]

theorem i11 (c : Dev nD) (t : Fin cfg0.N) (i : Fin 16) (r : Fin 384) (k : Fin 1024) : (iblk m c 11 t (ix3 i r k) : EReal) = aGc m c i r k := by
  blk_ext [iblk, V, idx t]

theorem i12 (c : Dev nD) (t : Fin cfg0.N) (i : Fin 16) (r : Fin 384) (k : Fin 2048) : (iblk m c 12 t (ix3 i r k) : EReal) = aDh m c i r k := by
  blk_ext [iblk, V, idx t]

theorem i13 (c : Dev nD) (t : Fin cfg0.N) (k : Fin 1024) : (iblk m c 13 t (ix3 0 0 k) : EReal) = aG m c k := by
  blk_simp [iblk]
  entry_read
  pointwise
  blk_ext [idx t]

theorem i14 (c : Dev nD) (t : Fin cfg0.N) (k : Fin 1024) (n : Fin 2048) : (iblk m c 14 t (ix2 k n) : EReal) = aW1 m c k n := by
  blk_ext [iblk, V, idx t]

theorem i15 (c : Dev nD) (t : Fin cfg0.N) (n k : Fin 1024) : (iblk m c 15 t (ix2 n k) : EReal) = aW2 m c n k := by
  blk_ext [iblk, V, idx t]

theorem i16 (c : Dev nD) (t : Fin cfg0.N) (k : Fin 1024) : (iblk m c 16 t (ix2 0 k) : EReal) = aB2 m c k := by
  blk_simp [iblk]
  entry_read
  pointwise
  blk_ext [idx t]

theorem first11 (h) : (Shape.Idx.first h : S1x1.Idx) = ix2 0 0 := by
  funext a
  match a with
  | ⟨0, _⟩ => exact Subsingleton.elim (α := Fin 1) _ _
  | ⟨1, _⟩ => exact Subsingleton.elim (α := Fin 1) _ _

/-- The cotangent of the normalised rows, as the body computes it. -/
theorem dxn_at' (c : Dev nD) (i : Fin 16) (r : Fin 384) (k : Fin 1024) :
    k0_pay17 (iblk m c 4 t0_0 (ix2 0 0)) (iblk m c 5 t0_0 (ix2 0 0)) (k0_pay9 (iblk m c 12 t0_0)) (iblk m c 14 t0_0) (ix3 i r k)
      = dxnval (aDh m c) (aW1 m c) (aSd m c) (aS1 m c) i r k := by
  rw [Pay.dxn_at]
  simp only [i4, i5, i12, i14]
  rfl

theorem final17 (c : Dev nD) : (dats m 0 c).arrAt 17 cfg0.N
    = fun j : S16x384x1024.Idx => yval (aX m c) (aLen m c) (aVc m c) (aW2 m c) (aSv m c) (aS2 m c) (aB2 m c) (j 0) (j 1) (j 2) := by
  refine (dats m 0 c).arrAt_eq_of_after_last 17 t0_0 (by decide +kernel) _ fun j => ?_
  blk_simp
  rw [after0_17]
  unfold Gen.outsAt0
  frame_out
  simp only [read_unread_whole, first11]
  idx_vars j
  rw [Pay.y_at, Pay.z_at, Pay.f32_at]
  simp only [i0, i2, i6, i7, i10, i15, i16]
  rw [ite_mul, one_mul, zero_mul]
  rfl

theorem final18 (c : Dev nD) : (dats m 0 c).arrAt 18 cfg0.N
    = fun j : S16x384x1024.Idx => zval (aVc m c) (aW2 m c) (aSv m c) (aS2 m c) (aB2 m c) (j 0) (j 1) (j 2) := by
  refine (dats m 0 c).arrAt_eq_of_after_last 18 t0_0 (by decide +kernel) _ fun j => ?_
  blk_simp
  rw [after0_18]
  unfold Gen.outsAt0
  frame_out
  simp only [read_unread_whole, first11]
  idx_vars j
  rw [Pay.z_at]
  simp only [i2, i6, i10, i15, i16]
  rfl

theorem final19 (c : Dev nD) : (dats m 0 c).arrAt 19 cfg0.N
    = fun j : S16x384x1024.Idx => dxnval (aDh m c) (aW1 m c) (aSd m c) (aS1 m c) (j 0) (j 1) (j 2) := by
  refine (dats m 0 c).arrAt_eq_of_after_last 19 t0_0 (by decide +kernel) _ fun j => ?_
  blk_simp
  rw [after0_19]
  unfold Gen.outsAt0
  frame_out
  simp only [read_unread_whole, first11]
  idx_vars j
  rw [dxn_at']

theorem final20 (c : Dev nD) : (dats m 0 c).arrAt 20 cfg0.N
    = fun j : S16x384x1024.Idx => lngrad (aX m c (j 0) (j 1)) ((dxnval (aDh m c) (aW1 m c) (aSd m c) (aS1 m c)) (j 0) (j 1)) (aG m c) (j 2) := by
  refine (dats m 0 c).arrAt_eq_of_after_last 20 t0_0 (by decide +kernel) _ fun j => ?_
  blk_simp
  rw [after0_20]
  unfold Gen.outsAt0
  frame_out
  simp only [read_unread_whole, first11]
  idx_vars j
  rw [Pay.dxln_at]
  simp only [dxn_at', i7, i13]

theorem final21 (c : Dev nD) : (dats m 0 c).arrAt 21 cfg0.N
    = fun j : S16x384x1024.Idx => lngrad (aX m c (j 0) (j 1)) ((dxnval (aDh m c) (aW1 m c) (aSd m c) (aS1 m c)) (j 0) (j 1)) (aG m c) (j 2) + aDy m c (j 0) (j 1) (j 2) := by
  refine (dats m 0 c).arrAt_eq_of_after_last 21 t0_0 (by decide +kernel) _ fun j => ?_
  blk_simp
  rw [after0_21]
  unfold Gen.outsAt0
  frame_out
  simp only [read_unread_whole, first11]
  idx_vars j
  rw [Pay.dx_at, Pay.dxln_at, Pay.f32_at']
  simp only [dxn_at', i7, i8, i13]

theorem final22 (c : Dev nD) : (dats m 0 c).arrAt 22 cfg0.N
    = fun j : S1024x2048.Idx => dw1val (aXc m c) (aDh m c) (aSx m c) (aSd m c) (j 0) (j 1) := by
  refine (dats m 0 c).arrAt_eq_of_after_last 22 t0_0 (by decide +kernel) _ fun j => ?_
  blk_simp
  rw [after0_22]
  unfold Gen.outsAt0
  frame_out
  simp only [read_unread_whole, first11]
  idx_vars j
  rw [Pay.dw1_at]
  simp only [i1, i4, i9, i12]
  rw [sum_rows fun i r => aXc m c i r j0 * aDh m c i r j1]
  rfl

theorem final23 (c : Dev nD) : (dats m 0 c).arrAt 23 cfg0.N
    = fun j : S1024x1024.Idx => dw2val (aVc m c) (aGc m c) (aSv m c) (aSg m c) (j 0) (j 1) := by
  refine (dats m 0 c).arrAt_eq_of_after_last 23 t0_0 (by decide +kernel) _ fun j => ?_
  blk_simp
  rw [after0_23]
  unfold Gen.outsAt0
  frame_out
  simp only [read_unread_whole, first11]
  idx_vars j
  rw [Pay.dw2_at]
  simp only [i2, i3, i10, i11]
  rw [sum_rows fun i r => aVc m c i r j0 * aGc m c i r j1]
  rfl

theorem final24 (c : Dev nD) : (dats m 0 c).arrAt 24 cfg0.N
    = fun j : S1x1024.Idx => dlngval (aX m c) (dxnval (aDh m c) (aW1 m c) (aSd m c) (aS1 m c)) (j 1) := by
  refine (dats m 0 c).arrAt_eq_of_after_last 24 t0_0 (by decide +kernel) _ fun j => ?_
  blk_simp
  rw [after0_24]
  unfold Gen.outsAt0
  frame_out
  simp only [read_unread_whole, first11]
  idx_vars j
  rw [Subsingleton.elim j0 (0 : Fin 1), Pay.dlng_at]
  simp only [dxn_at', Pay.xhat_at, i7]
  exact sum_rows fun i r => dxnval (aDh m c) (aW1 m c) (aSd m c) (aS1 m c) i r j1 * rhat (aX m c i r) j1

theorem final25 (c : Dev nD) : (dats m 0 c).arrAt 25 cfg0.N
    = fun j : S1x1024.Idx => dlnbval (dxnval (aDh m c) (aW1 m c) (aSd m c) (aS1 m c)) (j 1) := by
  refine (dats m 0 c).arrAt_eq_of_after_last 25 t0_0 (by decide +kernel) _ fun j => ?_
  blk_simp
  rw [after0_25]
  unfold Gen.outsAt0
  frame_out
  simp only [read_unread_whole, first11]
  idx_vars j
  rw [Subsingleton.elim j0 (0 : Fin 1), Pay.dlnb_at]
  simp only [dxn_at']
  exact sum_rows fun i r => dxnval (aDh m c) (aW1 m c) (aSd m c) (aS1 m c) i r j1

end Cert.RefOutIdeal.Val

end
-- ==== Proof.AlgOut.lean ====
module

public import proofs.«01_k».proof.Defs
public import proofs.«01_k».proof.Proof.OutFin
public import proofs.«01_k».proof.Proof.OutRefVal

/-! The kernel's "rows_out" call and its reference leave the same arrays. -/

@[expose] public section

set_option maxRecDepth 16384

noncomputable section

open Idealize.ShloMosaic Idealize.ShloMosaic.TcCoe Idealize.SL.Sem

namespace Cert.Proof

/-- The two sides start from the same argument arrays. -/
def OutAgree (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ) : Prop :=
  ∀ c : Dev Cert.RowsOutIdeal.nD,
    m' ((c.tc : Thread Cert.RefOutIdeal.nD Cert.RefOutIdeal.τ).loc Cert.RefOutIdeal.main_arg0) = m ((c.tc : Thread Cert.RowsOutIdeal.nD Cert.RowsOutIdeal.τ).loc Cert.RowsOutIdeal.main_arg0)
    ∧ m' ((c.tc : Thread Cert.RefOutIdeal.nD Cert.RefOutIdeal.τ).loc Cert.RefOutIdeal.main_arg1) = m ((c.tc : Thread Cert.RowsOutIdeal.nD Cert.RowsOutIdeal.τ).loc Cert.RowsOutIdeal.main_arg1)
    ∧ m' ((c.tc : Thread Cert.RefOutIdeal.nD Cert.RefOutIdeal.τ).loc Cert.RefOutIdeal.main_arg2) = m ((c.tc : Thread Cert.RowsOutIdeal.nD Cert.RowsOutIdeal.τ).loc Cert.RowsOutIdeal.main_arg2)
    ∧ m' ((c.tc : Thread Cert.RefOutIdeal.nD Cert.RefOutIdeal.τ).loc Cert.RefOutIdeal.main_arg3) = m ((c.tc : Thread Cert.RowsOutIdeal.nD Cert.RowsOutIdeal.τ).loc Cert.RowsOutIdeal.main_arg3)
    ∧ m' ((c.tc : Thread Cert.RefOutIdeal.nD Cert.RefOutIdeal.τ).loc Cert.RefOutIdeal.main_arg4) = m ((c.tc : Thread Cert.RowsOutIdeal.nD Cert.RowsOutIdeal.τ).loc Cert.RowsOutIdeal.main_arg4)
    ∧ m' ((c.tc : Thread Cert.RefOutIdeal.nD Cert.RefOutIdeal.τ).loc Cert.RefOutIdeal.main_arg5) = m ((c.tc : Thread Cert.RowsOutIdeal.nD Cert.RowsOutIdeal.τ).loc Cert.RowsOutIdeal.main_arg5)
    ∧ m' ((c.tc : Thread Cert.RefOutIdeal.nD Cert.RefOutIdeal.τ).loc Cert.RefOutIdeal.main_arg6) = m ((c.tc : Thread Cert.RowsOutIdeal.nD Cert.RowsOutIdeal.τ).loc Cert.RowsOutIdeal.main_arg6)
    ∧ m' ((c.tc : Thread Cert.RefOutIdeal.nD Cert.RefOutIdeal.τ).loc Cert.RefOutIdeal.main_arg7) = m ((c.tc : Thread Cert.RowsOutIdeal.nD Cert.RowsOutIdeal.τ).loc Cert.RowsOutIdeal.main_arg7)
    ∧ m' ((c.tc : Thread Cert.RefOutIdeal.nD Cert.RefOutIdeal.τ).loc Cert.RefOutIdeal.main_arg8) = m ((c.tc : Thread Cert.RowsOutIdeal.nD Cert.RowsOutIdeal.τ).loc Cert.RowsOutIdeal.main_arg8)
    ∧ m' ((c.tc : Thread Cert.RefOutIdeal.nD Cert.RefOutIdeal.τ).loc Cert.RefOutIdeal.main_arg9) = m ((c.tc : Thread Cert.RowsOutIdeal.nD Cert.RowsOutIdeal.τ).loc Cert.RowsOutIdeal.main_arg9)
    ∧ m' ((c.tc : Thread Cert.RefOutIdeal.nD Cert.RefOutIdeal.τ).loc Cert.RefOutIdeal.main_arg10) = m ((c.tc : Thread Cert.RowsOutIdeal.nD Cert.RowsOutIdeal.τ).loc Cert.RowsOutIdeal.main_arg10)
    ∧ m' ((c.tc : Thread Cert.RefOutIdeal.nD Cert.RefOutIdeal.τ).loc Cert.RefOutIdeal.main_arg11) = m ((c.tc : Thread Cert.RowsOutIdeal.nD Cert.RowsOutIdeal.τ).loc Cert.RowsOutIdeal.main_arg11)
    ∧ m' ((c.tc : Thread Cert.RefOutIdeal.nD Cert.RefOutIdeal.τ).loc Cert.RefOutIdeal.main_arg12) = m ((c.tc : Thread Cert.RowsOutIdeal.nD Cert.RowsOutIdeal.τ).loc Cert.RowsOutIdeal.main_arg12)
    ∧ m' ((c.tc : Thread Cert.RefOutIdeal.nD Cert.RefOutIdeal.τ).loc Cert.RefOutIdeal.main_arg13) = m ((c.tc : Thread Cert.RowsOutIdeal.nD Cert.RowsOutIdeal.τ).loc Cert.RowsOutIdeal.main_arg13)
    ∧ m' ((c.tc : Thread Cert.RefOutIdeal.nD Cert.RefOutIdeal.τ).loc Cert.RefOutIdeal.main_arg14) = m ((c.tc : Thread Cert.RowsOutIdeal.nD Cert.RowsOutIdeal.τ).loc Cert.RowsOutIdeal.main_arg14)
    ∧ m' ((c.tc : Thread Cert.RefOutIdeal.nD Cert.RefOutIdeal.τ).loc Cert.RefOutIdeal.main_arg15) = m ((c.tc : Thread Cert.RowsOutIdeal.nD Cert.RowsOutIdeal.τ).loc Cert.RowsOutIdeal.main_arg15)
    ∧ m' ((c.tc : Thread Cert.RefOutIdeal.nD Cert.RefOutIdeal.τ).loc Cert.RefOutIdeal.main_arg16) = m ((c.tc : Thread Cert.RowsOutIdeal.nD Cert.RowsOutIdeal.τ).loc Cert.RowsOutIdeal.main_arg16)

/-- The arguments as the value theorems read them agree. -/
theorem out_args (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ)
    (h : OutAgree m m') (c : Dev Cert.RowsOutIdeal.nD) :
    Cert.RefOutIdeal.Val.aX m' c = Cert.RowsOutIdeal.Val.aX m c
    ∧ Cert.RefOutIdeal.Val.aDy m' c = Cert.RowsOutIdeal.Val.aDy m c
    ∧ Cert.RefOutIdeal.Val.aLen m' c = Cert.RowsOutIdeal.Val.aLen m c
    ∧ Cert.RefOutIdeal.Val.aXc m' c = Cert.RowsOutIdeal.Val.aXc m c
    ∧ Cert.RefOutIdeal.Val.aVc m' c = Cert.RowsOutIdeal.Val.aVc m c
    ∧ Cert.RefOutIdeal.Val.aGc m' c = Cert.RowsOutIdeal.Val.aGc m c
    ∧ Cert.RefOutIdeal.Val.aDh m' c = Cert.RowsOutIdeal.Val.aDh m c
    ∧ Cert.RefOutIdeal.Val.aG m' c = Cert.RowsOutIdeal.Val.aG m c
    ∧ Cert.RefOutIdeal.Val.aW1 m' c = Cert.RowsOutIdeal.Val.aW1 m c
    ∧ Cert.RefOutIdeal.Val.aS1 m' c = Cert.RowsOutIdeal.Val.aS1 m c
    ∧ Cert.RefOutIdeal.Val.aW2 m' c = Cert.RowsOutIdeal.Val.aW2 m c
    ∧ Cert.RefOutIdeal.Val.aS2 m' c = Cert.RowsOutIdeal.Val.aS2 m c
    ∧ Cert.RefOutIdeal.Val.aB2 m' c = Cert.RowsOutIdeal.Val.aB2 m c
    ∧ Cert.RefOutIdeal.Val.aSx m' c = Cert.RowsOutIdeal.Val.aSx m c
    ∧ Cert.RefOutIdeal.Val.aSv m' c = Cert.RowsOutIdeal.Val.aSv m c
    ∧ Cert.RefOutIdeal.Val.aSg m' c = Cert.RowsOutIdeal.Val.aSg m c
    ∧ Cert.RefOutIdeal.Val.aSd m' c = Cert.RowsOutIdeal.Val.aSd m c := by
  obtain ⟨a0, a1, a2, a3, a4, a5, a6, a7, a8, a9, a10, a11, a12, a13, a14, a15, a16⟩ := h c
  exact ⟨funext fun i => funext fun j => funext fun k => congrFun a0 (ix3 i j k),
    funext fun i => funext fun j => funext fun k => congrFun a1 (ix3 i j k),
    funext fun i => congrFun a2 (ix1 i),
    funext fun i => funext fun j => funext fun k => congrFun a3 (ix3 i j k),
    funext fun i => funext fun j => funext fun k => congrFun a4 (ix3 i j k),
    funext fun i => funext fun j => funext fun k => congrFun a5 (ix3 i j k),
    funext fun i => funext fun j => funext fun k => congrFun a6 (ix3 i j k),
    funext fun i => congrFun a7 (ix1 i),
    funext fun i => funext fun j => congrFun a8 (ix2 i j),
    congrFun a9 ix0,
    funext fun i => funext fun j => congrFun a10 (ix2 i j),
    congrFun a11 ix0,
    funext fun i => congrFun a12 (ix1 i),
    congrFun a13 ix0,
    congrFun a14 ix0,
    congrFun a15 ix0,
    congrFun a16 ix0⟩

/-- Result 0 is the same array on both sides when the arguments agree. -/
theorem out_eq17 (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ)
    (h : OutAgree m m') (c : Dev Cert.RowsOutIdeal.nD) :
    (Cert.RefOutIdeal.Gen.dats m' 0 c).arrAt 17 Cert.RefOutIdeal.cfg0.N = (Cert.RowsOutIdeal.Gen.dats m 0 c).arrAt 17 Cert.RowsOutIdeal.cfg0.N := by
  obtain ⟨e0, e1, e2, e3, e4, e5, e6, e7, e8, e9, e10, e11, e12, e13, e14, e15, e16⟩ := out_args m m' h c
  refine (Cert.RefOutIdeal.Val.final17 m' c).trans (Eq.trans ?_ (Cert.RowsOutIdeal.Val.final17 m c).symm)
  simp only [e0, e1, e2, e3, e4, e5, e6, e7, e8, e9, e10, e11, e12, e13, e14, e15, e16]

/-- Result 1 is the same array on both sides when the arguments agree. -/
theorem out_eq18 (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ)
    (h : OutAgree m m') (c : Dev Cert.RowsOutIdeal.nD) :
    (Cert.RefOutIdeal.Gen.dats m' 0 c).arrAt 18 Cert.RefOutIdeal.cfg0.N = (Cert.RowsOutIdeal.Gen.dats m 0 c).arrAt 18 Cert.RowsOutIdeal.cfg0.N := by
  obtain ⟨e0, e1, e2, e3, e4, e5, e6, e7, e8, e9, e10, e11, e12, e13, e14, e15, e16⟩ := out_args m m' h c
  refine (Cert.RefOutIdeal.Val.final18 m' c).trans (Eq.trans ?_ (Cert.RowsOutIdeal.Val.final18 m c).symm)
  simp only [e0, e1, e2, e3, e4, e5, e6, e7, e8, e9, e10, e11, e12, e13, e14, e15, e16]

/-- Result 2 is the same array on both sides when the arguments agree. -/
theorem out_eq19 (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ)
    (h : OutAgree m m') (c : Dev Cert.RowsOutIdeal.nD) :
    (Cert.RefOutIdeal.Gen.dats m' 0 c).arrAt 19 Cert.RefOutIdeal.cfg0.N = (Cert.RowsOutIdeal.Gen.dats m 0 c).arrAt 19 Cert.RowsOutIdeal.cfg0.N := by
  obtain ⟨e0, e1, e2, e3, e4, e5, e6, e7, e8, e9, e10, e11, e12, e13, e14, e15, e16⟩ := out_args m m' h c
  refine (Cert.RefOutIdeal.Val.final19 m' c).trans (Eq.trans ?_ (Cert.RowsOutIdeal.Val.final19 m c).symm)
  simp only [e0, e1, e2, e3, e4, e5, e6, e7, e8, e9, e10, e11, e12, e13, e14, e15, e16]

/-- Result 3 is the same array on both sides when the arguments agree. -/
theorem out_eq20 (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ)
    (h : OutAgree m m') (c : Dev Cert.RowsOutIdeal.nD) :
    (Cert.RefOutIdeal.Gen.dats m' 0 c).arrAt 20 Cert.RefOutIdeal.cfg0.N = (Cert.RowsOutIdeal.Gen.dats m 0 c).arrAt 20 Cert.RowsOutIdeal.cfg0.N := by
  obtain ⟨e0, e1, e2, e3, e4, e5, e6, e7, e8, e9, e10, e11, e12, e13, e14, e15, e16⟩ := out_args m m' h c
  refine (Cert.RefOutIdeal.Val.final20 m' c).trans (Eq.trans ?_ (Cert.RowsOutIdeal.Val.final20 m c).symm)
  simp only [e0, e1, e2, e3, e4, e5, e6, e7, e8, e9, e10, e11, e12, e13, e14, e15, e16]

/-- Result 4 is the same array on both sides when the arguments agree. -/
theorem out_eq21 (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ)
    (h : OutAgree m m') (c : Dev Cert.RowsOutIdeal.nD) :
    (Cert.RefOutIdeal.Gen.dats m' 0 c).arrAt 21 Cert.RefOutIdeal.cfg0.N = (Cert.RowsOutIdeal.Gen.dats m 0 c).arrAt 21 Cert.RowsOutIdeal.cfg0.N := by
  obtain ⟨e0, e1, e2, e3, e4, e5, e6, e7, e8, e9, e10, e11, e12, e13, e14, e15, e16⟩ := out_args m m' h c
  refine (Cert.RefOutIdeal.Val.final21 m' c).trans (Eq.trans ?_ (Cert.RowsOutIdeal.Val.final21 m c).symm)
  simp only [e0, e1, e2, e3, e4, e5, e6, e7, e8, e9, e10, e11, e12, e13, e14, e15, e16]
  exact funext fun j => congrArg (HAdd.hAdd _) (congrFun (congrFun (congrFun e1 (j 0)) (j 1)) (j 2))

/-- Result 5 is the same array on both sides when the arguments agree. -/
theorem out_eq22 (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ)
    (h : OutAgree m m') (c : Dev Cert.RowsOutIdeal.nD) :
    (Cert.RefOutIdeal.Gen.dats m' 0 c).arrAt 22 Cert.RefOutIdeal.cfg0.N = (Cert.RowsOutIdeal.Gen.dats m 0 c).arrAt 22 Cert.RowsOutIdeal.cfg0.N := by
  obtain ⟨e0, e1, e2, e3, e4, e5, e6, e7, e8, e9, e10, e11, e12, e13, e14, e15, e16⟩ := out_args m m' h c
  refine (Cert.RefOutIdeal.Val.final22 m' c).trans (Eq.trans ?_ (Cert.RowsOutIdeal.Val.final22 m c).symm)
  simp only [e0, e1, e2, e3, e4, e5, e6, e7, e8, e9, e10, e11, e12, e13, e14, e15, e16]

/-- Result 6 is the same array on both sides when the arguments agree. -/
theorem out_eq23 (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ)
    (h : OutAgree m m') (c : Dev Cert.RowsOutIdeal.nD) :
    (Cert.RefOutIdeal.Gen.dats m' 0 c).arrAt 23 Cert.RefOutIdeal.cfg0.N = (Cert.RowsOutIdeal.Gen.dats m 0 c).arrAt 23 Cert.RowsOutIdeal.cfg0.N := by
  obtain ⟨e0, e1, e2, e3, e4, e5, e6, e7, e8, e9, e10, e11, e12, e13, e14, e15, e16⟩ := out_args m m' h c
  refine (Cert.RefOutIdeal.Val.final23 m' c).trans (Eq.trans ?_ (Cert.RowsOutIdeal.Val.final23 m c).symm)
  simp only [e0, e1, e2, e3, e4, e5, e6, e7, e8, e9, e10, e11, e12, e13, e14, e15, e16]

/-- Result 7 is the same array on both sides when the arguments agree. -/
theorem out_eq24 (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ)
    (h : OutAgree m m') (c : Dev Cert.RowsOutIdeal.nD) :
    (Cert.RefOutIdeal.Gen.dats m' 0 c).arrAt 24 Cert.RefOutIdeal.cfg0.N = (Cert.RowsOutIdeal.Gen.dats m 0 c).arrAt 24 Cert.RowsOutIdeal.cfg0.N := by
  obtain ⟨e0, e1, e2, e3, e4, e5, e6, e7, e8, e9, e10, e11, e12, e13, e14, e15, e16⟩ := out_args m m' h c
  refine (Cert.RefOutIdeal.Val.final24 m' c).trans (Eq.trans ?_ (Cert.RowsOutIdeal.Val.final24 m c).symm)
  simp only [e0, e1, e2, e3, e4, e5, e6, e7, e8, e9, e10, e11, e12, e13, e14, e15, e16]

/-- Result 8 is the same array on both sides when the arguments agree. -/
theorem out_eq25 (m : (ℓ : Loc Cert.RowsOutIdeal.nD Cert.RowsOutIdeal.τ Cert.RowsOutIdeal.sig) → Buf (Elt Ideal) ℓ) (m' : (ℓ : Loc Cert.RefOutIdeal.nD Cert.RefOutIdeal.τ Cert.RefOutIdeal.sig) → Buf (Elt Ideal) ℓ)
    (h : OutAgree m m') (c : Dev Cert.RowsOutIdeal.nD) :
    (Cert.RefOutIdeal.Gen.dats m' 0 c).arrAt 25 Cert.RefOutIdeal.cfg0.N = (Cert.RowsOutIdeal.Gen.dats m 0 c).arrAt 25 Cert.RowsOutIdeal.cfg0.N := by
  obtain ⟨e0, e1, e2, e3, e4, e5, e6, e7, e8, e9, e10, e11, e12, e13, e14, e15, e16⟩ := out_args m m' h c
  refine (Cert.RefOutIdeal.Val.final25 m' c).trans (Eq.trans ?_ (Cert.RowsOutIdeal.Val.final25 m c).symm)
  simp only [e0, e1, e2, e3, e4, e5, e6, e7, e8, e9, e10, e11, e12, e13, e14, e15, e16]

theorem algebraicOut : Cert.algebraic_RowsOutIdeal_RefOutIdeal := by
  intro m g m' g' _ hagree

  refine ⟨fun c => (Cert.RowsOutIdeal.Gen.dats m 0 c).arrAt 17 Cert.RowsOutIdeal.cfg0.N, fun c => (Cert.RowsOutIdeal.Gen.dats m 0 c).arrAt 18 Cert.RowsOutIdeal.cfg0.N, fun c => (Cert.RowsOutIdeal.Gen.dats m 0 c).arrAt 19 Cert.RowsOutIdeal.cfg0.N, fun c => (Cert.RowsOutIdeal.Gen.dats m 0 c).arrAt 20 Cert.RowsOutIdeal.cfg0.N, fun c => (Cert.RowsOutIdeal.Gen.dats m 0 c).arrAt 21 Cert.RowsOutIdeal.cfg0.N, fun c => (Cert.RowsOutIdeal.Gen.dats m 0 c).arrAt 22 Cert.RowsOutIdeal.cfg0.N, fun c => (Cert.RowsOutIdeal.Gen.dats m 0 c).arrAt 23 Cert.RowsOutIdeal.cfg0.N, fun c => (Cert.RowsOutIdeal.Gen.dats m 0 c).arrAt 24 Cert.RowsOutIdeal.cfg0.N, fun c => (Cert.RowsOutIdeal.Gen.dats m 0 c).arrAt 25 Cert.RowsOutIdeal.cfg0.N, Cert.RowsOutIdeal.Value.run_blocks m g, ?_⟩
  refine (θ_run _ _ _).mono (fun r hr c => ?_) (Cert.RefOutIdeal.Value.run_blocks m' g')
  obtain ⟨r0, r1, r2, r3, r4, r5, r6, r7, r8, hargs⟩ := hr c
  exact ⟨r0.trans (out_eq17 m m' hagree c), r1.trans (out_eq18 m m' hagree c), r2.trans (out_eq19 m m' hagree c), r3.trans (out_eq20 m m' hagree c), r4.trans (out_eq21 m m' hagree c), r5.trans (out_eq22 m m' hagree c), r6.trans (out_eq23 m m' hagree c), r7.trans (out_eq24 m m' hagree c), r8.trans (out_eq25 m m' hagree c), hargs⟩

end Cert.Proof

end
-- ==== Proof.lean ====
module

public import proofs.«01_k».proof.Defs
public import proofs.«01_k».proof.Proof.Gen.RowsIn
public import proofs.«01_k».proof.Proof.Gen.RowsIn.Skeleton
public import proofs.«01_k».proof.Proof.Gen.RowsIn.Launch
public import proofs.«01_k».proof.Proof.Gen.RowsIn.Points
public import proofs.«01_k».proof.Proof.Gen.RowsIn.Frame
public import proofs.«01_k».proof.Proof.Gen.RowsInIdeal
public import proofs.«01_k».proof.Proof.Gen.RowsInIdeal.Skeleton
public import proofs.«01_k».proof.Proof.Gen.RowsInIdeal.Launch
public import proofs.«01_k».proof.Proof.Gen.RowsInIdeal.Points
public import proofs.«01_k».proof.Proof.Gen.RowsInIdeal.Frame
public import proofs.«01_k».proof.Proof.Gen.RowsInIdeal.Value
public import proofs.«01_k».proof.Proof.Gen.RefInIdeal
public import proofs.«01_k».proof.Proof.Gen.RefInIdeal.Skeleton
public import proofs.«01_k».proof.Proof.Gen.RefInIdeal.Launch
public import proofs.«01_k».proof.Proof.Gen.RefInIdeal.Points
public import proofs.«01_k».proof.Proof.Gen.RefInIdeal.Frame
public import proofs.«01_k».proof.Proof.Gen.RefInIdeal.Value
public import proofs.«01_k».proof.Proof.Gen.RowsOut
public import proofs.«01_k».proof.Proof.Gen.RowsOut.Skeleton
public import proofs.«01_k».proof.Proof.Gen.RowsOut.Launch
public import proofs.«01_k».proof.Proof.Gen.RowsOut.Points
public import proofs.«01_k».proof.Proof.Gen.RowsOut.Frame
public import proofs.«01_k».proof.Proof.Gen.RowsOutIdeal
public import proofs.«01_k».proof.Proof.Gen.RowsOutIdeal.Skeleton
public import proofs.«01_k».proof.Proof.Gen.RowsOutIdeal.Launch
public import proofs.«01_k».proof.Proof.Gen.RowsOutIdeal.Points
public import proofs.«01_k».proof.Proof.Gen.RowsOutIdeal.Frame
public import proofs.«01_k».proof.Proof.Gen.RowsOutIdeal.Value
public import proofs.«01_k».proof.Proof.Gen.RefOutIdeal
public import proofs.«01_k».proof.Proof.Gen.RefOutIdeal.Skeleton
public import proofs.«01_k».proof.Proof.Gen.RefOutIdeal.Launch
public import proofs.«01_k».proof.Proof.Gen.RefOutIdeal.Points
public import proofs.«01_k».proof.Proof.Gen.RefOutIdeal.Frame
public import proofs.«01_k».proof.Proof.Gen.RefOutIdeal.Value
public import proofs.«01_k».proof.Proof.Gen.Pre_lengths_nonneg
public import proofs.«01_k».proof.Proof.AlgIn
public import proofs.«01_k».proof.Proof.AlgOut
public import Idealize.ShloMosaic.Adequacy
public import Idealize.ShloMosaic.Init

@[expose] public section

noncomputable section

namespace Cert.Proof

open Idealize.ShloMosaic Idealize.SL.Sem Cert.RowsIn

theorem claim : Cert.Claim := ⟨Cert.RowsIn.Gen.facts, Cert.RowsInIdeal.Gen.facts, Cert.RefInIdeal.Gen.facts, Cert.RowsOut.Gen.facts, Cert.RowsOutIdeal.Gen.facts, Cert.RefOutIdeal.Gen.facts, Cert.Pre_lengths_nonneg.Gen.facts,
  fun m ρ _ => Cert.RowsIn.Gen.frame m ρ,
  fun m ρ _ => Cert.RowsInIdeal.Gen.frame m ρ, fun m ρ _ => Cert.RowsInIdeal.Gen.frame m ρ,
  fun m ρ _ => Cert.RefInIdeal.Gen.frame m ρ, fun m ρ _ => Cert.RefInIdeal.Gen.frame m ρ,
  fun m ρ _ => Cert.RowsOut.Gen.frame m ρ, fun m ρ _ => Cert.RowsOutIdeal.Gen.frame m ρ, fun m ρ _ => Cert.RefOutIdeal.Gen.frame m ρ,
  trivial, algebraicIn, trivial, algebraicOut⟩

end Cert.Proof

end
